-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v2) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)) (v2 : (c : Dev Cert.Kernel3Ideal.nD) → Buf (Elt Ideal) ((c.tc : Thread Cert.Kernel3Ideal.nD Cert.Kernel3Ideal.τ).loc Cert.Kernel3Ideal.main_v6_2)) (v3 : (c : Dev Cert.Kernel3Ideal.nD) → Buf (Elt Ideal) ((c.tc : Thread Cert.Kernel3Ideal.nD Cert.Kernel3Ideal.τ).loc Cert.Kernel3Ideal.main_v6_3)) (v4 : (c : Dev Cert.Kernel3Ideal.nD) → Buf (Elt Ideal) ((c.tc : Thread Cert.Kernel3Ideal.nD Cert.Kernel3Ideal.τ).loc Cert.Kernel3Ideal.main_v6_4)) (v5 : (c : Dev Cert.Kernel3Ideal.nD) → Buf (Elt Ideal) ((c.tc : Thread Cert.Kernel3Ideal.nD Cert.Kernel3Ideal.τ).loc Cert.Kernel3Ideal.main_v6_5)) (v6 : (c : Dev Cert.Kernel3Ideal.nD) → Buf (Elt Ideal) ((c.tc : Thread Cert.Kernel3Ideal.nD Cert.Kernel3Ideal.τ).loc Cert.Kernel3Ideal.main_v6_6)) (v7 : (c : Dev Cert.Kernel3Ideal.nD) → Buf (Elt Ideal) ((c.tc : Thread Cert.Kernel3Ideal.nD Cert.Kernel3Ideal.τ).loc Cert.Kernel3Ideal.main_v6_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_v6_2) = v2 c
          ∧ r.2.mem ((c.tc : Thread Cert.Kernel3Ideal.nD Cert.Kernel3Ideal.τ).loc Cert.Kernel3Ideal.main_v6_3) = v3 c
          ∧ r.2.mem ((c.tc : Thread Cert.Kernel3Ideal.nD Cert.Kernel3Ideal.τ).loc Cert.Kernel3Ideal.main_v6_4) = v4 c
          ∧ r.2.mem ((c.tc : Thread Cert.Kernel3Ideal.nD Cert.Kernel3Ideal.τ).loc Cert.Kernel3Ideal.main_v6_5) = v5 c
          ∧ r.2.mem ((c.tc : Thread Cert.Kernel3Ideal.nD Cert.Kernel3Ideal.τ).loc Cert.Kernel3Ideal.main_v6_6) = v6 c
          ∧ r.2.mem ((c.tc : Thread Cert.Kernel3Ideal.nD Cert.Kernel3Ideal.τ).loc Cert.Kernel3Ideal.main_v6_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_v67) = v2 c
          ∧ r.2.mem ((c.tc : Thread Cert.Reference3Ideal.nD Cert.Reference3Ideal.τ).loc Cert.Reference3Ideal.main_v69) = v3 c
          ∧ r.2.mem ((c.tc : Thread Cert.Reference3Ideal.nD Cert.Reference3Ideal.τ).loc Cert.Reference3Ideal.main_v70) = v4 c
          ∧ r.2.mem ((c.tc : Thread Cert.Reference3Ideal.nD Cert.Reference3Ideal.τ).loc Cert.Reference3Ideal.main_v71) = v5 c
          ∧ r.2.mem ((c.tc : Thread Cert.Reference3Ideal.nD Cert.Reference3Ideal.τ).loc Cert.Reference3Ideal.main_v72) = v6 c
          ∧ r.2.mem ((c.tc : Thread Cert.Reference3Ideal.nD Cert.Reference3Ideal.τ).loc Cert.Reference3Ideal.main_v73) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S16x2048x1024 : Shape := ⟨3, ![16, 2048, 1024]⟩
abbrev S16x8x1024 : Shape := ⟨3, ![16, 8, 1024]⟩
abbrev S_ : Shape := ⟨0, ![]⟩

class Facts : Prop where
  bcast_S_S16x2048x1024 : S_.BroadcastsInDim S16x2048x1024 (![] : Fin 0 → Fin S16x2048x1024.rank)
  bitsLt_bf16_f32 : FTy.bits .bf16 < FTy.bits .f32
  bcast_S_S16x8x1024 : S_.BroadcastsInDim S16x8x1024 (![] : Fin 0 → Fin S16x8x1024.rank)

variable [Facts]

def fn {F : FTy → Type} [FloatOps F] (main_arg0 : FVec F S16x2048x1024 .f32) (main_arg1 : FVec F S16x2048x1024 .bf16) (main_arg2 : FVec F S16x2048x1024 .bf16) (main_arg3 : FVec F S16x8x1024 .f32) : IVec S16x2048x1024 1 × IVec S16x2048x1024 1 × IVec S16x8x1024 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_v3 : FVec F S16x2048x1024 .f32 := (extf .f32 · bitsLt_bf16_f32) main_arg1
  let main_v4 : FVec F S16x2048x1024 .f32 := Host.absf main_v3
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_v7 : FVec F S16x8x1024 .f32 := Host.absf main_arg3
  let main_cst_1 : FVec F S_ .f32 := constant S_ .f32 0x7F800000#32
  let main_v8 : FVec F S16x8x1024 .f32 := broadcastInDim S16x8x1024 ![] bcast_S_S16x8x1024 main_cst_1
  let main_v9 : IVec S16x8x1024 1 := cmpf .olt main_v7 main_v8
  (main_v2, main_v6, main_v9)
-- ==== Kernel.lean ====
abbrev S16x2048x1024 : Shape := ⟨3, ![16, 2048, 1024]⟩
abbrev S16x8x1024 : Shape := ⟨3, ![16, 8, 1024]⟩
abbrev S8 : Shape := ⟨1, ![8]⟩
abbrev S_ : Shape := ⟨0, ![]⟩
abbrev S8x1x1 : Shape := ⟨3, ![8, 1, 1]⟩
abbrev S8x8x128 : Shape := ⟨3, ![8, 8, 128]⟩
abbrev S1x8x128 : Shape := ⟨3, ![1, 8, 128]⟩
abbrev S1x2048x128 : Shape := ⟨3, ![1, 2048, 128]⟩
abbrev S1x1x1 : Shape := ⟨3, ![1, 1, 1]⟩
abbrev S1x1 : Shape := ⟨2, ![1, 1]⟩
abbrev S2048x128 : Shape := ⟨2, ![2048, 128]⟩
abbrev S2048x256 : Shape := ⟨2, ![2048, 256]⟩
abbrev S8x128 : Shape := ⟨2, ![8, 128]⟩
abbrev S120x128 : Shape := ⟨2, ![120, 128]⟩
abbrev S128x128 : Shape := ⟨2, ![128, 128]⟩
abbrev S1792x128 : Shape := ⟨2, ![1792, 128]⟩
abbrev S1792x256 : Shape := ⟨2, ![1792, 256]⟩
abbrev S128x256 : Shape := ⟨2, ![128, 256]⟩
abbrev S128x1792 : Shape := ⟨2, ![128, 1792]⟩
abbrev S8x1792 : Shape := ⟨2, ![8, 1792]⟩
abbrev S1x1792 : Shape := ⟨2, ![1, 1792]⟩
abbrev S1792 : Shape := ⟨1, ![1792]⟩
abbrev S120x1792 : Shape := ⟨2, ![120, 1792]⟩
abbrev S256x128 : Shape := ⟨2, ![256, 128]⟩
abbrev S256x256 : Shape := ⟨2, ![256, 256]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S1x256x128 : Shape := ⟨3, ![1, 256, 128]⟩
abbrev S768x256 : Shape := ⟨2, ![768, 256]⟩
abbrev S256x768 : Shape := ⟨2, ![256, 768]⟩
abbrev S1024x256 : Shape := ⟨2, ![1024, 256]⟩
abbrev S256x1024 : Shape := ⟨2, ![256, 1024]⟩
abbrev S512x128 : Shape := ⟨2, ![512, 128]⟩
abbrev S1280x256 : Shape := ⟨2, ![1280, 256]⟩
abbrev S256x1280 : Shape := ⟨2, ![256, 1280]⟩
abbrev S768x128 : Shape := ⟨2, ![768, 128]⟩
abbrev S1536x256 : Shape := ⟨2, ![1536, 256]⟩
abbrev S256x1536 : Shape := ⟨2, ![256, 1536]⟩
abbrev S1024x128 : Shape := ⟨2, ![1024, 128]⟩
abbrev S256x1792 : Shape := ⟨2, ![256, 1792]⟩
abbrev S1280x128 : Shape := ⟨2, ![1280, 128]⟩
abbrev S256x2048 : Shape := ⟨2, ![256, 2048]⟩
abbrev S1536x128 : Shape := ⟨2, ![1536, 128]⟩

abbrev nBuf : Space → Nat
  | .hbm => 21
  | .vmem => 12
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .bf16⟩
  | .hbm, ⟨2, _⟩ => ⟨S16x2048x1024, .bf16⟩
  | .hbm, ⟨3, _⟩ => ⟨S16x8x1024, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S8x1x1, .f32⟩
  | .hbm, ⟨19, _⟩ => ⟨S8x8x128, .f32⟩
  | .hbm, ⟨20, _⟩ => ⟨S16x2048x1024, .f32⟩
  | .local _ .vmem, ⟨0, _⟩ => ⟨S1x8x128, .f32⟩
  | .local _ .vmem, ⟨1, _⟩ => ⟨S1x8x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x8x128, .f32⟩
  | .local _ .vmem, ⟨9, _⟩ => ⟨S1x8x128, .f32⟩
  | .local _ .vmem, ⟨10, _⟩ => ⟨S1x2048x128, .f32⟩
  | .local _ .vmem, ⟨11, _⟩ => ⟨S1x2048x128, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16x2048x1024 : Shape := ⟨3, ![16, 2048, 1024]⟩
abbrev S16x8x1024 : Shape := ⟨3, ![16, 8, 1024]⟩
abbrev S8 : Shape := ⟨1, ![8]⟩
abbrev S_ : Shape := ⟨0, ![]⟩
abbrev S16x2048x8x128 : Shape := ⟨4, ![16, 2048, 8, 128]⟩
abbrev S16x8x2048x128 : Shape := ⟨4, ![16, 8, 2048, 128]⟩
abbrev S16x8x256x8x128 : Shape := ⟨5, ![16, 8, 256, 8, 128]⟩
abbrev S16x8x8x128 : Shape := ⟨4, ![16, 8, 8, 128]⟩
abbrev S2048 : Shape := ⟨1, ![2048]⟩
abbrev S16x8x2048x8 : Shape := ⟨4, ![16, 8, 2048, 8]⟩
abbrev S1x8 : Shape := ⟨2, ![1, 8]⟩
abbrev S2048x1 : Shape := ⟨2, ![2048, 1]⟩
abbrev S2048x8 : Shape := ⟨2, ![2048, 8]⟩
abbrev S16x8x2048x3 : Shape := ⟨4, ![16, 8, 2048, 3]⟩
abbrev S3 : Shape := ⟨1, ![3]⟩
abbrev S1x3 : Shape := ⟨2, ![1, 3]⟩
abbrev S2048x3 : Shape := ⟨2, ![2048, 3]⟩
abbrev S16x8x8x256x128 : Shape := ⟨5, ![16, 8, 8, 256, 128]⟩
abbrev S16x8x2048x3x1 : Shape := ⟨5, ![16, 8, 2048, 3, 1]⟩
abbrev S16x8x2048x3x256x128 : Shape := ⟨6, ![16, 8, 2048, 3, 256, 128]⟩
abbrev S256 : Shape := ⟨1, ![256]⟩
abbrev S1x1x1x1x256 : Shape := ⟨5, ![1, 1, 1, 1, 256]⟩
abbrev S16x8x2048x3x256 : Shape := ⟨5, ![16, 8, 2048, 3, 256]⟩
abbrev S16x8x8x256x256 : Shape := ⟨5, ![16, 8, 8, 256, 256]⟩
abbrev S8x1x1x1 : Shape := ⟨4, ![8, 1, 1, 1]⟩
abbrev S256x1 : Shape := ⟨2, ![256, 1]⟩
abbrev S1x256 : Shape := ⟨2, ![1, 256]⟩
abbrev S256x256 : Shape := ⟨2, ![256, 256]⟩
abbrev S1x1x256x256 : Shape := ⟨4, ![1, 1, 256, 256]⟩
abbrev S8x1x256x256 : Shape := ⟨4, ![8, 1, 256, 256]⟩
abbrev S1x8x1x256x256 : Shape := ⟨5, ![1, 8, 1, 256, 256]⟩
abbrev S16x8x2048x256 : Shape := ⟨4, ![16, 8, 2048, 256]⟩
abbrev S2048x1x1 : Shape := ⟨3, ![2048, 1, 1]⟩
abbrev S1x1x2048x1x1 : Shape := ⟨5, ![1, 1, 2048, 1, 1]⟩
abbrev S1x8x1x1x1 : Shape := ⟨5, ![1, 8, 1, 1, 1]⟩
abbrev S2048x3x1 : Shape := ⟨3, ![2048, 3, 1]⟩
abbrev S16x8x2048x768 : Shape := ⟨4, ![16, 8, 2048, 768]⟩
abbrev S16x8x2048x1024 : Shape := ⟨4, ![16, 8, 2048, 1024]⟩
abbrev S16x8x2048 : Shape := ⟨3, ![16, 8, 2048]⟩
abbrev S16x8x2048x1 : Shape := ⟨4, ![16, 8, 2048, 1]⟩

abbrev nBuf : Space → Nat
  | .hbm => 141
  | .vmem => 0
  | .smem => 0
  | _ => 0

abbrev hbmTy0_0 (i : Nat) : BufTy := match i % 128 with
  | 0 => ⟨S16x2048x1024, .f32⟩
  | 1 => ⟨S16x2048x1024, .bf16⟩
  | 2 => ⟨S16x2048x1024, .bf16⟩
  | 3 => ⟨S16x8x1024, .f32⟩
  | 4 => ⟨S8, .f32⟩
  | 5 => ⟨S_, .f32⟩
  | 6 => ⟨S8, .f32⟩
  | 7 => ⟨S8, .f32⟩
  | 8 => ⟨S_, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S8, .f32⟩
  | 18 => ⟨S16x2048x8x128, .f32⟩
  | 19 => ⟨S16x8x2048x128, .f32⟩
  | 20 => ⟨S16x2048x1024, .f32⟩
  | 21 => ⟨S16x8x256x8x128, .f32⟩
  | 22 => ⟨S16x2048x1024, .f32⟩
  | 23 => ⟨S16x8x256x8x128, .f32⟩
  | 24 => ⟨S16x8x8x128, .f32⟩
  | 25 => ⟨S2048, .i32⟩
  | 26 => ⟨S16x8x2048x8, .f32⟩
  | 27 => ⟨S_, .i32⟩
  | 28 => ⟨S2048, .i32⟩
  | 29 => ⟨S2048, .i32⟩
  | 30 => ⟨S8, .i32⟩
  | 31 => ⟨S1x8, .i32⟩
  | 32 => ⟨S2048x1, .i32⟩
  | 33 => ⟨S2048x8, .i32⟩
  | 34 => ⟨S2048x8, .i32⟩
  | 35 => ⟨S2048x8, .i1⟩
  | 36 => ⟨S_, .f32⟩
  | 37 => ⟨S_, .f32⟩
  | 38 => ⟨S16x8x2048x8, .i1⟩
  | 39 => ⟨S16x8x2048x8, .f32⟩
  | 40 => ⟨S16x8x2048x8, .f32⟩
  | 41 => ⟨S16x8x2048x3, .f32⟩
  | 42 => ⟨S16x8x2048x3, .i32⟩
  | 43 => ⟨S3, .i32⟩
  | 44 => ⟨S1x3, .i32⟩
  | 45 => ⟨S2048x1, .i32⟩
  | 46 => ⟨S2048x3, .i32⟩
  | 47 => ⟨S2048x3, .i32⟩
  | 48 => ⟨S2048x3, .i1⟩
  | 49 => ⟨S16x8x8x256x128, .f32⟩
  | 50 => ⟨S16x8x8x256x128, .f32⟩
  | 51 => ⟨S16x8x2048x3x1, .i32⟩
  | 52 => ⟨S16x8x2048x3x256x128, .f32⟩
  | 53 => ⟨S16x8x2048x3x1, .i32⟩
  | 54 => ⟨S16x8x2048x3x256x128, .f32⟩
  | 55 => ⟨S16x8x2048x3x1, .i32⟩
  | 56 => ⟨S_, .i32⟩
  | 57 => ⟨S16x8x2048x3x1, .i32⟩
  | 58 => ⟨S16x8x2048x3x1, .i32⟩
  | 59 => ⟨S256, .i32⟩
  | 60 => ⟨S1x1x1x1x256, .i32⟩
  | 61 => ⟨S16x8x2048x3x256, .i32⟩
  | 62 => ⟨S16x8x2048x3x256, .i32⟩
  | 63 => ⟨S16x8x2048x3x256, .i32⟩
  | 64 => ⟨S16x8x8x256x128, .f32⟩
  | 65 => ⟨S256, .i32⟩
  | 66 => ⟨S16x8x8x256x256, .f32⟩
  | 67 => ⟨S_, .f32⟩
  | 68 => ⟨S16x8x8x256x256, .f32⟩
  | 69 => ⟨S16x8x8x256x256, .f32⟩
  | 70 => ⟨S8x1x1x1, .f32⟩
  | 71 => ⟨S256x1, .i32⟩
  | 72 => ⟨S1x256, .i32⟩
  | 73 => ⟨S256x256, .i32⟩
  | 74 => ⟨S256x256, .i32⟩
  | 75 => ⟨S256x256, .i32⟩
  | 76 => ⟨S256x256, .f32⟩
  | 77 => ⟨S1x1x256x256, .f32⟩
  | 78 => ⟨S8x1x256x256, .f32⟩
  | 79 => ⟨S8x1x256x256, .f32⟩
  | 80 => ⟨S8x1x256x256, .f32⟩
  | 81 => ⟨S1x8x1x256x256, .f32⟩
  | 82 => ⟨S16x8x8x256x256, .f32⟩
  | 83 => ⟨S16x8x8x256x256, .f32⟩
  | 84 => ⟨S1x256, .i32⟩
  | 85 => ⟨S256x1, .i32⟩
  | 86 => ⟨S256x256, .i32⟩
  | 87 => ⟨S256x256, .i32⟩
  | 88 => ⟨S256x256, .i1⟩
  | 89 => ⟨S_, .f32⟩
  | 90 => ⟨S_, .f32⟩
  | 91 => ⟨S16x8x8x256x256, .i1⟩
  | 92 => ⟨S16x8x8x256x256, .f32⟩
  | 93 => ⟨S16x8x8x256x256, .f32⟩
  | 94 => ⟨S16x8x2048x256, .f32⟩
  | 95 => ⟨S16x8x2048x3x256, .f32⟩
  | 96 => ⟨S_, .f32⟩
  | 97 => ⟨S16x8x2048x3x256, .f32⟩
  | 98 => ⟨S16x8x2048x3x256, .f32⟩
  | 99 => ⟨S8x1x1x1, .f32⟩
  | 100 => ⟨S2048x1x1, .i32⟩
  | 101 => ⟨S1x1x2048x1x1, .i32⟩
  | 102 => ⟨S16x8x2048x3x256, .i32⟩
  | 103 => ⟨S16x8x2048x3x256, .i32⟩
  | 104 => ⟨S16x8x2048x3x256, .f32⟩
  | 105 => ⟨S1x8x1x1x1, .f32⟩
  | 106 => ⟨S16x8x2048x3x256, .f32⟩
  | 107 => ⟨S16x8x2048x3x256, .f32⟩
  | 108 => ⟨S16x8x2048x3x256, .f32⟩
  | 109 => ⟨S2048x3x1, .i1⟩
  | 110 => ⟨S_, .f32⟩
  | 111 => ⟨S_, .f32⟩
  | 112 => ⟨S16x8x2048x3x256, .i1⟩
  | 113 => ⟨S16x8x2048x3x256, .f32⟩
  | 114 => ⟨S16x8x2048x3x256, .f32⟩
  | 115 => ⟨S16x8x2048x768, .f32⟩
  | 116 => ⟨S16x8x2048x1024, .f32⟩
  | 117 => ⟨S_, .f32⟩
  | 118 => ⟨S16x8x2048, .f32⟩
  | 119 => ⟨S_, .f32⟩
  | 120 => ⟨S16x8x2048, .f32⟩
  | 121 => ⟨S16x8x2048, .f32⟩
  | 122 => ⟨S16x8x2048x1, .f32⟩
  | 123 => ⟨S16x8x2048x1024, .f32⟩
  | 124 => ⟨S16x8x2048x1024, .f32⟩
  | 125 => ⟨S16x8x2048x1024, .f32⟩
  | 126 => ⟨S_, .f32⟩
  | 127 => ⟨S16x8x2048, .f32⟩
  | _ => ⟨S16x2048x1024, .f32⟩

abbrev hbmTy0_1 (i : Nat) : BufTy := match i % 128 with
  | 0 => ⟨S16x8x2048x1, .f32⟩
  | 1 => ⟨S16x8x2048x1024, .f32⟩
  | 2 => ⟨S16x8x2048x1024, .f32⟩
  | 3 => ⟨S16x8x2048x768, .f32⟩
  | 4 => ⟨S16x8x2048x3x256, .f32⟩
  | 5 => ⟨S16x8x2048x128, .f32⟩
  | 6 => ⟨S16x8x2048x256, .f32⟩
  | 7 => ⟨S16x8x8x256x256, .f32⟩
  | 8 => ⟨S16x8x8x256x128, .f32⟩
  | 9 => ⟨S16x8x2048x128, .f32⟩
  | 10 => ⟨S16x8x2048x128, .f32⟩
  | 11 => ⟨S16x2048x8x128, .f32⟩
  | 12 => ⟨S16x2048x1024, .f32⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v27 : Ref sig .tc := ⟨.hbm, 40, rfl⟩
abbrev main_values : Ref sig .tc := ⟨.hbm, 41, rfl⟩
abbrev main_indices : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_cst_6 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_7 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_8 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_9 : Ref sig .tc := ⟨.hbm, 117, rfl⟩
abbrev main_v91 : Ref sig .tc := ⟨.hbm, 118, rfl⟩
abbrev main_cst_10 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_11 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩

abbrev nD : Nat := 1
abbrev τ : Topo := Topo.v7x

variable {F : FTy → Type} [FloatOps F]
-- ==== Kernel2.lean ====
abbrev S32768x5632 : Shape := ⟨2, ![32768, 5632]⟩
abbrev S32768x2048 : Shape := ⟨2, ![32768, 2048]⟩
abbrev S5632x2048 : Shape := ⟨2, ![5632, 2048]⟩
abbrev S512x5632 : Shape := ⟨2, ![512, 5632]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S32768x5632, .bf16⟩
  | .hbm, ⟨1, _⟩ => ⟨S32768x2048, .f32⟩
  | .hbm, ⟨2, _⟩ => ⟨S5632x2048, .f32⟩
  | .hbm, ⟨3, _⟩ => ⟨S5632x2048, .bf16⟩
  | .hbm, ⟨4, _⟩ => ⟨S32768x2048, .f32⟩
  | .local _ .vmem, ⟨0, _⟩ => ⟨S512x5632, .bf16⟩
  | .local _ .vmem, ⟨1, _⟩ => ⟨S512x5632, .bf16⟩
  | .local _ .vmem, ⟨2, _⟩ => ⟨S512x2048, .f32⟩
  | .local _ .vmem, ⟨3, _⟩ => ⟨S512x2048, .f32⟩
  | .local _ .vmem, ⟨4, _⟩ => ⟨S5632x2048, .bf16⟩
  | .local _ .vmem, ⟨5, _⟩ => ⟨S512x2048, .f32⟩
  | .local _ .vmem, ⟨6, _⟩ => ⟨S512x2048, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S32768x5632 : Shape := ⟨2, ![32768, 5632]⟩
abbrev S32768x2048 : Shape := ⟨2, ![32768, 2048]⟩
abbrev S5632x2048 : Shape := ⟨2, ![5632, 2048]⟩

abbrev nBuf : Space → Nat
  | .hbm => 6
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S32768x2048, .f32⟩
  | .hbm, ⟨2, _⟩ => ⟨S5632x2048, .f32⟩
  | .hbm, ⟨3, _⟩ => ⟨S32768x5632, .f32⟩
  | .hbm, ⟨4, _⟩ => ⟨S32768x2048, .f32⟩
  | .hbm, ⟨5, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel3.lean ====
abbrev S16x2048x2048 : Shape := ⟨3, ![16, 2048, 2048]⟩
abbrev S2048 : Shape := ⟨1, ![2048]⟩
abbrev S2048x4096 : Shape := ⟨2, ![2048, 4096]⟩
abbrev S128 : Shape := ⟨1, ![128]⟩
abbrev S32768x2048 : Shape := ⟨2, ![32768, 2048]⟩
abbrev S1x2048 : Shape := ⟨2, ![1, 2048]⟩
abbrev S1x128 : Shape := ⟨2, ![1, 128]⟩
abbrev S32768x512 : Shape := ⟨2, ![32768, 512]⟩
abbrev S32768x1024 : Shape := ⟨2, ![32768, 1024]⟩
abbrev S262144x128 : Shape := ⟨2, ![262144, 128]⟩
abbrev S64x2x1024 : Shape := ⟨3, ![64, 2, 1024]⟩
abbrev S512x2048 : Shape := ⟨2, ![512, 2048]⟩
abbrev S512x512 : Shape := ⟨2, ![512, 512]⟩
abbrev S512x1024 : Shape := ⟨2, ![512, 1024]⟩
abbrev S4096x128 : Shape := ⟨2, ![4096, 128]⟩
abbrev S1x2x1024 : Shape := ⟨3, ![1, 2, 1024]⟩
abbrev S512 : Shape := ⟨1, ![512]⟩
abbrev S512x1 : Shape := ⟨2, ![512, 1]⟩
abbrev S2048x512 : Shape := ⟨2, ![2048, 512]⟩
abbrev S512x128 : Shape := ⟨2, ![512, 128]⟩
abbrev S256x128 : Shape := ⟨2, ![256, 128]⟩
abbrev S1x1x128 : Shape := ⟨3, ![1, 1, 128]⟩

abbrev nBuf : Space → Nat
  | .hbm => 20
  | .vmem => 23
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x4096, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32768x2048, .f32⟩
  | .hbm, ⟨7, _⟩ => ⟨S2048x4096, .bf16⟩
  | .hbm, ⟨8, _⟩ => ⟨S1x2048, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S32768x512, .f32⟩
  | .hbm, ⟨13, _⟩ => ⟨S32768x1024, .f32⟩
  | .hbm, ⟨14, _⟩ => ⟨S262144x128, .f32⟩
  | .hbm, ⟨15, _⟩ => ⟨S32768x1024, .bf16⟩
  | .hbm, ⟨16, _⟩ => ⟨S64x2x1024, .f32⟩
  | .hbm, ⟨17, _⟩ => ⟨S262144x128, .f32⟩
  | .hbm, ⟨18, _⟩ => ⟨S32768x1024, .bf16⟩
  | .hbm, ⟨19, _⟩ => ⟨S32768x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4096, .bf16⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S512x512, .f32⟩
  | .local _ .vmem, ⟨8, _⟩ => ⟨S512x512, .f32⟩
  | .local _ .vmem, ⟨9, _⟩ => ⟨S512x1024, .f32⟩
  | .local _ .vmem, ⟨10, _⟩ => ⟨S512x1024, .f32⟩
  | .local _ .vmem, ⟨11, _⟩ => ⟨S4096x128, .f32⟩
  | .local _ .vmem, ⟨12, _⟩ => ⟨S4096x128, .f32⟩
  | .local _ .vmem, ⟨13, _⟩ => ⟨S512x1024, .bf16⟩
  | .local _ .vmem, ⟨14, _⟩ => ⟨S512x1024, .bf16⟩
  | .local _ .vmem, ⟨15, _⟩ => ⟨S1x2x1024, .f32⟩
  | .local _ .vmem, ⟨16, _⟩ => ⟨S1x2x1024, .f32⟩
  | .local _ .vmem, ⟨17, _⟩ => ⟨S4096x128, .f32⟩
  | .local _ .vmem, ⟨18, _⟩ => ⟨S4096x128, .f32⟩
  | .local _ .vmem, ⟨19, _⟩ => ⟨S512x1024, .bf16⟩
  | .local _ .vmem, ⟨20, _⟩ => ⟨S512x1024, .bf16⟩
  | .local _ .vmem, ⟨21, _⟩ => ⟨S512x512, .f32⟩
  | .local _ .vmem, ⟨22, _⟩ => ⟨S512x512, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev main_v6_6 : Ref sig .tc := ⟨.hbm, 18, rfl⟩
abbrev main_v6_7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16x2048x2048 : Shape := ⟨3, ![16, 2048, 2048]⟩
abbrev S2048 : Shape := ⟨1, ![2048]⟩
abbrev S2048x4096 : Shape := ⟨2, ![2048, 4096]⟩
abbrev S128 : Shape := ⟨1, ![128]⟩
abbrev S32768x2048 : Shape := ⟨2, ![32768, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x4096 : Shape := ⟨2, ![32768, 4096]⟩
abbrev S32768x512 : Shape := ⟨2, ![32768, 512]⟩
abbrev S32768x1024 : Shape := ⟨2, ![32768, 1024]⟩
abbrev S32768x8x128 : Shape := ⟨3, ![32768, 8, 128]⟩
abbrev S32768x8 : Shape := ⟨2, ![32768, 8]⟩
abbrev S32768x8x1 : Shape := ⟨3, ![32768, 8, 1]⟩
abbrev S1x1x128 : Shape := ⟨3, ![1, 1, 128]⟩
abbrev S32768x4x128 : Shape := ⟨3, ![32768, 4, 128]⟩
abbrev S32768x4 : Shape := ⟨2, ![32768, 4]⟩
abbrev S32768x4x1 : Shape := ⟨3, ![32768, 4, 1]⟩
abbrev S128x256x8x128 : Shape := ⟨4, ![128, 256, 8, 128]⟩
abbrev S128x8x128 : Shape := ⟨3, ![128, 8, 128]⟩
abbrev S262144x128 : Shape := ⟨2, ![262144, 128]⟩
abbrev S64x2x1024 : Shape := ⟨3, ![64, 2, 1024]⟩

abbrev nBuf : Space → Nat
  | .hbm => 94
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x4096, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32768x2048, .f32⟩
  | .hbm, ⟨7, _⟩ => ⟨S32768x2048, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x2048, .f32⟩
  | .hbm, ⟨19, _⟩ => ⟨S32768x2048, .f32⟩
  | .hbm, ⟨20, _⟩ => ⟨S1x2048, .f32⟩
  | .hbm, ⟨21, _⟩ => ⟨S32768x2048, .f32⟩
  | .hbm, ⟨22, _⟩ => ⟨S32768x2048, .f32⟩
  | .hbm, ⟨23, _⟩ => ⟨S32768x4096, .f32⟩
  | .hbm, ⟨24, _⟩ => ⟨S32768x512, .f32⟩
  | .hbm, ⟨25, _⟩ => ⟨S32768x1024, .f32⟩
  | .hbm, ⟨26, _⟩ => ⟨S32768x8x128, .f32⟩
  | .hbm, ⟨27, _⟩ => ⟨S32768x8x128, .f32⟩
  | .hbm, ⟨28, _⟩ => ⟨S_, .f32⟩
  | .hbm, ⟨29, _⟩ => ⟨S32768x8, .f32⟩
  | .hbm, ⟨30, _⟩ => ⟨S32768x8x1, .f32⟩
  | .hbm, ⟨31, _⟩ => ⟨S_, .f32⟩
  | .hbm, ⟨32, _⟩ => ⟨S32768x8x1, .f32⟩
  | .hbm, ⟨33, _⟩ => ⟨S32768x8x1, .f32⟩
  | .hbm, ⟨34, _⟩ => ⟨S_, .f32⟩
  | .hbm, ⟨35, _⟩ => ⟨S32768x8x1, .f32⟩
  | .hbm, ⟨36, _⟩ => ⟨S32768x8x1, .f32⟩
  | .hbm, ⟨37, _⟩ => ⟨S32768x8x1, .f32⟩
  | .hbm, ⟨38, _⟩ => ⟨S32768x8x128, .f32⟩
  | .hbm, ⟨39, _⟩ => ⟨S32768x8x128, .f32⟩
  | .hbm, ⟨40, _⟩ => ⟨S1x1x128, .f32⟩
  | .hbm, ⟨41, _⟩ => ⟨S32768x8x128, .f32⟩
  | .hbm, ⟨42, _⟩ => ⟨S32768x8x128, .f32⟩
  | .hbm, ⟨43, _⟩ => ⟨S32768x1024, .f32⟩
  | .hbm, ⟨44, _⟩ => ⟨S32768x8x128, .f32⟩
  | .hbm, ⟨45, _⟩ => ⟨S32768x8x128, .f32⟩
  | .hbm, ⟨46, _⟩ => ⟨S_, .f32⟩
  | .hbm, ⟨47, _⟩ => ⟨S32768x8, .f32⟩
  | .hbm, ⟨48, _⟩ => ⟨S32768x8x1, .f32⟩
  | .hbm, ⟨49, _⟩ => ⟨S_, .f32⟩
  | .hbm, ⟨50, _⟩ => ⟨S32768x8x1, .f32⟩
  | .hbm, ⟨51, _⟩ => ⟨S32768x8x1, .f32⟩
  | .hbm, ⟨52, _⟩ => ⟨S_, .f32⟩
  | .hbm, ⟨53, _⟩ => ⟨S32768x8x1, .f32⟩
  | .hbm, ⟨54, _⟩ => ⟨S32768x8x1, .f32⟩
  | .hbm, ⟨55, _⟩ => ⟨S32768x8x1, .f32⟩
  | .hbm, ⟨56, _⟩ => ⟨S32768x8x128, .f32⟩
  | .hbm, ⟨57, _⟩ => ⟨S32768x8x128, .f32⟩
  | .hbm, ⟨58, _⟩ => ⟨S1x1x128, .f32⟩
  | .hbm, ⟨59, _⟩ => ⟨S32768x8x128, .f32⟩
  | .hbm, ⟨60, _⟩ => ⟨S32768x8x128, .f32⟩
  | .hbm, ⟨61, _⟩ => ⟨S32768x1024, .f32⟩
  | .hbm, ⟨62, _⟩ => ⟨S32768x512, .f32⟩
  | .hbm, ⟨63, _⟩ => ⟨S32768x4x128, .f32⟩
  | .hbm, ⟨64, _⟩ => ⟨S32768x4x128, .f32⟩
  | .hbm, ⟨65, _⟩ => ⟨S_, .f32⟩
  | .hbm, ⟨66, _⟩ => ⟨S32768x4, .f32⟩
  | .hbm, ⟨67, _⟩ => ⟨S32768x4x1, .f32⟩
  | .hbm, ⟨68, _⟩ => ⟨S_, .f32⟩
  | .hbm, ⟨69, _⟩ => ⟨S32768x4x1, .f32⟩
  | .hbm, ⟨70, _⟩ => ⟨S32768x4x1, .f32⟩
  | .hbm, ⟨71, _⟩ => ⟨S_, .f32⟩
  | .hbm, ⟨72, _⟩ => ⟨S32768x4x1, .f32⟩
  | .hbm, ⟨73, _⟩ => ⟨S32768x4x1, .f32⟩
  | .hbm, ⟨74, _⟩ => ⟨S32768x4x1, .f32⟩
  | .hbm, ⟨75, _⟩ => ⟨S32768x4x128, .f32⟩
  | .hbm, ⟨76, _⟩ => ⟨S32768x4x128, .f32⟩
  | .hbm, ⟨77, _⟩ => ⟨S1x1x128, .f32⟩
  | .hbm, ⟨78, _⟩ => ⟨S32768x4x128, .f32⟩
  | .hbm, ⟨79, _⟩ => ⟨S32768x4x128, .f32⟩
  | .hbm, ⟨80, _⟩ => ⟨S128x256x8x128, .f32⟩
  | .hbm, ⟨81, _⟩ => ⟨S_, .f32⟩
  | .hbm, ⟨82, _⟩ => ⟨S128x8x128, .f32⟩
  | .hbm, ⟨83, _⟩ => ⟨S_, .f32⟩
  | .hbm, ⟨84, _⟩ => ⟨S128x8x128, .f32⟩
  | .hbm, ⟨85, _⟩ => ⟨S128x8x128, .f32⟩
  | .hbm, ⟨86, _⟩ => ⟨S32768x1024, .f32⟩
  | .hbm, ⟨87, _⟩ => ⟨S262144x128, .f32⟩
  | .hbm, ⟨88, _⟩ => ⟨S32768x1024, .f32⟩
  | .hbm, ⟨89, _⟩ => ⟨S32768x1024, .bf16⟩
  | .hbm, ⟨90, _⟩ => ⟨S64x2x1024, .f32⟩
  | .hbm, ⟨91, _⟩ => ⟨S262144x128, .f32⟩
  | .hbm, ⟨92, _⟩ => ⟨S32768x1024, .bf16⟩
  | .hbm, ⟨93, _⟩ => ⟨S32768x512, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_cst_10 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_11 : Ref sig .tc := ⟨.hbm, 81, rfl⟩
abbrev main_v63 : Ref sig .tc := ⟨.hbm, 82, rfl⟩
abbrev main_cst_12 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]
-- ==== Kernel4.lean ====
abbrev S32768x2048 : Shape := ⟨2, ![32768, 2048]⟩
abbrev S32768x512 : Shape := ⟨2, ![32768, 512]⟩
abbrev S32768x1024 : Shape := ⟨2, ![32768, 1024]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S32768x512, .f32⟩
  | .hbm, ⟨2, _⟩ => ⟨S32768x1024, .f32⟩
  | .hbm, ⟨3, _⟩ => ⟨S32768x512, .f32⟩
  | .hbm, ⟨4, _⟩ => ⟨S2048x2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S32768x2048, .f32⟩
  | .hbm, ⟨9, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x2048 : Shape := ⟨2, ![32768, 2048]⟩
abbrev S32768x512 : Shape := ⟨2, ![32768, 512]⟩
abbrev S32768x1024 : Shape := ⟨2, ![32768, 1024]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x512, .f32⟩
  | .hbm, ⟨2, _⟩ => ⟨S32768x1024, .f32⟩
  | .hbm, ⟨3, _⟩ => ⟨S32768x512, .f32⟩
  | .hbm, ⟨4, _⟩ => ⟨S2048x2048, .f32⟩
  | .hbm, ⟨5, _⟩ => ⟨S2048, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Proof.Rank.lean ====
module

public import Mathlib.Data.EReal.Inv
public import Mathlib.Algebra.BigOperators.Fin
public import Idealize.ShloMosaic.Lib.SortFacts
public import Idealize.ShloMosaic.Lib.PlanTiles.StableSort

/-!
# Taking the three greatest gates

A row has eight gate values, one for each block of keys.  One side orders the blocks by a stable descending sort and
takes the first three; the other counts, for each block, how many blocks beat it and keeps those beaten by fewer than
three.  Here both are shown to keep the same blocks, the gates of the blocks that are not yet past being `⊥`.
-/

@[expose] public section

noncomputable section

namespace Cert.Moba

open Idealize.ShloMosaic
open scoped BigOperators

/-- Block `i` beats block `j`: a greater gate, or the same gate and a lower index. -/
def Beats (g : Fin 8 → EReal) (i j : Fin 8) : Prop := g j < g i ∨ (g i = g j ∧ i < j)

instance (g : Fin 8 → EReal) (i j : Fin 8) : Decidable (Beats g i j) := by unfold Beats; infer_instance

/-- The number of blocks that beat block `j`. -/
def rank (g : Fin 8 → EReal) (j : Fin 8) : ℕ := (Finset.univ.filter fun i => Beats g i j).card

/-- The block at position `r` of the stable descending sort. -/
def pick (g : Fin 8 → EReal) (r : Fin 8) : Fin 8 := sortedFrom (fun k k' => decide (g k' < g k)) r

/-- The height of a gate: how many gates lie below it. -/
def height (g : Fin 8 → EReal) (j : Fin 8) : ℕ := (Finset.univ.filter fun i => g i < g j).card

theorem height_lt_iff (g : Fin 8 → EReal) (i j : Fin 8) : height g i < height g j ↔ g i < g j := by
  constructor
  · intro h
    by_contra hn
    refine absurd h (not_lt.mpr (Finset.card_le_card fun k hk => ?_))
    rw [Finset.mem_filter] at hk ⊢
    exact ⟨hk.1, hk.2.trans_le (not_lt.mp hn)⟩
  · intro h
    refine Finset.card_lt_card (Finset.ssubset_iff_of_subset (fun k hk => ?_) |>.mpr ⟨i, ?_, ?_⟩)
    · rw [Finset.mem_filter] at hk ⊢
      exact ⟨hk.1, hk.2.trans h⟩
    · simp [h]
    · simp

theorem pick_bijective (g : Fin 8 → EReal) : Function.Bijective (pick g) :=
  ⟨sortedFrom_injective _, sortedFrom_surjective _⟩

theorem beats_irrefl (g : Fin 8 → EReal) (i : Fin 8) : ¬ Beats g i i := by
  rintro (h | ⟨-, h⟩) <;> exact absurd h (lt_irrefl _)

theorem beats_asymm (g : Fin 8 → EReal) {i j : Fin 8} (h : Beats g i j) : ¬ Beats g j i := by
  rintro (h' | ⟨h', h''⟩) <;> rcases h with (h1 | ⟨h1, h2⟩)
  · exact absurd h1 (not_lt.mpr h'.le)
  · exact absurd h1 (ne_of_lt h')
  · exact absurd h' (ne_of_lt h1)
  · exact absurd h2 (not_lt.mpr h''.le)

/-- An earlier position of the sort beats a later one. -/
theorem pick_beats (g : Fin 8 → EReal) {a b : Fin 8} (hab : a < b) : Beats g (pick g a) (pick g b) := by
  have hl := PlanTiles.pairwise_stableSort_lex (height g) (fun x y : Fin 8 => x < y) (List.finRange 8) (List.pairwise_lt_finRange 8)
  have he : (fun k k' : Fin 8 => decide (height g k' < height g k)) = fun k k' => decide (g k' < g k) := by
    funext k k'; simp only [height_lt_iff]
  rw [he] at hl
  have hp := List.pairwise_iff_get.mp hl (a.cast (length_sortPositions 8 _).symm) (b.cast (length_sortPositions 8 _).symm)
    (by rw [Fin.lt_def]; exact hab)
  rcases hp with h | ⟨h, h'⟩
  · exact Or.inl ((height_lt_iff g _ _).mp h)
  · refine Or.inr ⟨?_, h'⟩
    refine le_antisymm ?_ ?_ <;> refine not_lt.mp fun hc => ?_
    · exact absurd h (ne_of_gt ((height_lt_iff g _ _).mpr hc))
    · exact absurd h (ne_of_lt ((height_lt_iff g _ _).mpr hc))

theorem pick_beats_iff (g : Fin 8 → EReal) (a b : Fin 8) : Beats g (pick g a) (pick g b) ↔ a < b := by
  refine ⟨fun h => ?_, pick_beats g⟩
  rcases lt_trichotomy a b with h' | h' | h'
  · exact h'
  · subst h'; exact absurd h (beats_irrefl g _)
  · exact absurd h (beats_asymm g (pick_beats g h'))

/-- Position `r` of the sort is beaten by exactly `r` blocks. -/
theorem rank_pick (g : Fin 8 → EReal) (r : Fin 8) : rank g (pick g r) = r := by
  have h : (Finset.univ.filter fun i => Beats g i (pick g r)) = (Finset.univ.filter fun a : Fin 8 => a < r).image (pick g) := by
    ext i
    obtain ⟨a, rfl⟩ := (pick_bijective g).2 i
    simp only [Finset.mem_filter, Finset.mem_univ, true_and, pick_beats_iff, Finset.mem_image]
    exact ⟨fun h => ⟨a, h, rfl⟩, fun ⟨b, hb, e⟩ => (pick_bijective g).1 e ▸ hb⟩
  rw [rank, h, Finset.card_image_of_injective _ (pick_bijective g).1]
  exact (by decide : ∀ r : Fin 8, (Finset.univ.filter fun a : Fin 8 => a < r).card = (r : ℕ)) r

/-- The blocks before `n` fill the first `n` positions of the sort, the gates of the others being `⊥`. -/
theorem pick_lt_iff (g : Fin 8 → EReal) (n : ℕ) (hn : n ≤ 8) (hpast : ∀ j : Fin 8, (j : ℕ) < n → g j ≠ ⊥)
    (hrest : ∀ j : Fin 8, ¬ (j : ℕ) < n → g j = ⊥) (r : Fin 8) : ((pick g r : Fin 8) : ℕ) < n ↔ (r : ℕ) < n := by
  have hcard : (Finset.univ.filter fun i : Fin 8 => (i : ℕ) < n).card = n := by
    exact (by decide : ∀ n : Fin 9, (Finset.univ.filter fun i : Fin 8 => (i : ℕ) < (n : ℕ)).card = (n : ℕ)) ⟨n, by omega⟩
  constructor
  · intro h
    rw [← rank_pick g r]
    refine lt_of_lt_of_eq (Finset.card_lt_card (Finset.ssubset_iff_of_subset (fun i hi => ?_) |>.mpr ⟨pick g r, ?_, ?_⟩)) hcard
    · rw [Finset.mem_filter] at hi ⊢
      refine ⟨hi.1, by_contra fun hc => ?_⟩
      rcases hi.2 with h1 | ⟨h1, -⟩
      · rw [hrest i hc] at h1; exact absurd h1 not_lt_bot
      · rw [hrest i hc] at h1; exact hpast _ h h1.symm
    · simpa using h
    · simpa using beats_irrefl g _
  · intro h
    by_contra hc
    refine absurd h (not_lt.mpr ?_)
    rw [← rank_pick g r, ← hcard]
    refine (Finset.card_le_card fun i hi => ?_).trans_eq rfl
    rw [Finset.mem_filter] at hi ⊢
    refine ⟨hi.1, Or.inl ?_⟩
    rw [hrest _ hc]
    exact bot_lt_iff_ne_bot.mpr (hpast i hi.2)

/-- A sum over the past blocks beaten by fewer than three is the sum over the first three positions of the sort, those
    that are past. -/
theorem sum_selected {M : Type} [AddCommMonoid M] (g : Fin 8 → EReal) (n : ℕ) (hn : n ≤ 8)
    (hpast : ∀ j : Fin 8, (j : ℕ) < n → g j ≠ ⊥) (hrest : ∀ j : Fin 8, ¬ (j : ℕ) < n → g j = ⊥) (f : Fin 8 → M) :
    ∑ j : Fin 8, (if (j : ℕ) < n ∧ rank g j < 3 then f j else 0)
      = ∑ r : Fin 3, if (r : ℕ) < n then f (pick g (r.castLE (by decide))) else 0 := by
  rw [← (Equiv.ofBijective _ (pick_bijective g)).sum_comp]
  simp only [Equiv.ofBijective_apply, pick_lt_iff g n hn hpast hrest, rank_pick]
  simp [Fin.sum_univ_succ]

end Cert.Moba

end
-- ==== Proof.Words.lean ====
module

public import proofs.«01_k».proof.Proof.Rank
public import Idealize.ShloMosaic.Lib.Pointwise
public import Idealize.ShloMosaic.Lib.WordCmp

/-!
# Counts kept as words

The kernel counts positions, blocks and ranks in 32-bit words.  All of them are small, so each word operation is the
operation on the numbers.
-/

@[expose] public section

noncomputable section

namespace Cert.Moba

open Idealize.ShloMosaic
open scoped BigOperators

theorem select_decide {α : Type} (p : Prop) [Decidable p] (x y : α) :
    Scalar.select (BitVec.ofBool (decide p)) x y = if p then x else y := by
  by_cases h : p <;> simp [Scalar.select, h]

theorem andi_decide (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

theorem ori_decide (p q : Prop) [Decidable p] [Decidable q] :
    IntOp.ori (BitVec.ofBool (decide p)) (BitVec.ofBool (decide q)) = BitVec.ofBool (decide (p ∨ q)) := by
  by_cases hp : p <;> by_cases hq : q <;> simp [IntOp.ori, hp, hq]

/-- A bit read as a float is one or nothing. -/
theorem sitofp_decide (p : Prop) [Decidable p] :
    (FloatOps.sitofp .f32 (BitVec.setWidth 32 (BitVec.ofBool (decide p))) : Ideal .f32) = (((if p then 1 else 0 : ℕ) : ℝ) : EReal) := by
  by_cases h : p <;> simp [h, FloatOps.sitofp]

/-- A small count read as a float is the count. -/
theorem sitofp_ofNat (n : ℕ) (h : n < 2 ^ 31) : (FloatOps.sitofp .f32 (BitVec.ofNat 32 n) : Ideal .f32) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

theorem ofBits_three : (Ideal.ofBits .f32 0x40400000#32) = ((3 : ℝ) : EReal) := by
  simp [Ideal.ofBits, Ideal.ieee, -EReal.coe_mul]; norm_num

theorem ofBits_256 : (Ideal.ofBits .f32 0x43800000#32) = ((256 : ℝ) : EReal) := by
  simp [Ideal.ofBits, Ideal.ieee, -EReal.coe_mul]; norm_num

theorem ofBits_neg_inf : (Ideal.ofBits .f32 0xFF800000#32) = ⊥ := by
  simp [Ideal.ofBits, Ideal.ieee]

/-- `1 / sqrt 128` in single precision is a real number. -/
theorem ofBits_scale : ∃ σ : ℝ, (Ideal.ofBits .f32 0x3DB504F3#32) = (σ : EReal) := by
  simp only [Ideal.ofBits, Ideal.ieee]
  exact ⟨_, rfl⟩

/-- The number of blocks beating block `c`, summed as floats over bits. -/
theorem rank_word (g : Fin 8 → EReal) (c : Fin 8) (c' : ℕ) (hc : c' = c) :
    (∑ x : Fin 8, (FloatOps.sitofp .f32 (BitVec.setWidth 32 (IntOp.ori (BitVec.ofBool (decide (g c < g x)))
      (IntOp.andi (BitVec.ofBool (decide (g x = g c))) (IntOp.cmpi .slt (BitVec.ofNat 32 (x : ℕ)) (BitVec.ofNat 32 c'))))) : Ideal .f32))
      = ((rank g c : ℝ) : EReal) := by
  subst hc
  have h : ∀ x : Fin 8, (FloatOps.sitofp .f32 (BitVec.setWidth 32 (IntOp.ori (BitVec.ofBool (decide (g c < g x)))
      (IntOp.andi (BitVec.ofBool (decide (g x = g c))) (IntOp.cmpi .slt (BitVec.ofNat 32 (x : ℕ)) (BitVec.ofNat 32 c))))) : Ideal .f32)
      = (((if Beats g x c then 1 else 0 : ℕ) : ℝ) : EReal) := by
    intro x
    rw [WordCmp.cmpi_slt_ofNat (by omega) (by omega), andi_decide, ori_decide, sitofp_decide]
    rfl
  refine (Finset.sum_congr rfl fun x _ => h x).trans ?_
  rw [rank, Finset.card_filter]
  push_cast
  induction (Finset.univ : Finset (Fin 8)) using Finset.induction_on with
  | empty => simp
  | insert a s ha ih => rw [Finset.sum_insert ha, Finset.sum_insert ha, ih]; split <;> simp [EReal.coe_add]

/-- The block's penalty chosen by its rank. -/
theorem sel_word (g : Fin 8 → EReal) (c : Fin 8) (c' : ℕ) (hc : c' = c) (n : ℕ) (hn : n < 2 ^ 31) (y : EReal) :
    Scalar.select (IntOp.andi (BitVec.ofBool (decide ((∑ x : Fin 8, (FloatOps.sitofp .f32 (BitVec.setWidth 32 (IntOp.ori (BitVec.ofBool (decide (g c < g x)))
      (IntOp.andi (BitVec.ofBool (decide (g x = g c))) (IntOp.cmpi .slt (BitVec.ofNat 32 (x : ℕ)) (BitVec.ofNat 32 c'))))) : Ideal .f32)) < Ideal.ofBits .f32 0x40400000#32)))
        (IntOp.cmpi .sgt (BitVec.ofNat 32 n) (BitVec.ofNat 32 c'))) (0 : EReal) y
      = if rank g c < 3 ∧ (c : ℕ) < n then 0 else y := by
  rw [rank_word g c c' hc, WordCmp.cmpi_sgt_ofNat hn (by omega), andi_decide, select_decide, ofBits_three]
  refine if_congr ?_ rfl rfl
  subst hc
  rw [EReal.coe_lt_coe_iff]
  norm_cast

/-- A quotient by the block length, as the kernel finds it. -/
theorem floor_word : ∀ n : Fin 2048, Scalar.select
    (IntOp.andi (IntOp.cmpi .ne
        (IntOp.subi (BitVec.setWidth 32 (IntOp.cmpi .sgt (BitVec.ofNat 32 n.val) 0#32)) (BitVec.setWidth 32 (IntOp.cmpi .slt (BitVec.ofNat 32 n.val) 0#32)))
        (Scalar.subi (Scalar.extui (Scalar.cmpi .sgt 256#32 0#32)) (Scalar.extui (Scalar.cmpi .slt 256#32 0#32))))
      (IntOp.cmpi .ne (IntOp.remsi .vector (BitVec.ofNat 32 n.val) 256#32) 0#32))
    (IntOp.subi (IntOp.divsi .vector (BitVec.ofNat 32 n.val) 256#32) 1#32)
    (IntOp.divsi .vector (BitVec.ofNat 32 n.val) 256#32) = BitVec.ofNat 32 (n.val / 256) := by decide +kernel

theorem rem_word : ∀ n : Fin 2048, IntOp.subi (BitVec.ofNat 32 n.val) (IntOp.muli (BitVec.ofNat 32 (n.val / 256)) 256#32)
    = BitVec.ofNat 32 (n.val % 256) := by decide +kernel

theorem add_word : ∀ n : Fin 1792, IntOp.addi 256#32 (BitVec.ofNat 32 n.val) = BitVec.ofNat 32 (256 + n.val) := by decide +kernel

end Cert.Moba

end
-- ==== Proof.KerRead.lean ====
module

public import proofs.«01_k».proof.Proof.Words
public import proofs.«01_k».proof.Proof.Gen.KernelIdeal.Skeleton

@[expose] public section

set_option maxRecDepth 16384

noncomputable section

namespace Cert.Moba

open Cert.KernelIdeal Cert.KernelIdeal.Gen Idealize.ShloMosaic Idealize.ShloMosaic.TcCoe Idealize.SL.Sem

/-- The mask's named value. -/
theorem named_mask : (Named.named Cert.KernelIdeal.κ "mask" 0xF149F2CA#32 : Ideal .f32) = (⊥ : EReal) := rfl

/-- The block number of row `j`. -/
theorem blk_read (j : Fin 2048) (l : Fin 128) : k0_pay6 (ix2 j l) = BitVec.ofNat 32 (j / 256) := by
  pointwise [k0_pay6]
  exact floor_word j

/-- The lanes a key row gets beside its own 128: its place in its block, its block, a one, and which block it is in. -/
def kfeat (j l : ℕ) : EReal :=
  if l = 10 then 1 else if l = 9 then (((j / 256 : ℕ) : ℝ) : EReal) else if l = 8 then (((j % 256 : ℕ) : ℝ) : EReal)
  else if l = j / 256 then 1 else 0

theorem kaug_read (k : FVec Ideal S2048x128 .bf16) (j : Fin 2048) (l : Fin 256) :
    k0_pay10 (F := Ideal) k (iota .tc S2048x128 32 [0] iota_S2048x128_d0_w32) (iota .tc S2048x128 32 [1] iota_S2048x128_d1_w32)
      k0_pay6 (k0_pay7 (F := Ideal)) k0_pay8 (Scalar.ofBits .f32 0x00000000#32) (k0_pay9 (F := Ideal)) (ix2 j l)
      = if h : (l : ℕ) < 128 then k (ix2 j ⟨l, h⟩) else kfeat j (l - 128) := by
  pointwise [k0_pay10, k0_pay7, k0_pay8, k0_pay9]
  have hb := fun x => blk_read j x
  split
  · rfl
  · have hl : (l : ℕ) - 128 < 2 ^ 31 := by omega
    rw [hb, rem_word, WordCmp.cmpi_eq_ofNat (by omega) (by omega), WordCmp.cmpi_eq_ofNat (by omega) (by omega),
      WordCmp.cmpi_eq_ofNat (by omega) (by omega), WordCmp.cmpi_eq_ofNat (by omega) (by omega),
      select_decide, select_decide, select_decide, select_decide, sitofp_ofNat _ (by omega), sitofp_ofNat _ (by omega)]
    rfl

theorem nfull_read (j : Fin 8) (i : Fin 1792) : k0_pay15 k0_pay12 256#32 k0_pay13 k0_pay14 (ix2 j i) = BitVec.ofNat 32 ((256 + i) / 256) := by
  pointwise [k0_pay15, k0_pay12, k0_pay13, k0_pay14]
  rw [add_word]
  exact floor_word ⟨256 + i, by omega⟩

theorem mgate_read (v74 : FVec Ideal S8x1792 .f32) (j : Fin 8) (i : Fin 1792) :
    k0_pay16 (F := Ideal) v74 (iota .tc S8x1792 32 [0] iota_S8x1792_d0_w32) k0_pay12 256#32 k0_pay13 k0_pay14 (ix2 j i)
      = if (j : ℕ) < (256 + i) / 256 then v74 (ix2 j i) else ⊥ := by
  pointwise [k0_pay16]
  rw [nfull_read, named_mask, WordCmp.cmpi_slt_ofNat (by omega) (by omega), select_decide]

/-- Nothing for a block kept by the gate, `⊥` for the others. -/
def pen (g : Fin 8 → EReal) (n : ℕ) (c : Fin 8) : EReal := if rank g c < 3 ∧ (c : ℕ) < n then 0 else ⊥

section ladder

variable (nw : IVec S8x1792 32) (gm w : FVec Ideal S8x1792 .f32) (j : Fin 8) (i : Fin 1792) (n : ℕ) (hn : n < 2 ^ 31)
  (hw : ∀ j, nw (ix2 j i) = BitVec.ofNat 32 n)

include hn hw

theorem pen45_read : k0_pay27 (F := Ideal) (iota .tc S8x1792 32 [0] iota_S8x1792_d0_w32) nw gm w
      (k0_pay25 (F := Ideal) (iota .tc S8x1792 32 [0] iota_S8x1792_d0_w32) gm) (k0_pay26 nw) (ix2 j i)
      = if (j : ℕ) = 5 then pen (fun x => gm (ix2 x i)) n 5 else if (j : ℕ) = 4 then pen (fun x => gm (ix2 x i)) n 4 else w (ix2 j i) := by
  pointwise [k0_pay27, k0_pay25, k0_pay26]
  rw [hw, named_mask, sel_word (fun x => gm (ix2 x i)) 5 5 rfl n hn, sel_word (fun x => gm (ix2 x i)) 4 4 rfl n hn,
    WordCmp.cmpi_eq_ofNat (by omega) (by omega), WordCmp.cmpi_eq_ofNat (by omega) (by omega), select_decide, select_decide]
  rfl

theorem pen23_read : k0_pay24 (F := Ideal) (iota .tc S8x1792 32 [0] iota_S8x1792_d0_w32) nw gm w
      (k0_pay22 (F := Ideal) (iota .tc S8x1792 32 [0] iota_S8x1792_d0_w32) nw gm) k0_pay23 (ix2 j i)
      = if (j : ℕ) = 3 then pen (fun x => gm (ix2 x i)) n 3 else if (j : ℕ) = 2 then pen (fun x => gm (ix2 x i)) n 2 else w (ix2 j i) := by
  pointwise [k0_pay24, k0_pay22, k0_pay23]
  rw [hw, named_mask, sel_word (fun x => gm (ix2 x i)) 3 3 rfl n hn, sel_word (fun x => gm (ix2 x i)) 2 2 rfl n hn,
    WordCmp.cmpi_eq_ofNat (by omega) (by omega), WordCmp.cmpi_eq_ofNat (by omega) (by omega), select_decide, select_decide]
  rfl

/-- The query row with its extra lanes, the penalty of a past block still as the selects build it. -/
theorem qaug_late (s : FVec Ideal S1x1 .f32) (q : FVec Ideal S2048x128 .f32) (r : Fin 2048) (hr : 256 ≤ (r : ℕ)) (hi : (i : ℕ) = r - 256)
    (hnr : n = r / 256) (l : Fin 256) :
    k0_pay30 (F := Ideal) s q (iota .tc S2048x128 32 [1] iota_S2048x128_d1_w32) (k0_pay7 (F := Ideal))
        (iota .tc S8x1792 32 [0] iota_S8x1792_d0_w32) nw w (k0_pay28 (F := Ideal) (iota .tc S8x1792 32 [0] iota_S8x1792_d0_w32) gm)
        (k0_pay29 (F := Ideal)) (ix2 r l)
      = if h : (l : ℕ) < 128 then q (ix2 r ⟨l, h⟩) * Ideal.ofBits .f32 0x3DB504F3#32
        else if (l : ℕ) - 128 = 10 then (0 - s (ix2 0 0)) * Ideal.ofBits .f32 0x43800000#32 * (((r / 256 : ℕ) : ℝ) : EReal)
        else if (l : ℕ) - 128 = 9 then s (ix2 0 0) * Ideal.ofBits .f32 0x43800000#32
        else if (l : ℕ) - 128 = 8 then s (ix2 0 0)
        else if h : (l : ℕ) - 128 < 8 then
          (if (l : ℕ) - 128 < n then (if (l : ℕ) - 128 = 6 then pen (fun x => gm (ix2 x i)) n 6 else w (ix2 ⟨l - 128, h⟩ i)) else 0)
        else 0 := by
  have hi' : (⟨r - 256, by omega⟩ : Fin 1792) = i := Fin.ext hi.symm
  pointwise [k0_pay30, k0_pay29, k0_pay28, k0_pay7]
  have hl : (l : ℕ) - 128 < 2 ^ 31 := by omega
  have hr' : ¬ (r : ℕ) < 256 := by omega
  split
  · rfl
  · have hs := sel_word (fun x => gm (ix2 x i)) 6 6 rfl n hn ⊥
    have hf : ∀ a b : ℕ, a < 2 ^ 31 → b < 2 ^ 31 → IntOp.cmpi .eq (BitVec.ofNat 32 a) (BitVec.ofNat 32 b) = BitVec.ofBool (decide (a = b)) :=
      fun a b ha hb => WordCmp.cmpi_eq_ofNat (by omega) (by omega)
    have hlt : IntOp.cmpi .slt (BitVec.ofNat 32 ((l : ℕ) - 128)) (BitVec.ofNat 32 n) = BitVec.ofBool (decide ((l : ℕ) - 128 < n)) :=
      WordCmp.cmpi_slt_ofNat (by omega) (by omega)
    simp only [hr', ↓reduceDIte, hi', hw, named_mask, hs, blk_read, hlt, select_decide]
    rw [hf _ 10 hl (by omega), hf _ 9 hl (by omega), hf _ 8 hl (by omega), hf _ 6 hl (by omega), select_decide, select_decide, select_decide,
      sitofp_ofNat _ (by omega)]
    simp only [select_decide]
    rfl

end ladder

/-- The first 256 query rows have no past block, so no penalty. -/
theorem qaug_early (nw : IVec S8x1792 32) (w : FVec Ideal S8x1792 .f32) (u u' : FVec Ideal S1x1792 .f32)
    (s : FVec Ideal S1x1 .f32) (q : FVec Ideal S2048x128 .f32) (r : Fin 2048) (hr : (r : ℕ) < 256) (l : Fin 256) :
    k0_pay30 (F := Ideal) s q (iota .tc S2048x128 32 [1] iota_S2048x128_d1_w32) (k0_pay7 (F := Ideal))
        (iota .tc S8x1792 32 [0] iota_S8x1792_d0_w32) nw w u u' (ix2 r l)
      = if h : (l : ℕ) < 128 then q (ix2 r ⟨l, h⟩) * Ideal.ofBits .f32 0x3DB504F3#32
        else if (l : ℕ) - 128 = 10 then (0 - s (ix2 0 0)) * Ideal.ofBits .f32 0x43800000#32 * (((r / 256 : ℕ) : ℝ) : EReal)
        else if (l : ℕ) - 128 = 9 then s (ix2 0 0) * Ideal.ofBits .f32 0x43800000#32
        else if (l : ℕ) - 128 = 8 then s (ix2 0 0)
        else 0 := by
  pointwise [k0_pay30, k0_pay7]
  have hl : (l : ℕ) - 128 < 2 ^ 31 := by omega
  split
  · rfl
  · rw [blk_read, sitofp_ofNat _ (by omega), WordCmp.cmpi_eq_ofNat (by omega) (by omega), WordCmp.cmpi_eq_ofNat (by omega) (by omega),
      WordCmp.cmpi_eq_ofNat (by omega) (by omega), select_decide, select_decide, select_decide]

theorem pen01_read (v74 : FVec Ideal S8x1792 .f32) (j : Fin 8) (i : Fin 1792) (n : ℕ) (hni : n = (256 + i) / 256) (gm : FVec Ideal S8x1792 .f32)
    (hg : gm = k0_pay16 v74 (iota .tc S8x1792 32 [0] iota_S8x1792_d0_w32) k0_pay12 256#32 k0_pay13 k0_pay14) :
    k0_pay21 (F := Ideal) (iota .tc S8x1792 32 [0] iota_S8x1792_d0_w32) (k0_pay15 k0_pay12 256#32 k0_pay13 k0_pay14) gm (k0_pay17 (F := Ideal))
        (k0_pay18 (F := Ideal) v74 (iota .tc S8x1792 32 [0] iota_S8x1792_d0_w32) k0_pay12 256#32 k0_pay13 k0_pay14)
        (k0_pay19 (iota .tc S8x1792 32 [0] iota_S8x1792_d0_w32)) (Named.named Cert.KernelIdeal.κ "mask" 0xF149F2CA#32) (k0_pay20 (F := Ideal)) (ix2 j i)
      = if (j : ℕ) = 1 then pen (fun x => gm (ix2 x i)) n 1 else if (j : ℕ) = 0 then pen (fun x => gm (ix2 x i)) n 0 else 0 := by
  have hn : n < 2 ^ 31 := by omega
  have hw : k0_pay15 k0_pay12 256#32 k0_pay13 k0_pay14 (ix2 j i) = BitVec.ofNat 32 n := by rw [nfull_read, hni]
  pointwise [k0_pay21, k0_pay17, k0_pay18, k0_pay19, k0_pay20]
  rw [← hg, hw, named_mask, sel_word (fun x => gm (ix2 x i)) 1 1 rfl n hn, sel_word (fun x => gm (ix2 x i)) 0 0 rfl n hn,
    WordCmp.cmpi_eq_ofNat (by omega) (by omega), WordCmp.cmpi_eq_ofNat (by omega) (by omega), select_decide, select_decide]
  rfl

end Cert.Moba

end
-- ==== Proof.Softmax.lean ====
module

public import Idealize.ShloMosaic.PureOps.Ideal
public import Mathlib.Algebra.Order.BigOperators.Group.Finset

/-!
# A softmax row over the extended reals

Scores are extended reals that are never `⊤`; a score `⊥` is masked and weighs nothing.  A row is shifted by its maximum,
exponentiated, and normalised.  Both programs' ways of doing it are brought to one form: every value is weighed by
`wt (score) / (sum of the weights)`, where `wt` is the exponential without any shift.
-/

@[expose] public section

noncomputable section

namespace Cert.Moba

open Idealize.ShloMosaic
open scoped BigOperators

/-- What a score weighs: its exponential, nothing for a masked one. -/
def wt (s : EReal) : ℝ := if s = ⊥ then 0 else Real.exp s.toReal

theorem wt_bot : wt ⊥ = 0 := if_pos rfl

theorem wt_coe (r : ℝ) : wt (r : EReal) = Real.exp r := by
  rw [wt, if_neg (EReal.coe_ne_bot r), EReal.toReal_coe]

theorem wt_nonneg (s : EReal) : 0 ≤ wt s := by
  unfold wt; split
  · exact le_refl _
  · exact (Real.exp_pos _).le

theorem wt_pos {s : EReal} (h : s ≠ ⊥) : 0 < wt s := by
  rw [wt, if_neg h]; exact Real.exp_pos _

theorem exp_sub_coe {s : EReal} (hs : s ≠ ⊤) (m : ℝ) : Ideal.exp (s - (m : EReal)) = ((wt s * Real.exp (-m) : ℝ) : EReal) := by
  induction s with
  | bot => rw [wt_bot, zero_mul, EReal.coe_zero]; rfl
  | top => exact absurd rfl hs
  | coe r => rw [← EReal.coe_sub, wt_coe, ← Real.exp_add]; rfl

theorem coe_sum {ι : Type} (A : Finset ι) (f : ι → ℝ) : ((∑ a ∈ A, f a : ℝ) : EReal) = ∑ a ∈ A, ((f a : ℝ) : EReal) := by
  classical
  induction A using Finset.induction with
  | empty => simp
  | insert a A ha ih => rw [Finset.sum_insert ha, Finset.sum_insert ha, EReal.coe_add, ih]

/-- A sum times a nonnegative real is the sum of the products. -/
theorem sum_mul_coe {ι : Type} (A : Finset ι) (f : ι → EReal) {c : ℝ} (hc : 0 ≤ c) :
    (∑ a ∈ A, f a) * (c : EReal) = ∑ a ∈ A, f a * (c : EReal) := by
  classical
  induction A using Finset.induction with
  | empty => simp
  | insert a A ha ih =>
    rw [Finset.sum_insert ha, Finset.sum_insert ha,
      EReal.right_distrib_of_nonneg_of_ne_top (EReal.coe_nonneg.mpr hc) (EReal.coe_ne_top c), ih]

/-- The running maximum from `⊥` of scores that are not `⊤`, one of them unmasked, is a real number. -/
theorem fold_max_real {ι : Type} [Fintype ι] (f : ι → EReal) (hf : ∀ i, f i ≠ ⊤) (i₀ : ι) (h₀ : f i₀ ≠ ⊥) :
    ∃ r : ℝ, Finset.univ.fold max ⊥ f = (r : EReal) := by
  have h1 : Finset.univ.fold max ⊥ f < ⊤ :=
    (Finset.fold_max_lt (c := ⊤)).mpr ⟨bot_lt_top, fun i _ => lt_top_iff_ne_top.mpr (hf i)⟩
  have h2 : ⊥ < Finset.univ.fold max ⊥ f :=
    (Finset.lt_fold_max (c := ⊥)).mpr (Or.inr ⟨i₀, Finset.mem_univ _, bot_lt_iff_ne_bot.mpr h₀⟩)
  exact ⟨_, (EReal.coe_toReal h1.ne h2.ne').symm⟩

theorem fold_max_ne_top {ι : Type} [Fintype ι] (f : ι → EReal) (hf : ∀ i, f i ≠ ⊤) : Finset.univ.fold max ⊥ f ≠ ⊤ :=
  ((Finset.fold_max_lt (c := ⊤)).mpr ⟨bot_lt_top, fun i _ => lt_top_iff_ne_top.mpr (hf i)⟩).ne

theorem max_real {x y : EReal} {r : ℝ} (hx : x = (r : EReal)) (hy : y ≠ ⊤) : ∃ m : ℝ, max x y = (m : EReal) := by
  subst hx
  induction y with
  | bot => exact ⟨r, max_eq_left bot_le⟩
  | top => exact absurd rfl hy
  | coe z => exact ⟨max r z, (EReal.coe_strictMono.monotone.map_max).symm⟩

section rows

variable {α β : Type} [Fintype α] [Fintype β]

/-- The sum of the weights of a row in two parts. -/
def total (s : α → EReal) (t : β → EReal) : ℝ := (∑ a, wt (s a)) + ∑ b, wt (t b)

theorem total_pos (s : α → EReal) (t : β → EReal) (a₀ : α) (h₀ : s a₀ ≠ ⊥) : 0 < total s t :=
  add_pos_of_pos_of_nonneg
    (Finset.sum_pos' (fun a _ => wt_nonneg _) ⟨a₀, Finset.mem_univ _, wt_pos h₀⟩) (Finset.sum_nonneg fun b _ => wt_nonneg _)

theorem total_exp (s : α → EReal) (t : β → EReal) (hs : ∀ a, s a ≠ ⊤) (ht : ∀ b, t b ≠ ⊤) (m : ℝ) :
    (∑ a, Ideal.exp (s a - (m : EReal))) + (∑ b, Ideal.exp (t b - (m : EReal)))
      = ((total s t * Real.exp (-m) : ℝ) : EReal) := by
  simp only [exp_sub_coe (hs _), exp_sub_coe (ht _), ← coe_sum, ← EReal.coe_add, total, ← Finset.sum_mul, add_mul]

/-- One normalised weight. -/
theorem div_exp {x : EReal} (hx : x ≠ ⊤) (m : ℝ) {W : ℝ} (hW : 0 < W) :
    Ideal.div (Ideal.exp (x - (m : EReal))) ((W * Real.exp (-m) : ℝ) : EReal) = ((wt x / W : ℝ) : EReal) := by
  have he := Real.exp_pos (-m)
  rw [exp_sub_coe hx, Ideal.div_coe (mul_pos hW he).ne', ← EReal.coe_mul]
  congr 1
  field_simp

/-- The weighted sum of a row divided by its normaliser at the end. -/
theorem row_div_end (s : α → EReal) (t : β → EReal) (v : α → EReal) (u : β → EReal) (hs : ∀ a, s a ≠ ⊤) (ht : ∀ b, t b ≠ ⊤)
    (a₀ : α) (h₀ : s a₀ ≠ ⊥) (m : ℝ) :
    Ideal.div ((∑ a, Ideal.exp (s a - (m : EReal)) * v a) + ∑ b, Ideal.exp (t b - (m : EReal)) * u b)
        ((∑ a, Ideal.exp (s a - (m : EReal))) + ∑ b, Ideal.exp (t b - (m : EReal)))
      = (∑ a, ((wt (s a) / total s t : ℝ) : EReal) * v a) + ∑ b, ((wt (t b) / total s t : ℝ) : EReal) * u b := by
  have hW := total_pos s t a₀ h₀
  have he := Real.exp_pos (-m)
  have hq : (0 : ℝ) ≤ 1 / (total s t * Real.exp (-m)) := (one_div_pos.mpr (mul_pos hW he)).le
  rw [total_exp s t hs ht, Ideal.div_coe (mul_pos hW he).ne',
    EReal.right_distrib_of_nonneg_of_ne_top (EReal.coe_nonneg.mpr hq) (EReal.coe_ne_top _), sum_mul_coe _ _ hq, sum_mul_coe _ _ hq]
  refine congrArg₂ (· + ·) (Finset.sum_congr rfl fun a _ => ?_) (Finset.sum_congr rfl fun b _ => ?_)
  · rw [← div_exp (hs a) m hW, Ideal.div_coe (mul_pos hW he).ne', mul_right_comm]
  · rw [← div_exp (ht b) m hW, Ideal.div_coe (mul_pos hW he).ne', mul_right_comm]

end rows

end Cert.Moba

end
-- ==== Proof.Dense.lean ====
module

public import proofs.«01_k».proof.Proof.Rank
public import proofs.«01_k».proof.Proof.Softmax
public import Idealize.ShloMosaic.Lib.Pointwise.Sums

/-!
# Block attention written over all positions

Row `r` attends to the positions up to its own in its own block, and to every position of the past blocks its gate keeps.
Both programs are brought to this form: a sum over all 2048 positions, a position not attended to weighing nothing.
-/

@[expose] public section

noncomputable section

namespace Cert.Moba

open Idealize.ShloMosaic
open scoped BigOperators

/-- Values averaged by weights. -/
def dense (w : Fin 2048 → ℝ) (v : Fin 2048 → EReal) : EReal := ∑ j, ((w j / ∑ j', w j' : ℝ) : EReal) * v j

/-- A factor common to all weights changes nothing. -/
theorem dense_scale (c : ℝ) (hc : c ≠ 0) (w w' : Fin 2048 → ℝ) (v : Fin 2048 → EReal) (h : ∀ j, w' j = c * w j) : dense w' v = dense w v := by
  unfold dense
  refine Finset.sum_congr rfl fun j _ => ?_
  simp only [h, ← Finset.mul_sum, mul_div_mul_left _ _ hc]

/-- The gate of row `r` on block `x`, `⊥` unless the block is past. -/
def gateOf (q : Fin 2048 → Fin 128 → ℝ) (mean : Fin 8 → Fin 128 → ℝ) (r : Fin 2048) (x : Fin 8) : EReal :=
  if (x : ℕ) < r / 256 then ((∑ d, q r d * mean x d : ℝ) : EReal) else ⊥

/-- The scaled product of a query with a key, less the slope times the distance. -/
def score (σ S : ℝ) (q k : Fin 2048 → Fin 128 → ℝ) (r j : Fin 2048) : ℝ :=
  (∑ d, q r d * k j d) * σ - S * ((r : ℝ) - (j : ℝ))

/-- Position `j` is attended to by row `r`. -/
def Kept (g : Fin 8 → EReal) (r j : Fin 2048) : Prop :=
  ((j : ℕ) / 256 = r / 256 ∧ (j : ℕ) ≤ r) ∨ ((j : ℕ) / 256 < r / 256 ∧ rank g ⟨j / 256, by omega⟩ < 3)

instance (g : Fin 8 → EReal) (r j : Fin 2048) : Decidable (Kept g r j) := by unfold Kept; infer_instance

/-- What position `j` weighs in row `r`. -/
def weight (σ S : ℝ) (q k : Fin 2048 → Fin 128 → ℝ) (mean : Fin 8 → Fin 128 → ℝ) (r j : Fin 2048) : ℝ :=
  if Kept (gateOf q mean r) r j then Real.exp (score σ S q k r j) else 0

/-- The attention's result for row `r` and one lane of the values. -/
def attend (σ S : ℝ) (q k : Fin 2048 → Fin 128 → ℝ) (mean : Fin 8 → Fin 128 → ℝ) (v : Fin 2048 → EReal) (r : Fin 2048) : EReal :=
  dense (weight σ S q k mean r) v

/-- A sum over positions that stops at the end of a block: the block, and what lies before it. -/
theorem sum_block {M : Type} [AddCommMonoid M] (N : ℕ) (hN : N + 256 ≤ 2048) (f : Fin 2048 → M) (hf : ∀ j : Fin 2048, N + 256 ≤ (j : ℕ) → f j = 0) :
    ∑ j, f j = (∑ x : Fin 256, f ⟨N + x, by omega⟩) + ∑ x : Fin N, f ⟨x, by omega⟩ := by
  rw [Fin.sum_univ_two_halves (N + 256) (2048 - (N + 256)) (by omega), Fin.sum_univ_two_halves N 256 rfl, add_comm (∑ x : Fin N, _)]
  rw [Finset.sum_eq_zero (s := (Finset.univ : Finset (Fin (2048 - (N + 256))))) fun x _ => hf ⟨N + 256 + x, by omega⟩ (Nat.le_add_right _ _), add_zero]

end Cert.Moba

end
-- ==== Proof.KerScore.lean ====
module

public import proofs.«01_k».proof.Proof.KerRead
public import proofs.«01_k».proof.Proof.Dense

/-!
# The kernel's scores

The kernel lengthens every query row and every key row by 128 lanes and takes one product of the long rows.  The extra
lanes carry the bias that falls with the distance, cut in a part within the block and a part over the blocks, and the
penalty of the blocks that the gate did not keep.
-/

@[expose] public section

set_option maxRecDepth 16384

noncomputable section

namespace Cert.Moba

open Cert.KernelIdeal Cert.KernelIdeal.Gen Idealize.ShloMosaic Idealize.ShloMosaic.TcCoe Idealize.SL.Sem
open scoped BigOperators

/-- The lengthened key rows. -/
def kaug (k : FVec Ideal S2048x128 .bf16) : FVec Ideal S2048x256 .bf16 :=
  k0_pay10 (F := Ideal) k (iota .tc S2048x128 32 [0] iota_S2048x128_d0_w32) (iota .tc S2048x128 32 [1] iota_S2048x128_d1_w32)
      k0_pay6 (k0_pay7 (F := Ideal)) k0_pay8 (Scalar.ofBits .f32 0x00000000#32) (k0_pay9 (F := Ideal))

/-- The masked gates of the rows from 256 on. -/
def mgate (q : FVec Ideal S2048x128 .f32) (km : FVec Ideal S1x8x128 .f32) : FVec Ideal S8x1792 .f32 :=
  k0_pay16 (F := Ideal) (k0_pay11 q km) (iota .tc S8x1792 32 [0] iota_S8x1792_d0_w32) k0_pay12 256#32 k0_pay13 k0_pay14

/-- How many blocks are past, as words. -/
def nfull : IVec S8x1792 32 := k0_pay15 k0_pay12 256#32 k0_pay13 k0_pay14

/-- The penalties of blocks 0 and 1. -/
def lad1 (q : FVec Ideal S2048x128 .f32) (km : FVec Ideal S1x8x128 .f32) : FVec Ideal S8x1792 .f32 :=
  k0_pay21 (F := Ideal) (iota .tc S8x1792 32 [0] iota_S8x1792_d0_w32) nfull (mgate q km) (k0_pay17 (F := Ideal))
    (k0_pay18 (F := Ideal) (k0_pay11 q km) (iota .tc S8x1792 32 [0] iota_S8x1792_d0_w32) k0_pay12 256#32 k0_pay13 k0_pay14)
    (k0_pay19 (iota .tc S8x1792 32 [0] iota_S8x1792_d0_w32)) (Named.named Cert.KernelIdeal.κ "mask" 0xF149F2CA#32) (k0_pay20 (F := Ideal))

/-- The penalties of blocks 0 to 3. -/
def lad3 (q : FVec Ideal S2048x128 .f32) (km : FVec Ideal S1x8x128 .f32) : FVec Ideal S8x1792 .f32 :=
  k0_pay24 (F := Ideal) (iota .tc S8x1792 32 [0] iota_S8x1792_d0_w32) nfull (mgate q km) (lad1 q km)
    (k0_pay22 (F := Ideal) (iota .tc S8x1792 32 [0] iota_S8x1792_d0_w32) nfull (mgate q km)) k0_pay23

/-- The penalties of blocks 0 to 5. -/
def lad5 (q : FVec Ideal S2048x128 .f32) (km : FVec Ideal S1x8x128 .f32) : FVec Ideal S8x1792 .f32 :=
  k0_pay27 (F := Ideal) (iota .tc S8x1792 32 [0] iota_S8x1792_d0_w32) nfull (mgate q km) (lad3 q km)
    (k0_pay25 (F := Ideal) (iota .tc S8x1792 32 [0] iota_S8x1792_d0_w32) (mgate q km)) (k0_pay26 nfull)

/-- The lengthened query rows. -/
def qaug (s : FVec Ideal S1x1 .f32) (q : FVec Ideal S2048x128 .f32) (km : FVec Ideal S1x8x128 .f32) : FVec Ideal S2048x256 .bf16 :=
  k0_pay30 (F := Ideal) s q (iota .tc S2048x128 32 [1] iota_S2048x128_d1_w32) (k0_pay7 (F := Ideal))
    (iota .tc S8x1792 32 [0] iota_S8x1792_d0_w32) nfull (lad5 q km)
    (k0_pay28 (F := Ideal) (iota .tc S8x1792 32 [0] iota_S8x1792_d0_w32) (mgate q km)) (k0_pay29 (F := Ideal))

/-- The kernel's score without penalty. -/
def kscore (σ S : ℝ) (q k : Fin 2048 → Fin 128 → ℝ) (r j : Fin 2048) : ℝ :=
  (∑ d, q r d * σ * k j d) + (((0 - S) * 256 * ((r / 256 : ℕ) : ℝ)) + S * 256 * ((j / 256 : ℕ) : ℝ) + S * ((j % 256 : ℕ) : ℝ))

theorem sum_coe_mul {n : ℕ} (a b : Fin n → ℝ) : ∑ d, ((a d : EReal) * (b d : EReal)) = ((∑ d, a d * b d : ℝ) : EReal) := by
  induction (Finset.univ : Finset (Fin n)) using Finset.induction_on with
  | empty => simp
  | insert x s hx ih => rw [Finset.sum_insert hx, Finset.sum_insert hx, ih, EReal.coe_add, EReal.coe_mul]

/-- Only four of the extra lanes of a key row are not zero. -/
theorem sum_kfeat (j : Fin 2048) (f : Fin 128 → EReal) :
    ∑ x : Fin 128, f x * kfeat j x = f 10 + f 9 * (((j / 256 : ℕ) : ℝ) : EReal) + f 8 * (((j % 256 : ℕ) : ℝ) : EReal) + f ⟨j / 256, by omega⟩ := by
  have hb : (j : ℕ) / 256 < 8 := by omega
  have h1 : (10 : Fin 128) ∉ ({9, 8, ⟨j / 256, by omega⟩} : Finset (Fin 128)) := by
    simp [Fin.ext_iff]; omega
  have h2 : (9 : Fin 128) ∉ ({8, ⟨j / 256, by omega⟩} : Finset (Fin 128)) := by
    simp [Fin.ext_iff]; omega
  have h3 : (8 : Fin 128) ∉ ({⟨j / 256, by omega⟩} : Finset (Fin 128)) := by
    simp [Fin.ext_iff]; omega
  rw [← Finset.sum_subset (Finset.subset_univ ({10, 9, 8, ⟨j / 256, by omega⟩} : Finset (Fin 128)))]
  · rw [Finset.sum_insert h1, Finset.sum_insert h2, Finset.sum_insert h3, Finset.sum_singleton]
    have e1 : kfeat j ((10 : Fin 128) : ℕ) = 1 := rfl
    have e2 : kfeat j ((9 : Fin 128) : ℕ) = (((j / 256 : ℕ) : ℝ) : EReal) := rfl
    have e3 : kfeat j ((8 : Fin 128) : ℕ) = (((j % 256 : ℕ) : ℝ) : EReal) := rfl
    have e4 : kfeat j (j / 256) = 1 := by
      unfold kfeat
      rw [if_neg (by omega), if_neg (by omega), if_neg (by omega), if_pos rfl]
    rw [e1, e2, e3, e4, mul_one, mul_one, add_assoc, add_assoc]
  · intro x _ hx
    simp only [Finset.mem_insert, Finset.mem_singleton, not_or, Fin.ext_iff] at hx
    have e : kfeat j x = 0 :=
      (if_neg hx.1).trans ((if_neg hx.2.1).trans ((if_neg hx.2.2.1).trans (if_neg hx.2.2.2)))
    rw [e, mul_zero]

/-- The ladder of selects, one for each block that can be past, is the penalty of the block asked for. -/
theorem ladder_eq (f : Fin 8 → EReal) (b : ℕ) (hb : b < 7) :
    (if b = 6 then f 6 else if b = 5 then f 5 else if b = 4 then f 4 else if b = 3 then f 3 else if b = 2 then f 2
      else if b = 1 then f 1 else if b = 0 then f 0 else 0) = f ⟨b, by omega⟩ := by
  interval_cases b <;> rfl

section score

variable (s : FVec Ideal S1x1 .f32) (q : FVec Ideal S2048x128 .f32) (k : FVec Ideal S2048x128 .bf16) (km : FVec Ideal S1x8x128 .f32)
  (S σ : ℝ) (qr kr : Fin 2048 → Fin 128 → ℝ) (mr : Fin 8 → Fin 128 → ℝ)
  (hs : s (ix2 0 0) = (S : EReal)) (hσ : Ideal.ofBits .f32 0x3DB504F3#32 = (σ : EReal))
  (hq : ∀ r d, q (ix2 r d) = (qr r d : EReal)) (hk : ∀ r d, k (ix2 r d) = (kr r d : EReal))
  (hm : ∀ r d, km (ix3 0 r d) = (mr r d : EReal))

include hq hm in
theorem mgate_eq (r : Fin 2048) (hr : 256 ≤ (r : ℕ)) (x : Fin 8) : mgate q km (ix2 x ⟨r - 256, by omega⟩) = gateOf qr mr r x := by
  unfold mgate gateOf
  rw [mgate_read]
  refine if_congr (by rw [Nat.add_sub_cancel' hr]) ?_ rfl
  pointwise [k0_pay11]
  have hr' : (⟨256 + (r - 256), by omega⟩ : Fin 2048) = r := Fin.ext (Nat.add_sub_cancel' hr)
  simp only [hr', hq, hm, ← EReal.coe_sub, sub_self, EReal.coe_zero, zero_mul, mul_zero, Finset.sum_const_zero, add_zero]
  exact sum_coe_mul _ _

include hs hσ hq hk hm in
/-- The product of the long rows. -/
theorem score_read (r j : Fin 2048) (hj : (j : ℕ) / 256 ≤ r / 256) :
    ∑ x : Fin 256, qaug s q km (ix2 r x) * kaug k (ix2 j x)
      = (kscore σ S qr kr r j : EReal)
        + if (j : ℕ) / 256 < r / 256 then pen (gateOf qr mr r) (r / 256) ⟨j / 256, by omega⟩ else 0 := by
  rw [Fin.sum_univ_two_halves 128 128 rfl]
  have hK1 : ∀ x : Fin 128, kaug k (ix2 j ⟨x, by omega⟩) = (kr j x : EReal) := fun x => by
    unfold kaug; rw [kaug_read, dif_pos x.isLt]; exact hk j x
  have hK2 : ∀ x : Fin 128, kaug k (ix2 j ⟨128 + x, by omega⟩) = kfeat j x := fun x => by
    unfold kaug; rw [kaug_read, dif_neg (by simp), Nat.add_sub_cancel_left]
  simp only [hK1, hK2]
  rw [sum_kfeat j fun x => qaug s q km (ix2 r ⟨128 + x, by omega⟩)]
  have hQ : (∀ x : Fin 128, qaug s q km (ix2 r ⟨x, by omega⟩) = ((qr r x * σ : ℝ) : EReal))
      ∧ qaug s q km (ix2 r ⟨128 + 10, by omega⟩) = (((0 - S) * 256 * ((r / 256 : ℕ) : ℝ) : ℝ) : EReal)
      ∧ qaug s q km (ix2 r ⟨128 + 9, by omega⟩) = ((S * 256 : ℝ) : EReal)
      ∧ qaug s q km (ix2 r ⟨128 + 8, by omega⟩) = (S : EReal)
      ∧ qaug s q km (ix2 r ⟨128 + j / 256, by omega⟩)
        = if (j : ℕ) / 256 < r / 256 then pen (gateOf qr mr r) (r / 256) ⟨j / 256, by omega⟩ else 0 := by
    unfold qaug
    have hz : ((0 : EReal) - (S : EReal)) * ((256 : ℝ) : EReal) * (((r / 256 : ℕ) : ℝ) : EReal) = (((0 - S) * 256 * ((r / 256 : ℕ) : ℝ) : ℝ) : EReal) := by
      rw [EReal.coe_mul, EReal.coe_mul, EReal.coe_sub, EReal.coe_zero]
    by_cases hr : (r : ℕ) < 256
    · have hq' := fun l => qaug_early nfull (lad5 q km) (k0_pay28 (F := Ideal) (iota .tc S8x1792 32 [0] iota_S8x1792_d0_w32) (mgate q km)) (k0_pay29 (F := Ideal)) s q r hr l
      refine ⟨fun x => ?_, ?_, ?_, ?_, ?_⟩ <;> rw [hq']
      · rw [dif_pos x.isLt, hσ, EReal.coe_mul, ← hq]
      · rw [dif_neg (by simp), if_pos (by rfl : ((⟨128 + 10, by omega⟩ : Fin 256) : ℕ) - 128 = 10), hs, ofBits_256, hz]
      · rw [dif_neg (by simp), if_neg (by simp), if_pos (by rfl : ((⟨128 + 9, by omega⟩ : Fin 256) : ℕ) - 128 = 9), hs, ofBits_256, EReal.coe_mul]
      · rw [dif_neg (by simp), if_neg (by simp), if_neg (by simp), if_pos (by rfl : ((⟨128 + 8, by omega⟩ : Fin 256) : ℕ) - 128 = 8), hs]
      · rw [dif_neg (by simp), if_neg (by simp; omega), if_neg (by simp; omega), if_neg (by simp; omega), if_neg (by omega)]
    · have hr' : 256 ≤ (r : ℕ) := by omega
      have hw : ∀ j, nfull (ix2 j ⟨r - 256, by omega⟩) = BitVec.ofNat 32 (r / 256) := fun j => by
        unfold nfull; rw [nfull_read, Nat.add_sub_cancel' hr']
      have hn : (r : ℕ) / 256 < 2 ^ 31 := by omega
      have hg : (fun x : Fin 8 => mgate q km (ix2 x ⟨r - 256, by omega⟩)) = gateOf qr mr r := funext fun x => mgate_eq q km qr mr hq hm r hr' x
      have hq' := fun l => qaug_late nfull (mgate q km) (lad5 q km) ⟨r - 256, by omega⟩ (r / 256) hn hw s q r hr' rfl rfl l
      refine ⟨fun x => ?_, ?_, ?_, ?_, ?_⟩ <;> rw [hq']
      · rw [dif_pos x.isLt, hσ, EReal.coe_mul, ← hq]
      · rw [dif_neg (by simp), if_pos (by rfl : ((⟨128 + 10, by omega⟩ : Fin 256) : ℕ) - 128 = 10), hs, ofBits_256, hz]
      · rw [dif_neg (by simp), if_neg (by simp), if_pos (by rfl : ((⟨128 + 9, by omega⟩ : Fin 256) : ℕ) - 128 = 9), hs, ofBits_256, EReal.coe_mul]
      · rw [dif_neg (by simp), if_neg (by simp), if_neg (by simp), if_pos (by rfl : ((⟨128 + 8, by omega⟩ : Fin 256) : ℕ) - 128 = 8), hs]
      · have e : 128 + (j : ℕ) / 256 - 128 = j / 256 := by omega
        have h8 : (j : ℕ) / 256 < 8 := by omega
        rw [dif_neg (by simp), if_neg (by simp; omega), if_neg (by simp; omega), if_neg (by simp; omega)]
        simp only [e]
        rw [dif_pos h8, hg]
        refine ite_congr rfl (fun hjr => ?_) fun _ => rfl
        have hj7 : (j : ℕ) / 256 < 7 := by omega
        have h1 := fun j' => pen01_read (k0_pay11 q km) j' ⟨r - 256, by omega⟩ (r / 256) (by rw [Nat.add_sub_cancel' hr']) (mgate q km) rfl
        have h3 := fun j' => pen23_read nfull (mgate q km) (lad1 q km) j' ⟨r - 256, by omega⟩ (r / 256) hn hw
        have h5 := fun j' => pen45_read nfull (mgate q km) (lad3 q km) j' ⟨r - 256, by omega⟩ (r / 256) hn hw
        rw [hg] at h1 h3 h5
        have h : lad5 q km (ix2 ⟨j / 256, h8⟩ ⟨r - 256, by omega⟩) = if (j : ℕ) / 256 = 5 then pen (gateOf qr mr r) (r / 256) 5
            else if (j : ℕ) / 256 = 4 then pen (gateOf qr mr r) (r / 256) 4 else if (j : ℕ) / 256 = 3 then pen (gateOf qr mr r) (r / 256) 3
            else if (j : ℕ) / 256 = 2 then pen (gateOf qr mr r) (r / 256) 2 else if (j : ℕ) / 256 = 1 then pen (gateOf qr mr r) (r / 256) 1
            else if (j : ℕ) / 256 = 0 then pen (gateOf qr mr r) (r / 256) 0 else 0 :=
          (h5 _).trans (ite_congr rfl (fun _ => rfl) fun _ => ite_congr rfl (fun _ => rfl) fun _ =>
            (h3 _).trans (ite_congr rfl (fun _ => rfl) fun _ => ite_congr rfl (fun _ => rfl) fun _ => h1 _))
        rw [h]
        exact ladder_eq (pen (gateOf qr mr r) (r / 256)) _ hj7
  obtain ⟨q0, q10, q9, q8, qb⟩ := hQ
  have a10 : qaug s q km (ix2 r ⟨128 + (10 : Fin 128), by omega⟩) = (((0 - S) * 256 * ((r / 256 : ℕ) : ℝ) : ℝ) : EReal) := q10
  have a9 : qaug s q km (ix2 r ⟨128 + (9 : Fin 128), by omega⟩) = ((S * 256 : ℝ) : EReal) := q9
  have a8 : qaug s q km (ix2 r ⟨128 + (8 : Fin 128), by omega⟩) = (S : EReal) := q8
  simp only [a10, a9, a8, qb, q0]
  rw [sum_coe_mul, ← EReal.coe_mul, ← EReal.coe_mul, ← EReal.coe_add, ← EReal.coe_add, ← add_assoc, ← EReal.coe_add]
  rfl

end score

end Cert.Moba

end
-- ==== Proof.KerBlock.lean ====
module

public import proofs.«01_k».proof.Proof.KerScore

/-!
# One block of query rows

The kernel goes over the query rows 256 at a time.  A block of rows is scored against its own keys, those after the row
masked, and against all keys before the block; the row maximum, the exponentials, and the division by their sum follow.
Here a block's result is the attention written over all positions.
-/

@[expose] public section

set_option maxRecDepth 16384

noncomputable section

namespace Cert.Moba

open Cert.KernelIdeal Cert.KernelIdeal.Gen Idealize.ShloMosaic Idealize.ShloMosaic.TcCoe Idealize.SL.Sem
open scoped BigOperators

/-- The score of a row of the block on a position of its own block, masked after the row. -/
def ownScore (N : ℕ) (hN : N + 256 ≤ 2048) (qa ka : FVec Ideal S2048x256 .bf16) (i x : Fin 256) : EReal :=
  Scalar.select (IntOp.cmpi .sge (BitVec.ofNat 32 (i : ℕ)) (BitVec.ofNat 32 (x : ℕ)))
    (∑ l : Fin 256, qa (ix2 ⟨N + i, by omega⟩ l) * ka (ix2 ⟨N + x, by omega⟩ l) : EReal) (Named.named Cert.KernelIdeal.κ "mask" 0xF149F2CA#32 : Ideal .f32)

/-- The score of a row of the block on a position before the block. -/
def pastScore (N : ℕ) (hN : N + 256 ≤ 2048) (qa ka : FVec Ideal S2048x256 .bf16) (i : Fin 256) (x : Fin N) : EReal :=
  ∑ l : Fin 256, qa (ix2 ⟨N + i, by omega⟩ l) * ka (ix2 ⟨x, by omega⟩ l)

/-- The maximum of the row. -/
def rowMax (N : ℕ) (hN : N + 256 ≤ 2048) (qa ka : FVec Ideal S2048x256 .bf16) (i : Fin 256) : EReal :=
  max (Finset.univ.fold max (Ideal.ofBits .f32 0xFF800000#32) fun x => ownScore N hN qa ka i x)
    (Finset.univ.fold max (Ideal.ofBits .f32 0xFF800000#32) fun x => pastScore N hN qa ka i x)

/-- A row of a block that has keys before it. -/
def blockRow (N : ℕ) (hN : N + 256 ≤ 2048) (v : FVec Ideal S2048x128 .bf16) (qa ka : FVec Ideal S2048x256 .bf16) (i : Fin 256) (d : Fin 128) : EReal :=
  Ideal.div
    ((∑ x, Ideal.exp (ownScore N hN qa ka i x - rowMax N hN qa ka i) * v (ix2 ⟨N + x, by omega⟩ d))
      + ∑ x : Fin N, Ideal.exp (pastScore N hN qa ka i x - rowMax N hN qa ka i) * v (ix2 ⟨x, by omega⟩ d))
    ((∑ x, Ideal.exp (ownScore N hN qa ka i x - rowMax N hN qa ka i)) + ∑ x : Fin N, Ideal.exp (pastScore N hN qa ka i x - rowMax N hN qa ka i))

/-- The score of a row of the first block. -/
def firstScore (qa ka : FVec Ideal S2048x256 .bf16) (i x : Fin 256) : EReal :=
  Scalar.select (IntOp.cmpi .sge (BitVec.ofNat 32 (i : ℕ)) (BitVec.ofNat 32 (x : ℕ)))
    (∑ l : Fin 256, qa (ix2 ⟨i, by omega⟩ l) * ka (ix2 ⟨x, by omega⟩ l) : EReal) (Named.named Cert.KernelIdeal.κ "mask" 0xF149F2CA#32 : Ideal .f32)

/-- A row of the first block. -/
def firstRow (v : FVec Ideal S2048x128 .bf16) (qa ka : FVec Ideal S2048x256 .bf16) (i : Fin 256) (d : Fin 128) : EReal :=
  Ideal.div
    (∑ x, Ideal.exp (firstScore qa ka i x - Finset.univ.fold max (Ideal.ofBits .f32 0xFF800000#32) fun x => firstScore qa ka i x) * v (ix2 ⟨x, by omega⟩ d))
    (∑ x, Ideal.exp (firstScore qa ka i x - Finset.univ.fold max (Ideal.ofBits .f32 0xFF800000#32) fun x => firstScore qa ka i x))

section payloads

variable (v : FVec Ideal S2048x128 .bf16) (ka qa : FVec Ideal S2048x256 .bf16) (i : Fin 256) (d : Fin 128)

theorem pay1_read :
    k0_pay42 (F := Ideal) v (k0_pay36 ka qa) (k0_pay37 ka qa (iota .tc S256x256 32 [0] iota_S256x256_d0_w32))
        (k0_pay39 ka qa (iota .tc S256x256 32 [0] iota_S256x256_d0_w32)) (k0_pay40 ka qa (iota .tc S256x256 32 [0] iota_S256x256_d0_w32))
        (k0_pay41 v) (constant S256x128 .f32 0x00000000#32) (ix3 0 i d)
      = blockRow 256 (by decide) v qa ka i d := by
  pointwise [k0_pay42, k0_pay36, k0_pay37, k0_pay39, k0_pay40, k0_pay41, k0_pay32, k0_pay35, k0_pay38, k0_pay31]
  rfl

theorem pay2_read :
    k0_pay51 (F := Ideal) (k0_pay49 (k0_pay31 (iota .tc S256x256 32 [0] iota_S256x256_d0_w32)) (k0_pay34 ka qa))
        (k0_pay50 v (k0_pay31 (iota .tc S256x256 32 [0] iota_S256x256_d0_w32)) (k0_pay34 ka qa)) (ix3 0 i d)
      = blockRow 512 (by decide) v qa ka i d := by
  pointwise [k0_pay51, k0_pay49, k0_pay50, k0_pay48, k0_pay47, k0_pay46, k0_pay45, k0_pay44, k0_pay34, k0_pay31]
  rfl

theorem pay3_read :
    k0_pay53 (F := Ideal) v (k0_pay31 (iota .tc S256x256 32 [0] iota_S256x256_d0_w32)) (k0_pay43 ka qa) (ix3 0 i d)
      = blockRow 768 (by decide) v qa ka i d := by
  pointwise [k0_pay53, k0_pay43, k0_pay31]
  rfl

theorem pay4_read :
    k0_pay55 (F := Ideal) v (k0_pay31 (iota .tc S256x256 32 [0] iota_S256x256_d0_w32)) (k0_pay52 ka qa) (ix3 0 i d)
      = blockRow 1024 (by decide) v qa ka i d := by
  pointwise [k0_pay55, k0_pay52, k0_pay31]
  rfl

theorem pay5_read :
    k0_pay61 (F := Ideal) v (k0_pay57 (k0_pay31 (iota .tc S256x256 32 [0] iota_S256x256_d0_w32)) (k0_pay54 ka qa)) (k0_pay58 (k0_pay54 ka qa))
        (k0_pay59 (k0_pay31 (iota .tc S256x256 32 [0] iota_S256x256_d0_w32)) (k0_pay54 ka qa))
        (k0_pay60 (k0_pay31 (iota .tc S256x256 32 [0] iota_S256x256_d0_w32)) (k0_pay54 ka qa)) (ix3 0 i d)
      = blockRow 1280 (by decide) v qa ka i d := by
  pointwise [k0_pay61, k0_pay57, k0_pay58, k0_pay59, k0_pay60, k0_pay54, k0_pay31]
  rfl

theorem pay6_read :
    k0_pay71 (F := Ideal) v (k0_pay67 (k0_pay31 (iota .tc S256x256 32 [0] iota_S256x256_d0_w32)) (k0_pay56 ka qa))
        (k0_pay68 v (k0_pay31 (iota .tc S256x256 32 [0] iota_S256x256_d0_w32)) (k0_pay56 ka qa))
        (k0_pay69 (k0_pay31 (iota .tc S256x256 32 [0] iota_S256x256_d0_w32)) (k0_pay56 ka qa))
        (k0_pay70 (k0_pay31 (iota .tc S256x256 32 [0] iota_S256x256_d0_w32)) (k0_pay56 ka qa)) (ix3 0 i d)
      = blockRow 1536 (by decide) v qa ka i d := by
  pointwise [k0_pay71, k0_pay67, k0_pay68, k0_pay69, k0_pay70, k0_pay66, k0_pay65, k0_pay64, k0_pay63, k0_pay56, k0_pay31]
  rfl

theorem pay7_read :
    k0_pay1 (F := Ideal) (k0_pay76 v (k0_pay31 (iota .tc S256x256 32 [0] iota_S256x256_d0_w32)) (k0_pay62 ka qa))
        (k0_pay78 (k0_pay31 (iota .tc S256x256 32 [0] iota_S256x256_d0_w32)) (k0_pay62 ka qa))
        (k0_pay79 (k0_pay31 (iota .tc S256x256 32 [0] iota_S256x256_d0_w32)) (k0_pay62 ka qa))
        (k0_pay80 v) (constant S256x128 .f32 0x00000000#32) (ix3 0 i d)
      = blockRow 1792 (by decide) v qa ka i d := by
  pointwise [k0_pay1, k0_pay76, k0_pay78, k0_pay79, k0_pay80, k0_pay77, k0_pay75, k0_pay74, k0_pay73, k0_pay72, k0_pay62, k0_pay31]
  rfl

/-- The first block has no keys before it. -/
theorem pay0_read : k0_pay33 (F := Ideal) v ka qa (iota .tc S256x256 32 [0] iota_S256x256_d0_w32) (ix3 0 i d) = firstRow v qa ka i d := by
  pointwise [k0_pay33, k0_pay31]
  rfl

end payloads

/-- The kernel's score with the penalty of its block. -/
def penScore (σ S : ℝ) (q k : Fin 2048 → Fin 128 → ℝ) (mean : Fin 8 → Fin 128 → ℝ) (r j : Fin 2048) : EReal :=
  (kscore σ S q k r j : EReal) + if (j : ℕ) / 256 < r / 256 then pen (gateOf q mean r) (r / 256) ⟨j / 256, by omega⟩ else 0

theorem penScore_ne_top (σ S : ℝ) (q k : Fin 2048 → Fin 128 → ℝ) (mean : Fin 8 → Fin 128 → ℝ) (r j : Fin 2048) : penScore σ S q k mean r j ≠ ⊤ := by
  unfold penScore pen
  split
  · split
    · rw [add_zero]; exact EReal.coe_ne_top _
    · rw [EReal.add_bot]; exact bot_ne_top
  · rw [add_zero]; exact EReal.coe_ne_top _

theorem penScore_self (σ S : ℝ) (q k : Fin 2048 → Fin 128 → ℝ) (mean : Fin 8 → Fin 128 → ℝ) (r : Fin 2048) : penScore σ S q k mean r r ≠ ⊥ := by
  unfold penScore
  rw [if_neg (lt_irrefl _), add_zero]
  exact EReal.coe_ne_bot _

/-- The two parts of the kernel's bias make up the distance, up to a part that is the same along the row. -/
theorem kscore_eq (σ S : ℝ) (q k : Fin 2048 → Fin 128 → ℝ) (r j : Fin 2048) :
    kscore σ S q k r j = S * ((r % 256 : ℕ) : ℝ) + score σ S q k r j := by
  have hr : (r : ℝ) = 256 * ((r / 256 : ℕ) : ℝ) + ((r % 256 : ℕ) : ℝ) := by exact_mod_cast (Nat.div_add_mod (r : ℕ) 256).symm
  have hj : (j : ℝ) = 256 * ((j / 256 : ℕ) : ℝ) + ((j % 256 : ℕ) : ℝ) := by exact_mod_cast (Nat.div_add_mod (j : ℕ) 256).symm
  unfold kscore score
  rw [hr, hj, Finset.sum_mul, Finset.sum_congr rfl fun d _ => mul_right_comm (q r d) σ (k j d)]
  ring

/-- The kernel's weights are the attention's, up to a factor that is the same along the row. -/
theorem wt_penScore (σ S : ℝ) (q k : Fin 2048 → Fin 128 → ℝ) (mean : Fin 8 → Fin 128 → ℝ) (r j : Fin 2048) :
    (if (j : ℕ) ≤ r then wt (penScore σ S q k mean r j) else 0) = Real.exp (S * ((r % 256 : ℕ) : ℝ)) * weight σ S q k mean r j := by
  have he : wt ((kscore σ S q k r j : ℝ) : EReal) = Real.exp (S * ((r % 256 : ℕ) : ℝ)) * Real.exp (score σ S q k r j) := by
    rw [wt_coe, kscore_eq, Real.exp_add]
  unfold weight penScore pen
  by_cases hjr : (j : ℕ) ≤ r
  · rw [if_pos hjr]
    by_cases hb : (j : ℕ) / 256 < r / 256
    · rw [if_pos hb]
      by_cases hk : rank (gateOf q mean r) ⟨j / 256, by omega⟩ < 3
      · rw [if_pos ⟨hk, hb⟩, add_zero, he, if_pos (show Kept (gateOf q mean r) r j from Or.inr ⟨hb, hk⟩)]
      · rw [if_neg fun h => hk h.1, EReal.add_bot, wt_bot, if_neg, mul_zero]
        rintro (h | h)
        · exact absurd h.1 hb.ne
        · exact hk h.2
    · rw [if_neg hb, add_zero, he, if_pos (show Kept (gateOf q mean r) r j from Or.inl ⟨by omega, hjr⟩)]
  · rw [if_neg hjr, if_neg, mul_zero]
    rintro (h | h)
    · exact hjr h.2
    · have := h.1; omega

section rows

variable (s : FVec Ideal S1x1 .f32) (q : FVec Ideal S2048x128 .f32) (k v : FVec Ideal S2048x128 .bf16) (km : FVec Ideal S1x8x128 .f32)
  (S σ : ℝ) (qr kr : Fin 2048 → Fin 128 → ℝ) (mr : Fin 8 → Fin 128 → ℝ)
  (hs : s (ix2 0 0) = (S : EReal)) (hσ : Ideal.ofBits .f32 0x3DB504F3#32 = (σ : EReal))
  (hq : ∀ r d, q (ix2 r d) = (qr r d : EReal)) (hk : ∀ r d, k (ix2 r d) = (kr r d : EReal))
  (hm : ∀ r d, km (ix3 0 r d) = (mr r d : EReal))

include hs hσ hq hk hm

/-- A block with keys before it. -/
theorem blockRow_eq (n N : ℕ) (hn : N = 256 * n) (hN : N + 256 ≤ 2048) (i : Fin 256) (d : Fin 128) :
    blockRow N hN v (qaug s q km) (kaug k) i d = attend σ S qr kr mr (fun j => v (ix2 j d)) ⟨N + i, by omega⟩ := by
  set r : Fin 2048 := ⟨N + i, by omega⟩ with hr
  have hrv : (r : ℕ) = N + i := rfl
  have hown : ∀ x : Fin 256, ownScore N hN (qaug s q km) (kaug k) i x
      = if (x : ℕ) ≤ i then penScore σ S qr kr mr r ⟨N + x, by omega⟩ else ⊥ := fun x => by
    unfold ownScore
    rw [named_mask, WordCmp.cmpi_sge_ofNat (by omega) (by omega), select_decide]
    refine if_congr Iff.rfl ?_ rfl
    exact score_read s q k km S σ qr kr mr hs hσ hq hk hm r ⟨N + x, by omega⟩ (by show (N + (x : ℕ)) / 256 ≤ (N + (i : ℕ)) / 256; omega)
  have hpast : ∀ x : Fin N, pastScore N hN (qaug s q km) (kaug k) i x = penScore σ S qr kr mr r ⟨x, by omega⟩ := fun x => by
    unfold pastScore
    exact score_read s q k km S σ qr kr mr hs hσ hq hk hm r ⟨x, by omega⟩ (by show (x : ℕ) / 256 ≤ (N + (i : ℕ)) / 256; omega)
  have ho : ∀ x, ownScore N hN (qaug s q km) (kaug k) i x ≠ ⊤ := fun x => by
    rw [hown]; split
    · exact penScore_ne_top _ _ _ _ _ _ _
    · exact bot_ne_top
  have hp : ∀ x, pastScore N hN (qaug s q km) (kaug k) i x ≠ ⊤ := fun x => by
    rw [hpast]; exact penScore_ne_top _ _ _ _ _ _ _
  have hi : ownScore N hN (qaug s q km) (kaug k) i i ≠ ⊥ := by
    rw [hown, if_pos (le_refl _)]; exact penScore_self _ _ _ _ _ _
  obtain ⟨m₁, hm₁⟩ := fold_max_real _ ho i hi
  obtain ⟨m, hM⟩ := max_real hm₁ (fold_max_ne_top _ hp)
  have hM' : rowMax N hN (qaug s q km) (kaug k) i = (m : EReal) := by
    unfold rowMax; rw [ofBits_neg_inf]; exact hM
  unfold blockRow
  rw [hM', row_div_end _ _ _ _ ho hp i hi m]
  unfold attend
  rw [← dense_scale _ (Real.exp_pos (S * ((r % 256 : ℕ) : ℝ))).ne' _ (fun j => if (j : ℕ) ≤ r then wt (penScore σ S qr kr mr r j) else 0) _
    fun j => wt_penScore σ S qr kr mr r j]
  have hw1 : ∀ x : Fin 256, (if ((⟨N + x, by omega⟩ : Fin 2048) : ℕ) ≤ r then wt (penScore σ S qr kr mr r ⟨N + x, by omega⟩) else 0)
      = wt (ownScore N hN (qaug s q km) (kaug k) i x) := fun x => by
    rw [hown]
    by_cases h : (x : ℕ) ≤ i
    · rw [if_pos h, if_pos (by show N + (x : ℕ) ≤ N + i; omega)]
    · rw [if_neg h, if_neg (by show ¬ N + (x : ℕ) ≤ N + i; omega), wt_bot]
  have hw2 : ∀ x : Fin N, (if ((⟨x, by omega⟩ : Fin 2048) : ℕ) ≤ r then wt (penScore σ S qr kr mr r ⟨x, by omega⟩) else 0)
      = wt (pastScore N hN (qaug s q km) (kaug k) i x) := fun x => by
    rw [hpast, if_pos (by show (x : ℕ) ≤ N + i; omega)]
  have ht : ∑ j : Fin 2048, (if (j : ℕ) ≤ r then wt (penScore σ S qr kr mr r j) else 0)
      = total (ownScore N hN (qaug s q km) (kaug k) i) (pastScore N hN (qaug s q km) (kaug k) i) := by
    rw [sum_block N hN]
    · simp only [hw1, hw2]; rfl
    · intro j hj; rw [if_neg (by omega)]
  unfold dense
  rw [ht, sum_block N hN]
  · simp only [hw1, hw2]
  · intro j hj; beta_reduce; rw [if_neg (by omega), zero_div, EReal.coe_zero, zero_mul]

/-- The first block. -/
theorem firstRow_eq (i : Fin 256) (d : Fin 128) :
    firstRow v (qaug s q km) (kaug k) i d = attend σ S qr kr mr (fun j => v (ix2 j d)) ⟨i, by omega⟩ := by
  set r : Fin 2048 := ⟨i, by omega⟩ with hr
  have hrv : (r : ℕ) = i := rfl
  have hown : ∀ x : Fin 256, firstScore (qaug s q km) (kaug k) i x
      = if (x : ℕ) ≤ i then penScore σ S qr kr mr r ⟨x, by omega⟩ else ⊥ := fun x => by
    unfold firstScore
    rw [named_mask, WordCmp.cmpi_sge_ofNat (by omega) (by omega), select_decide]
    refine if_congr Iff.rfl ?_ rfl
    exact score_read s q k km S σ qr kr mr hs hσ hq hk hm r ⟨x, by omega⟩ (by show (x : ℕ) / 256 ≤ (i : ℕ) / 256; omega)
  have ho : ∀ x, firstScore (qaug s q km) (kaug k) i x ≠ ⊤ := fun x => by
    rw [hown]; split
    · exact penScore_ne_top _ _ _ _ _ _ _
    · exact bot_ne_top
  have hi : firstScore (qaug s q km) (kaug k) i i ≠ ⊥ := by
    rw [hown, if_pos (le_refl _)]; exact penScore_self _ _ _ _ _ _
  obtain ⟨m, hM⟩ := fold_max_real _ ho i hi
  unfold firstRow
  rw [ofBits_neg_inf, hM]
  have h0 := row_div_end (firstScore (qaug s q km) (kaug k) i) (fun _ : Fin 0 => (0 : EReal)) (fun x => v (ix2 ⟨x, by omega⟩ d)) (fun _ => 0) ho
    (fun b => b.elim0) i hi m
  simp only [Finset.univ_eq_empty, Finset.sum_empty, add_zero] at h0
  rw [h0]
  unfold attend
  rw [← dense_scale _ (Real.exp_pos (S * ((r % 256 : ℕ) : ℝ))).ne' _ (fun j => if (j : ℕ) ≤ r then wt (penScore σ S qr kr mr r j) else 0) _
    fun j => wt_penScore σ S qr kr mr r j]
  have hw0 : ∀ x : Fin 256, (if (x : ℕ) ≤ r then wt (penScore σ S qr kr mr r ⟨x, by omega⟩) else 0)
      = wt (firstScore (qaug s q km) (kaug k) i x) := fun x => by
    rw [hown]
    by_cases h : (x : ℕ) ≤ i
    · rw [if_pos h, if_pos h]
    · rw [if_neg h, if_neg h, wt_bot]
  have ht : ∑ j : Fin 2048, (if (j : ℕ) ≤ r then wt (penScore σ S qr kr mr r j) else 0)
      = total (firstScore (qaug s q km) (kaug k) i) (fun _ : Fin 0 => (0 : EReal)) := by
    rw [sum_block 0 (by decide)]
    · simp only [zero_add, hw0, total, Finset.univ_eq_empty, Finset.sum_empty]
    · intro j hj; rw [if_neg (by omega)]
  unfold dense
  rw [ht, sum_block 0 (by decide)]
  · simp only [zero_add, hw0, Finset.univ_eq_empty, Finset.sum_empty, add_zero]
  · intro j hj; beta_reduce; rw [if_neg (by omega), zero_div, EReal.coe_zero, zero_mul]

end rows

end Cert.Moba

end
-- ==== Proof.KerValue.lean ====
/- The kernel's result array.  Every block of rows that a grid point writes is the attention of the head's queries,
   keys, values and block means. -/
module

public import proofs.«01_k».proof.Proof.KerBlock
public import proofs.«01_k».proof.Proof.Gen.KernelIdeal.Value
public import Idealize.ShloMosaic.Lib.Claim
public import Idealize.ShloMosaic.Lib.Pipeline.ValueKit

@[expose] public section

set_option maxRecDepth 16384

noncomputable section

namespace Cert.Moba

open Cert.KernelIdeal Cert.KernelIdeal.Gen Idealize.ShloMosaic Idealize.ShloMosaic.TcCoe Idealize.SL.Sem
open Idealize.ShloMosaic.Pipeline (Dat)

/-- The factor both programs multiply the scores by. -/
def scale : ℝ := (Ideal.ofBits .f32 0x3DB504F3#32).toReal

theorem scale_eq : Ideal.ofBits .f32 0x3DB504F3#32 = ↑scale := by
  obtain ⟨σ, h⟩ := ofBits_scale
  rw [scale, h, EReal.toReal_coe]

/-- One entry of the array both programs compute: per batch and head the attention over the kept keys. -/
def attn (slope : Fin 8 → ℝ) (a0 a1 : S16x2048x1024.Idx → ℝ) (a2 : S16x2048x1024.Idx → EReal)
    (a3 : S16x8x1024.Idx → ℝ) (b : Fin 16) (r : Fin 2048) (h : Fin 8) (e : Fin 128) : EReal :=
  attend scale (slope h) (fun r d => a0 (ix3 b r ⟨h * 128 + d, by omega⟩)) (fun r d => a1 (ix3 b r ⟨h * 128 + d, by omega⟩))
    (fun n d => a3 (ix3 b n ⟨h * 128 + d, by omega⟩)) (fun j => a2 (ix3 b j ⟨h * 128 + e, by omega⟩)) r

/-- The array both programs compute. -/
def attnA (slope : Fin 8 → ℝ) (a0 a1 : S16x2048x1024.Idx → ℝ) (a2 : S16x2048x1024.Idx → EReal)
    (a3 : S16x8x1024.Idx → ℝ) : S16x2048x1024.Idx → EReal := fun y =>
  have h2 : (y 2 : ℕ) < 1024 := (y 2).isLt
  attn slope a0 a1 a2 a3 (y 0) (y 1) ⟨(y 2 : ℕ) / 128, by omega⟩ ⟨(y 2 : ℕ) % 128, by omega⟩

theorem attnA_eq (slope : Fin 8 → ℝ) (a0 a1 : S16x2048x1024.Idx → ℝ) (a2 : S16x2048x1024.Idx → EReal) (a3 : S16x8x1024.Idx → ℝ)
    (y : S16x2048x1024.Idx) (b : Fin 16) (r : Fin 2048) (h : Fin 8) (e : Fin 128) (h0 : y 0 = b) (h1 : y 1 = r)
    (h2 : (y 2 : ℕ) = h * 128 + e) : attnA slope a0 a1 a2 a3 y = attn slope a0 a1 a2 a3 b r h e := by
  have h3 : (y 2 : ℕ) < 1024 := (y 2).isLt
  have e1 : (⟨(y 2 : ℕ) / 128, by omega⟩ : Fin 8) = h := Fin.ext (by show (y 2 : ℕ) / 128 = _; omega)
  have e2 : (⟨(y 2 : ℕ) % 128, by omega⟩ : Fin 128) = e := Fin.ext (by show (y 2 : ℕ) % 128 = _; omega)
  show attn slope a0 a1 a2 a3 (y 0) (y 1) ⟨(y 2 : ℕ) / 128, by omega⟩ ⟨(y 2 : ℕ) % 128, by omega⟩ = _
  rw [e1, e2, h0, h1]

/-- The printed expression of a head's slope. -/
def slopeE (h : Fin 8) : EReal :=
  Ideal.exp (Ideal.ofBits .f32 0x3F317218#32 *
    Ideal.div (Ideal.ofBits .f32 0xC1000000#32 * (1 + (FloatOps.sitofp .f32 (BitVec.ofNat 32 (h : ℕ)) : Ideal .f32)))
      (Ideal.ofBits .f32 0x41000000#32))

/-- A head's slope. -/
def slope (h : Fin 8) : ℝ := (slopeE h).toReal

theorem slope_eq (h : Fin 8) : slopeE h = ↑(slope h) := by
  have ha : ∃ a : ℝ, Ideal.ofBits .f32 0x3F317218#32 = ↑a := by
    simp only [Ideal.ofBits, Ideal.ieee]
    exact ⟨_, rfl⟩
  have hb : ∃ a : ℝ, Ideal.ofBits .f32 0xC1000000#32 = ↑a := by
    simp only [Ideal.ofBits, Ideal.ieee]
    exact ⟨_, rfl⟩
  have hc : Ideal.ofBits .f32 0x41000000#32 = ((8 : ℝ) : EReal) := by
    simp [Ideal.ofBits, Ideal.ieee, -EReal.coe_mul]; norm_num
  obtain ⟨a, ha⟩ := ha
  obtain ⟨b, hb⟩ := hb
  have h : slopeE h = ((Real.exp (a * (b * (1 + ((h : ℕ) : ℝ)) * (1 / 8))) : ℝ) : EReal) := by
    unfold slopeE
    rw [ha, hb, hc, sitofp_ofNat _ (by omega), Ideal.div_coe (by norm_num)]
    norm_cast
  rw [slope, h, EReal.toReal_coe]

variable (m : (ℓ : Loc nD τ sig) → Buf (Elt Ideal) ℓ)

theorem idx : ∀ t : Fin cfg0.N, win0_0.index t = ![t.val % 8, 0, 0] ∧ win0_1.index t = ![t.val / 8, 0, t.val % 8]
    ∧ win0_2.index t = ![t.val / 8, 0, t.val % 8] ∧ win0_3.index t = ![t.val / 8, 0, t.val % 8]
    ∧ win0_4.index t = ![t.val / 8, 0, t.val % 8] ∧ win0_5.index t = ![t.val / 8, 0, t.val % 8] :=
  (by decide +kernel : ∀ t : Fin grid0.N, _)

theorem slope_read (c : Dev nD) (h : Fin 8) (i : Fin 8) (l : Fin 128) : V m c main_v11 (ix3 h i l) = slopeE h := by
  entry_read
  pointwise
  rfl

section block

variable (x0 : Vec Ideal S1x8x128 .f32) (x1 : Vec Ideal S1x2048x128 .f32) (x2 x3 : Vec Ideal S1x2048x128 .bf16)
  (x4 : Vec Ideal S1x8x128 .f32)

theorem s_read : k0_pay2 (F := Ideal) (View.ld x0 r0_0) (ix2 0 0) = x0 (ix3 0 0 0) := by
  pointwise [k0_pay2]
  blk_ext
theorem q_read (r : Fin 2048) (d : Fin 128) : k0_pay3 (F := Ideal) (View.ld x1 r0_1) (ix2 r d) = x1 (ix3 0 r d) := by
  pointwise [k0_pay3]
  blk_ext
theorem k_read (r : Fin 2048) (d : Fin 128) : k0_pay4 (F := Ideal) (View.ld x2 r0_1) (ix2 r d) = x2 (ix3 0 r d) := by
  pointwise [k0_pay4]
  blk_ext
theorem v_read (r : Fin 2048) (d : Fin 128) : k0_pay5 (F := Ideal) (View.ld x3 r0_1) (ix2 r d) = x3 (ix3 0 r d) := by
  pointwise [k0_pay5]
  blk_ext
theorem m_read (r : Fin 8) (d : Fin 128) : (View.ld x4 r0_2 : Vec Ideal S1x8x128 .f32) (ix3 0 r d) = x4 (ix3 0 r d) := by
  first | (pointwise; done) | (pointwise; blk_ext; done) | (show x4 (r0_2.emb (ix3 0 r d)) = _; congr 1; funext a; fin_cases a <;> (ext; simp [r0_2]); done) | skip

theorem ka_pay : k0_pay86 (F := Ideal) x0 x1 x2 x3 x4 = kaug (k0_pay4 (View.ld x2 r0_1)) := rfl

theorem qa_pay : k0_pay94 (F := Ideal) x0 x1 x2 x3 x4
    = qaug (k0_pay2 (View.ld x0 r0_0)) (k0_pay3 (View.ld x1 r0_1)) (View.ld x4 r0_2) := rfl

/-- What one grid point writes, from the five blocks it reads. -/
theorem point (S : ℝ) (qr kr : Fin 2048 → Fin 128 → ℝ) (mr : Fin 8 → Fin 128 → ℝ) (hs : x0 (ix3 0 0 0) = ↑S)
    (hq : ∀ r d, x1 (ix3 0 r d) = ↑(qr r d)) (hk : ∀ r d, x2 (ix3 0 r d) = ↑(kr r d))
    (hm : ∀ r d, x4 (ix3 0 r d) = ↑(mr r d)) (y : S1x2048x128.Idx) (r : Fin 2048) (d : Fin 128) (hr : (y 1 : ℕ) = r)
    (hd : (y 2 : ℕ) = d) :
    out0_5 x0 x1 x2 x3 x4 y = attend scale S qr kr mr (fun j => x3 (ix3 0 j d)) r := by
  have B := fun n N hn hN => blockRow_eq (k0_pay2 (View.ld x0 r0_0)) (k0_pay3 (View.ld x1 r0_1)) (k0_pay4 (View.ld x2 r0_1))
    (k0_pay5 (View.ld x3 r0_1)) (View.ld x4 r0_2) S scale qr kr mr ((s_read x0).trans hs) scale_eq
    (fun r d => (q_read x1 r d).trans (hq r d)) (fun r d => (k_read x2 r d).trans (hk r d))
    (fun r d => (m_read x4 r d).trans (hm r d)) n N hn hN
  have B0 := firstRow_eq (k0_pay2 (View.ld x0 r0_0)) (k0_pay3 (View.ld x1 r0_1)) (k0_pay4 (View.ld x2 r0_1))
    (k0_pay5 (View.ld x3 r0_1)) (View.ld x4 r0_2) S scale qr kr mr ((s_read x0).trans hs) scale_eq
    (fun r d => (q_read x1 r d).trans (hq r d)) (fun r d => (k_read x2 r d).trans (hk r d))
    (fun r d => (m_read x4 r d).trans (hm r d))
  simp only [v_read, ← ka_pay x0 x1 x2 x3 x4, ← qa_pay x0 x1 x2 x3 x4] at B B0
  unfold out0_5
  canon_tiles x h
  all_goals
    obtain ⟨i, a, b, rfl⟩ : ∃ (i : Fin 1) (a : Fin 256) (b : Fin 128), x = ix3 i a b :=
      ⟨x 0, x 1, x 2, by funext k; fin_cases k <;> rfl⟩
    obtain rfl : i = 0 := Subsingleton.elim _ _
    obtain rfl : d = b := Fin.ext (hd.symm.trans h2)
    have hy := hr.symm.trans h1
  case piece0 =>
    rw [show r = ⟨1792 + a, by omega⟩ from Fin.ext hy]
    exact (pay7_read _ _ _ a d).trans (B 7 1792 rfl (by decide) a d)
  case piece1 =>
    rw [show r = ⟨1536 + a, by omega⟩ from Fin.ext hy]
    exact (pay6_read _ _ _ a d).trans (B 6 1536 rfl (by decide) a d)
  case piece2 =>
    rw [show r = ⟨1280 + a, by omega⟩ from Fin.ext hy]
    exact (pay5_read _ _ _ a d).trans (B 5 1280 rfl (by decide) a d)
  case piece3 =>
    rw [show r = ⟨1024 + a, by omega⟩ from Fin.ext hy]
    exact (pay4_read _ _ _ a d).trans (B 4 1024 rfl (by decide) a d)
  case piece4 =>
    rw [show r = ⟨768 + a, by omega⟩ from Fin.ext hy]
    exact (pay3_read _ _ _ a d).trans (B 3 768 rfl (by decide) a d)
  case piece5 =>
    rw [show r = ⟨512 + a, by omega⟩ from Fin.ext hy]
    exact (pay2_read _ _ _ a d).trans (B 2 512 rfl (by decide) a d)
  case piece6 =>
    rw [show r = ⟨256 + a, by omega⟩ from Fin.ext hy]
    exact (pay1_read _ _ _ a d).trans (B 1 256 rfl (by decide) a d)
  case piece7 =>
    rw [show r = ⟨a, by omega⟩ from Fin.ext hy]
    exact (pay0_read _ _ _ a d).trans (B0 a d)

end block

theorem final (c : Dev nD) (slope : Fin 8 → ℝ) (hS : ∀ h, slopeE h = ↑(slope h)) (a0 a1 : S16x2048x1024.Idx → ℝ) (a3 : S16x8x1024.Idx → ℝ)
    (h0 : ∀ i, m ((c : Thread nD τ).loc main_arg0) i = (↑(a0 i) : EReal)) (h1 : ∀ i, m ((c : Thread nD τ).loc main_arg1) i = (↑(a1 i) : EReal))
    (h3 : ∀ i, m ((c : Thread nD τ).loc main_arg3) i = (↑(a3 i) : EReal)) :
    (dats m 0 c).arrAt 5 cfg0.N = attnA slope a0 a1 (m ((c : Thread nD τ).loc main_arg2)) a3 := by
  refine (dats m 0 c).arrAt_eq_of_covers 5 _ (by decide +kernel) fun t _ y => ?_
  have ht : t.val < 128 := lt_of_lt_of_eq t.isLt N_0
  blk_simp
  rw [after0_5]
  obtain ⟨b, hb⟩ : ∃ b : Fin 16, (b : ℕ) = t.val / 8 := ⟨⟨t.val / 8, by omega⟩, rfl⟩
  obtain ⟨g, hg⟩ : ∃ g : Fin 8, (g : ℕ) = t.val % 8 := ⟨⟨t.val % 8, by omega⟩, rfl⟩
  rw [point _ _ _ _ _ (slope g) (fun r d => a0 (ix3 b r ⟨g * 128 + d, by omega⟩))
    (fun r d => a1 (ix3 b r ⟨g * 128 + d, by omega⟩)) (fun n d => a3 (ix3 b n ⟨g * 128 + d, by omega⟩)) ?_ ?_ ?_ ?_ y (y 1) (y 2) rfl rfl]
  · have e0 : (win0_5.blk t).view.emb y 0 = b := by
      ext; blk_simp [idx t]; omega
    have e1 : (win0_5.blk t).view.emb y 1 = y 1 := by
      ext; blk_simp [idx t]
    have e2 : ((win0_5.blk t).view.emb y 2 : ℕ) = g * 128 + (y 2 : ℕ) := by
      blk_simp [idx t]; omega
    have e : attnA slope a0 a1 (m ((c : Thread nD τ).loc main_arg2)) a3 ((win0_5.blk t).view.emb y)
        = attn slope a0 a1 (m ((c : Thread nD τ).loc main_arg2)) a3 b (y 1) g (y 2) := by
      exact attnA_eq _ _ _ _ _ _ _ _ _ _ e0 e1 e2
    rw [e]
    unfold attn
    congr 1
    funext j
    blk_ext [iblk, V, idx t]
  · rw [← hS, ← slope_read m c g 0 0]
    blk_ext [iblk, idx t]
  · intro r d
    rw [← h0]
    blk_ext [iblk, V, idx t]
  · intro r d
    rw [← h1]
    blk_ext [iblk, V, idx t]
  · intro r d
    rw [← h3]
    blk_ext [iblk, V, idx t]

end Cert.Moba

end
-- ==== Proof.RefSelect.lean ====
/- The reference read at an index, one stretch of operations at a time: its gates, the positions its top-k gives, the
   blocks it gathers, its scores, its softmax and its result. -/
module

public import proofs.«01_k».proof.Proof.KerValue
public import proofs.«01_k».proof.Proof.Gen.ReferenceIdeal.Run
public import proofs.«01_k».proof.Proof.Gen.ReferenceIdeal.Read
public import Idealize.ShloMosaic.Lib.Pointwise
public import Idealize.ShloMosaic.Lib.WordCmp

@[expose] public section

set_option maxRecDepth 16384

noncomputable section

namespace Cert.MobaRef

open Cert.Moba Cert.ReferenceIdeal Cert.ReferenceIdeal.Gen Cert.ReferenceIdeal.Read Idealize.ShloMosaic Idealize.ShloMosaic.TcCoe Idealize.SL.Sem

variable (x0 : FVec Ideal S16x2048x1024 .f32) (x1 x2 : FVec Ideal S16x2048x1024 .bf16) (x3 : FVec Ideal S16x8x1024 .f32)

theorem slope_raw (h : Fin 8) : val_main_v9 (F := Ideal) (ix1 h) = slopeE h := by
  pointwise [val_main_v9, val_main_v8, val_main_v7, val_main_v6, val_main_v5, val_main_v4, val_main_v3, val_main_v2, val_main_v1, val_main_v0, val_main_cst, val_main_cst_0, val_main_cst_1, val_main_cst_2]
  rfl

theorem gate_raw (b : Fin 16) (h : Fin 8) (r : Fin 2048) (n : Fin 8) : val_main_v27 (F := Ideal) x0 x3 (ix4 b h r n)
    = Scalar.select (IntOp.cmpi .slt (BitVec.ofNat 32 (n : ℕ)) (IntOp.divsi .host (BitVec.ofNat 32 (r : ℕ)) 256#32))
      (∑ x : Fin 128, x0 (ix3 b r ⟨h * 128 + x, by omega⟩) * x3 (ix3 b n ⟨h * 128 + x, by omega⟩) : EReal) (Ideal.ofBits .f32 0xFF800000#32) := by
  pointwise [val_main_v27, val_main_call0_v1, val_main_call0_v2, val_main_call0_v0, val_main_cst_3, val_main_v18, val_main_v11, val_main_v10, val_main_v16, val_main_v26, val_main_v25, val_main_v24, val_main_v23, val_main_v22, val_main_v21, val_main_v20, val_main_v19, val_main_v17, val_main_c]
  rfl

/-- The score of a position of the row's own block. -/
theorem own_raw (b : Fin 16) (h n : Fin 8) (i j : Fin 256) : val_main_v72 (F := Ideal) x0 x1 (ix5 b h n i j)
    = Scalar.select (IntOp.cmpi .sle (BitVec.ofNat 32 (j : ℕ)) (BitVec.ofNat 32 (i : ℕ)))
      ((∑ x : Fin 128, x0 (ix3 b ⟨n * 256 + i, by omega⟩ ⟨h * 128 + x, by omega⟩) * x1 (ix3 b ⟨n * 256 + j, by omega⟩ ⟨h * 128 + x, by omega⟩) : EReal)
          * Ideal.ofBits .f32 0x3DB504F3#32
        - slopeE h * (FloatOps.sitofp .f32 (IntOp.subi (BitVec.ofNat 32 (i : ℕ)) (BitVec.ofNat 32 (j : ℕ))) : Ideal .f32))
      (Ideal.ofBits .f32 0xFF800000#32) := by
  rw [← slope_raw h]
  pointwise [val_main_v72, val_main_call1_v1, val_main_call1_v2, val_main_call1_v0, val_main_cst_6, val_main_cst_5, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v34, val_main_v13, val_main_v12, val_main_v11, val_main_v10]
  rfl

/-- The score of a position of a chosen block, the block read through the gather. -/
theorem sel_raw (b : Fin 16) (h : Fin 8) (r : Fin 2048) (t : Fin 3) (l : Fin 256) : val_main_v88 (F := Ideal) x0 x1 x3 (ix5 b h r t l)
    = Scalar.select (IntOp.cmpi .slt (BitVec.ofNat 32 (t : ℕ)) (IntOp.divsi .host (BitVec.ofNat 32 (r : ℕ)) 256#32))
      ((∑ x : Fin 128, x0 (ix3 b r ⟨h * 128 + x, by omega⟩) * val_main_v37 (F := Ideal) x0 x1 x3 (ix6 b h r t l x) : EReal)
          * Ideal.ofBits .f32 0x3DB504F3#32
        - slopeE h * (FloatOps.sitofp .f32 (IntOp.subi (BitVec.ofNat 32 (r : ℕ))
            (IntOp.addi (IntOp.muli (val_main_indices (F := Ideal) x0 x3 (ix4 b h r t)) 256#32) (BitVec.ofNat 32 (l : ℕ)))) : Ideal .f32))
      (Ideal.ofBits .f32 0xFF800000#32) := by
  rw [← slope_raw h]
  pointwise [val_main_v88, val_main_call2_v1, val_main_call2_v2, val_main_call2_v0, val_main_cst_8, val_main_cst_7, val_main_v87, val_main_v86, val_main_v85, val_main_v84, val_main_v83, val_main_v82, val_main_v81, val_main_v80, val_main_v79, val_main_v78, val_main_v77, val_main_v76, val_main_v75, val_main_v74, val_main_v47, val_main_v46, val_main_v45, val_main_v44, val_main_v43, val_main_v42, val_main_v41, val_main_v40, val_main_c_4, val_main_v33, val_main_v32, val_main_v31, val_main_v30, val_main_v29, val_main_v28, val_main_v20, val_main_v19, val_main_v17, val_main_c, val_main_v11, val_main_v10]
  rfl

/-- The row of scores: the chosen blocks', then the own block's. -/
theorem cat_raw (b : Fin 16) (h : Fin 8) (r : Fin 2048) (x : Fin 1024) : val_main_v90 (F := Ideal) x0 x1 x3 (ix4 b h r x)
    = if hx : (x : ℕ) < 768 then val_main_v88 (F := Ideal) x0 x1 x3 (ix5 b h r ⟨x / 256, by omega⟩ ⟨x % 256, by omega⟩)
      else val_main_v72 (F := Ideal) x0 x1 (ix5 b h ⟨r / 256, by omega⟩ ⟨r % 256, by omega⟩ ⟨x - 768, by omega⟩) := by
  pointwise [val_main_v90, val_main_v89, val_main_v73]

theorem max_raw (b : Fin 16) (h : Fin 8) (r : Fin 2048) : val_main_v91 (F := Ideal) x0 x1 x3 (ix3 b h r)
    = Finset.univ.fold max (Ideal.ofBits .f32 0xFF800000#32) fun x => val_main_v90 (F := Ideal) x0 x1 x3 (ix4 b h r x) := by
  unfold val_main_v91
  generalize val_main_v90 (F := Ideal) x0 x1 x3 = X
  pointwise [val_main_cst_9]

theorem exp_raw (b : Fin 16) (h : Fin 8) (r : Fin 2048) (x : Fin 1024) : val_main_v97 (F := Ideal) x0 x1 x3 (ix4 b h r x)
    = Ideal.exp (val_main_v90 (F := Ideal) x0 x1 x3 (ix4 b h r x)
        - max (Ideal.ofBits .f32 0xFF800000#32) (val_main_v91 (F := Ideal) x0 x1 x3 (ix3 b h r))) := by
  have e : idx_main_v94 (idx_main_v95 (ix4 b h r x)) = ix3 b h r := by
    funext a; fin_cases a <;> rfl
  rw [val_main_v97_apply, val_main_v96_apply, val_main_v95_apply, val_main_v94_apply, val_main_v93_apply, val_main_v92_apply, e]
  rfl

theorem sum_raw (b : Fin 16) (h : Fin 8) (r : Fin 2048) : val_main_v98 (F := Ideal) x0 x1 x3 (ix3 b h r)
    = ∑ x : Fin 1024, (val_main_v97 (F := Ideal) x0 x1 x3 (ix4 b h r x) : EReal) := by
  pointwise [val_main_v98, val_main_cst_11]

/-- One row of the softmax at a place. -/
def prob (b : Fin 16) (h : Fin 8) (r : Fin 2048) (x : Fin 1024) : EReal :=
  Ideal.div (val_main_v97 (F := Ideal) x0 x1 x3 (ix4 b h r x)) (val_main_v98 (F := Ideal) x0 x1 x3 (ix3 b h r))

theorem sel_out (b : Fin 16) (h : Fin 8) (r : Fin 2048) (d : Fin 128) : val_main_v104 (F := Ideal) x0 x1 x2 x3 (ix4 b h r d)
    = ∑ l : Fin 256, ∑ t : Fin 3, prob x0 x1 x3 b h r ⟨t * 256 + l, by omega⟩ * val_main_v39 (F := Ideal) x0 x2 x3 (ix6 b h r t l d) := by
  have e : ∀ t l, val_main_v103 (F := Ideal) x0 x1 x3 (ix5 b h r t l) = prob x0 x1 x3 b h r ⟨t * 256 + l, by omega⟩ := fun t l => by
    pointwise [val_main_v103, val_main_v102, val_main_v101, val_main_v100, val_main_v99]
    rfl
  simp only [← e]
  unfold val_main_v104
  generalize val_main_v103 (F := Ideal) x0 x1 x3 = X
  generalize val_main_v39 (F := Ideal) x0 x2 x3 = Y
  pointwise

theorem own_out (b : Fin 16) (h : Fin 8) (r : Fin 2048) (d : Fin 128) : val_main_v108 (F := Ideal) x0 x1 x2 x3 (ix4 b h r d)
    = ∑ x : Fin 256, prob x0 x1 x3 b h r ⟨768 + x, by omega⟩ * x2 (ix3 b ⟨r / 256 * 256 + x, by omega⟩ ⟨h * 128 + d, by omega⟩) := by
  have e : ∀ x, val_main_v101 (F := Ideal) x0 x1 x3 (ix4 b h r x) = prob x0 x1 x3 b h r x := fun x => by
    pointwise [val_main_v101, val_main_v100, val_main_v99]
    rfl
  simp only [← e]
  unfold val_main_v108 val_main_v107 val_main_v106 val_main_v105
  generalize val_main_v101 (F := Ideal) x0 x1 x3 = X
  pointwise [val_main_v35, val_main_v15, val_main_v14]

theorem out_raw (b : Fin 16) (h : Fin 8) (r : Fin 2048) (d : Fin 128) :
    val_main_v111 (F := Ideal) x0 x1 x2 x3 (ix3 b r ⟨h * 128 + d, by omega⟩)
      = (val_main_v104 (F := Ideal) x0 x1 x2 x3 (ix4 b h r d) + val_main_v108 (F := Ideal) x0 x1 x2 x3 (ix4 b h r d) : EReal) := by
  have e : idx_main_v110 (idx_main_v111 (ix3 b r ⟨h * 128 + d, by omega⟩)) = ix4 b h r d := by
    funext a
    apply Fin.ext
    fin_cases a
    · show (((b : ℕ) * 2048 + r) * 1024 + (h * 128 + d)) / 2097152 = b
      omega
    · show (((b : ℕ) * 2048 + r) * 1024 + (h * 128 + d)) / 128 % 8 = h
      omega
    · show (((b : ℕ) * 2048 + r) * 1024 + (h * 128 + d)) / 1024 % 2048 = r
      omega
    · show (((b : ℕ) * 2048 + r) * 1024 + (h * 128 + d)) % 128 = d
      omega
  rw [val_main_v111_apply, val_main_v110_apply, val_main_v109_apply, e]
  rfl

/-- The reference's top-k gives the positions of the stable descending sort. -/
theorem topk_read (x : FVec Ideal S16x8x2048x8 .f32) (g : Fin 8 → EReal) (b : Fin 16) (h : Fin 8) (r : Fin 2048) (hg : ∀ n, x (ix4 b h r n) = g n) (t : Fin 3) :
    (Host.topK S16x8x2048x3 3 (FloatOps.cmpfTotal .gt) x sliceFits_S16x8x2048x8_S16x8x2048x3).2 (ix4 b h r t)
      = BitVec.ofNat 32 (pick g (t.castLE (by decide)) : ℕ) := by
  have key : (fun k k' : Fin 8 => (FloatOps.cmpfTotal .gt (x ((ix4 b h r (t.castLE (by decide)) : S16x8x2048x8.Idx).along 3 k)) (x ((ix4 b h r (t.castLE (by decide)) : S16x8x2048x8.Idx).along 3 k')) == 1#1))
      = fun k k' => decide (g k' < g k) := by
    funext k k'
    have e : ∀ k : Fin 8, (ix4 b h r (t.castLE (by decide)) : S16x8x2048x8.Idx).along 3 k = ix4 b h r k := fun k => by
      funext a; fin_cases a <;> rfl
    rw [e, e, hg, hg]
    show (BitVec.ofBool (decide (g k' < g k)) == 1#1) = _
    by_cases hlt : g k' < g k <;> simp [hlt]
  have e0 : ∀ j : S16x8x2048x8.Idx, j = ix4 b h r (t.castLE (by decide)) →
      (Host.sort2 S16x8x2048x8 3 (fun l r => FloatOps.cmpfTotal .gt l.1 r.1) x (fun i => BitVec.ofNat 32 (i 3 : ℕ))).2 j
        = BitVec.ofNat 32 (pick g (t.castLE (by decide)) : ℕ) := by
    rintro _ rfl
    show BitVec.ofNat 32 (sortedFrom _ _ : ℕ) = _
    unfold pick
    rw [← key]
    rfl
  refine e0 _ ?_
  funext a
  apply Fin.ext
  fin_cases a <;> exact Nat.zero_add _

theorem toInt_small : ∀ n : Fin 8, min (BitVec.ofNat 32 (n : ℕ)).toInt.toNat 7 + 0 + 0 = (n : ℕ) := by decide

/-- The gather reads the chosen block. -/
theorem gather_read (X : FVec Ideal S16x8x8x256x128 .f32) (I : IVec S16x8x2048x3x1 32) (b : Fin 16) (h : Fin 8) (r : Fin 2048) (t : Fin 3)
    (l : Fin 256) (d : Fin 128) (n : Fin 8) (hn : I (ix5 b h r t 0) = BitVec.ofNat 32 (n : ℕ)) :
    Host.gather gather_S16x8x8x256x128_S16x8x2048x3x1_S16x8x2048x3x256x128_45_2_01_01_2_4_111256128 X I (ix6 b h r t l d)
      = X (ix5 b h n l d) := by
  unfold Host.gather
  congr 1
  funext a
  have hs : (gather_S16x8x8x256x128_S16x8x2048x3x1_S16x8x2048x3x256x128_45_2_01_01_2_4_111256128.siIdx (ix6 b h r t l d) ⟨0, by decide⟩)
      = ix5 b h r t 0 := by
    funext a; fin_cases a <;> rfl
  apply Fin.ext
  fin_cases a
  · show 0 + (b : ℕ) + 0 = b
    omega
  · show 0 + (h : ℕ) + 0 = h
    omega
  · show min (I (gather_S16x8x8x256x128_S16x8x2048x3x1_S16x8x2048x3x256x128_45_2_01_01_2_4_111256128.siIdx (ix6 b h r t l d) ⟨0, by decide⟩)).toInt.toNat 7 + 0 + 0 = n
    rw [hs, hn]
    exact toInt_small n
  · show 0 + 0 + (l : ℕ)  = l
    omega
  · show 0 + 0 + (d : ℕ)  = d
    omega

/-- The chosen keys. -/
theorem k_sel (b : Fin 16) (h : Fin 8) (r : Fin 2048) (t : Fin 3) (l : Fin 256) (d : Fin 128) (n : Fin 8)
    (hn : val_main_indices (F := Ideal) x0 x3 (ix4 b h r t) = BitVec.ofNat 32 (n : ℕ)) :
    val_main_v37 (F := Ideal) x0 x1 x3 (ix6 b h r t l d) = x1 (ix3 b ⟨n * 256 + l, by omega⟩ ⟨h * 128 + d, by omega⟩) := by
  refine (gather_read _ _ b h r t l d n ?_).trans ?_
  · rw [← hn]
    generalize hI : val_main_indices (F := Ideal) x0 x3 = I
    unfold val_main_v36
    rw [hI]
    pointwise
  · pointwise [val_main_v34, val_main_v13, val_main_v12]

/-- The chosen values. -/
theorem v_sel (b : Fin 16) (h : Fin 8) (r : Fin 2048) (t : Fin 3) (l : Fin 256) (d : Fin 128) (n : Fin 8)
    (hn : val_main_indices (F := Ideal) x0 x3 (ix4 b h r t) = BitVec.ofNat 32 (n : ℕ)) :
    val_main_v39 (F := Ideal) x0 x2 x3 (ix6 b h r t l d) = x2 (ix3 b ⟨n * 256 + l, by omega⟩ ⟨h * 128 + d, by omega⟩) := by
  refine (gather_read _ _ b h r t l d n ?_).trans ?_
  · rw [← hn]
    generalize hI : val_main_indices (F := Ideal) x0 x3 = I
    unfold val_main_v38
    rw [hI]
    pointwise
  · pointwise [val_main_v35, val_main_v15, val_main_v14]

theorem div_word : ∀ r : Fin 2048, IntOp.divsi .host (BitVec.ofNat 32 (r : ℕ)) 256#32 = BitVec.ofNat 32 ((r : ℕ) / 256) := by
  decide +kernel

theorem sub_word (a b : ℕ) (ha : a < 2 ^ 30) (hb : b < 2 ^ 30) :
    (FloatOps.sitofp .f32 (IntOp.subi (BitVec.ofNat 32 a) (BitVec.ofNat 32 b)) : Ideal .f32) = (((a : ℝ) - (b : ℝ) : ℝ) : EReal) := by
  show (((BitVec.ofNat 32 a - BitVec.ofNat 32 b).toInt : ℝ) : EReal) = _
  have e : (BitVec.ofNat 32 a - BitVec.ofNat 32 b).toInt = (a : ℤ) - (b : ℤ) := by
    rw [BitVec.toInt_sub, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    apply Int.bmod_eq_of_le <;> omega
  rw [e]
  push_cast
  rfl

theorem pos_word : ∀ (n : Fin 8) (l : Fin 256), IntOp.addi (IntOp.muli (BitVec.ofNat 32 (n : ℕ)) 256#32) (BitVec.ofNat 32 (l : ℕ)) = BitVec.ofNat 32 ((n : ℕ) * 256 + l) := by
  decide +kernel

end Cert.MobaRef

end
-- ==== Proof.RefSum.lean ====
/- A sum over all positions of which only the kept ones count, as the reference lays it out: the three chosen blocks, then
   the row's own block. -/
module

public import proofs.«01_k».proof.Proof.Dense
public import proofs.«01_k».proof.Proof.Softmax

@[expose] public section

noncomputable section

namespace Cert.Moba

open Idealize.ShloMosaic
open scoped BigOperators

theorem gateOf_past (q : Fin 2048 → Fin 128 → ℝ) (mean : Fin 8 → Fin 128 → ℝ) (r : Fin 2048) (j : Fin 8) (h : (j : ℕ) < r / 256) :
    gateOf q mean r j ≠ ⊥ := by
  unfold gateOf
  rw [if_pos h]
  exact EReal.coe_ne_bot _

theorem gateOf_rest (q : Fin 2048 → Fin 128 → ℝ) (mean : Fin 8 → Fin 128 → ℝ) (r : Fin 2048) (j : Fin 8) (h : ¬ (j : ℕ) < r / 256) :
    gateOf q mean r j = ⊥ := by
  unfold gateOf
  rw [if_neg h]

/-- A sum over the kept positions: the chosen blocks that are past, and the own block. -/
theorem sum_kept {M : Type} [AddCommMonoid M] (q : Fin 2048 → Fin 128 → ℝ) (mean : Fin 8 → Fin 128 → ℝ) (r : Fin 2048) (f : Fin 2048 → M)
    (hf : ∀ j, ¬ Kept (gateOf q mean r) r j → f j = 0) :
    ∑ j, f j = (∑ l : Fin 256, ∑ t : Fin 3, if (t : ℕ) < r / 256
        then f ⟨pick (gateOf q mean r) (t.castLE (by decide)) * 256 + l, by omega⟩ else 0)
      + ∑ l : Fin 256, f ⟨r / 256 * 256 + l, by omega⟩ := by
  rw [Fin.sum_univ_tiles 8 256 rfl f, Finset.sum_comm, ← Finset.sum_add_distrib]
  refine Finset.sum_congr rfl fun l _ => ?_
  rw [← sum_selected (gateOf q mean r) (r / 256) (by omega) (gateOf_past q mean r) (gateOf_rest q mean r) fun n => f ⟨n * 256 + l, by omega⟩]
  have own : f ⟨r / 256 * 256 + l, by omega⟩ = ∑ n : Fin 8, if n = ⟨r / 256, by omega⟩ then f ⟨n * 256 + l, by omega⟩ else 0 := by
    rw [Finset.sum_ite_eq' Finset.univ (⟨r / 256, by omega⟩ : Fin 8) fun n => f ⟨n * 256 + l, by omega⟩, if_pos (Finset.mem_univ _)]
  rw [own, ← Finset.sum_add_distrib]
  refine Finset.sum_congr rfl fun n _ => ?_
  by_cases h1 : n = ⟨r / 256, by omega⟩
  · have hv : (n : ℕ) = r / 256 := by rw [h1]
    rw [if_pos h1, if_neg (by omega), zero_add]
  · have hv : (n : ℕ) ≠ r / 256 := fun h => h1 (Fin.ext h)
    rw [if_neg h1, add_zero]
    by_cases h2 : (n : ℕ) < r / 256 ∧ rank (gateOf q mean r) n < 3
    · rw [if_pos h2]
    · rw [if_neg h2]
      refine hf _ ?_
      have hd : ((n : ℕ) * 256 + l) / 256 = n := by omega
      rintro (⟨h, -⟩ | ⟨h, h'⟩)
      · exact hv (by rw [← hd]; exact h)
      · refine h2 ⟨by rw [← hd]; exact h, ?_⟩
        have e : (⟨((n : ℕ) * 256 + l) / 256, by omega⟩ : Fin 8) = n := Fin.ext hd
        rw [← e]
        exact h'

variable (σ S : ℝ) (q k : Fin 2048 → Fin 128 → ℝ) (mean : Fin 8 → Fin 128 → ℝ) (r : Fin 2048)

/-- A position of a past block that fewer than three blocks beat is kept. -/
theorem weight_past (n : Fin 8) (l : Fin 256) (hn : (n : ℕ) < r / 256) (hr : rank (gateOf q mean r) n < 3) :
    weight σ S q k mean r ⟨n * 256 + l, by omega⟩ = Real.exp (score σ S q k r ⟨n * 256 + l, by omega⟩) := by
  have hd : ((n : ℕ) * 256 + l) / 256 = n := by omega
  have e : (⟨((n : ℕ) * 256 + l) / 256, by omega⟩ : Fin 8) = n := Fin.ext hd
  exact if_pos (Or.inr ⟨hd.trans_lt hn, (congrArg (rank (gateOf q mean r)) e).trans_lt hr⟩)

/-- A chosen block's position is kept. -/
theorem weight_sel (t : Fin 3) (l : Fin 256) (ht : (t : ℕ) < r / 256) :
    weight σ S q k mean r ⟨pick (gateOf q mean r) (t.castLE (by decide)) * 256 + l, by omega⟩
      = Real.exp (score σ S q k r ⟨pick (gateOf q mean r) (t.castLE (by decide)) * 256 + l, by omega⟩) :=
  weight_past σ S q k mean r _ l
    ((pick_lt_iff (gateOf q mean r) (r / 256) (by omega) (gateOf_past q mean r) (gateOf_rest q mean r) _).mpr ht)
    (by rw [rank_pick]; exact t.isLt)

/-- A position of the own block is kept up to the row. -/
theorem weight_own (l : Fin 256) :
    weight σ S q k mean r ⟨r / 256 * 256 + l, by omega⟩
      = if (l : ℕ) ≤ r % 256 then Real.exp (score σ S q k r ⟨r / 256 * 256 + l, by omega⟩) else 0 := by
  unfold weight
  refine if_congr ?_ rfl rfl
  show (((r : ℕ) / 256 * 256 + l) / 256 = r / 256 ∧ (r : ℕ) / 256 * 256 + l ≤ r) ∨ (((r : ℕ) / 256 * 256 + l) / 256 < r / 256 ∧ _) ↔ _
  omega

/-- The softmax of the row laid out as the reference does, times the values. -/
theorem softmax_row (z : Fin 1024 → EReal) (v : Fin 2048 → EReal)
    (hsel : ∀ (t : Fin 3) (l : Fin 256), z ⟨t * 256 + l, by omega⟩ = if (t : ℕ) < r / 256
      then ((score σ S q k r ⟨pick (gateOf q mean r) (t.castLE (by decide)) * 256 + l, by omega⟩ : ℝ) : EReal) else ⊥)
    (hown : ∀ l : Fin 256, z ⟨768 + l, by omega⟩ = if (l : ℕ) ≤ r % 256
      then ((score σ S q k r ⟨r / 256 * 256 + l, by omega⟩ : ℝ) : EReal) else ⊥)
    (p : Fin 1024 → EReal) (hp : ∀ x, p x = Ideal.div (Ideal.exp (z x - max ⊥ (Finset.univ.fold max ⊥ z)))
      (∑ x', Ideal.exp (z x' - max ⊥ (Finset.univ.fold max ⊥ z)))) :
    (∑ l : Fin 256, ∑ t : Fin 3, p ⟨t * 256 + l, by omega⟩ * v ⟨pick (gateOf q mean r) (t.castLE (by decide)) * 256 + l, by omega⟩)
        + ∑ l : Fin 256, p ⟨768 + l, by omega⟩ * v ⟨r / 256 * 256 + l, by omega⟩
      = attend σ S q k mean v r := by
  have hz : ∀ x, z x ≠ ⊤ := fun x => by
    by_cases hx : (x : ℕ) < 768
    · have e : x = ⟨((⟨x / 256, by omega⟩ : Fin 3) : ℕ) * 256 + ((⟨x % 256, by omega⟩ : Fin 256) : ℕ), by show (x : ℕ) / 256 * 256 + x % 256 < 1024; omega⟩ :=
        Fin.ext (by show (x : ℕ) = x / 256 * 256 + x % 256; omega)
      rw [e, hsel]
      split
      · exact EReal.coe_ne_top _
      · exact bot_ne_top
    · have e : x = ⟨768 + ((⟨x - 768, by omega⟩ : Fin 256) : ℕ), by show 768 + ((x : ℕ) - 768) < 1024; omega⟩ :=
        Fin.ext (by show (x : ℕ) = 768 + (x - 768); omega)
      rw [e, hown]
      split
      · exact EReal.coe_ne_top _
      · exact bot_ne_top
  have hdiag : z ⟨768 + ((⟨r % 256, by omega⟩ : Fin 256) : ℕ), by show 768 + (r : ℕ) % 256 < 1024; omega⟩ ≠ ⊥ := by
    rw [hown, if_pos (le_refl _)]
    exact EReal.coe_ne_bot _
  obtain ⟨m, hm⟩ := fold_max_real z hz _ hdiag
  have hW := total_pos z (fun _ : Fin 0 => (0 : EReal)) _ hdiag
  have hS := total_exp z (fun _ : Fin 0 => (0 : EReal)) hz (fun b => b.elim0) m
  simp only [Finset.univ_eq_empty, Finset.sum_empty, add_zero] at hS
  have hp' : ∀ x, p x = ((wt (z x) / total z (fun _ : Fin 0 => (0 : EReal)) : ℝ) : EReal) := fun x => by
    rw [hp, hm, max_eq_right bot_le, hS]
    exact div_exp (hz x) m hW
  have wsel : ∀ (t : Fin 3) (l : Fin 256), wt (z ⟨t * 256 + l, by omega⟩) = if (t : ℕ) < r / 256
      then weight σ S q k mean r ⟨pick (gateOf q mean r) (t.castLE (by decide)) * 256 + l, by omega⟩ else 0 := fun t l => by
    rw [hsel]
    by_cases ht : (t : ℕ) < r / 256
    · rw [if_pos ht, if_pos ht, weight_sel σ S q k mean r t l ht, wt_coe]
    · rw [if_neg ht, if_neg ht, wt_bot]
  have wown : ∀ l : Fin 256, wt (z ⟨768 + l, by omega⟩) = weight σ S q k mean r ⟨r / 256 * 256 + l, by omega⟩ := fun l => by
    rw [hown, weight_own]
    by_cases hl : (l : ℕ) ≤ r % 256
    · rw [if_pos hl, if_pos hl, wt_coe]
    · rw [if_neg hl, if_neg hl, wt_bot]
  have hrest : ∀ j, ¬ Kept (gateOf q mean r) r j → weight σ S q k mean r j = 0 := fun j hj => if_neg hj
  have ht : total z (fun _ : Fin 0 => (0 : EReal)) = ∑ j, weight σ S q k mean r j := by
    unfold total
    rw [Finset.univ_eq_empty (α := Fin 0), Finset.sum_empty, add_zero, Fin.sum_univ_two_halves 768 256 rfl, sum_kept q mean r _ hrest,
      Fin.sum_univ_tiles 3 256 rfl, Finset.sum_comm]
    congr 1
    · exact Finset.sum_congr rfl fun l _ => Finset.sum_congr rfl fun t _ => wsel t l
    · exact Finset.sum_congr rfl fun l _ => wown l
  unfold attend dense
  rw [sum_kept q mean r _ fun j hj => by rw [hrest j hj, zero_div, EReal.coe_zero, zero_mul]]
  simp only [hp', wsel, wown, ht]
  congr 1
  refine Finset.sum_congr rfl fun l _ => Finset.sum_congr rfl fun t _ => ?_
  by_cases h : (t : ℕ) < r / 256
  · rw [if_pos h, if_pos h]
  · rw [if_neg h, if_neg h, zero_div, EReal.coe_zero, zero_mul]

end Cert.Moba

end
-- ==== Proof.RefValue.lean ====
/- The reference's result array is the attention of every head's queries, keys, values and block means. -/
module

public import proofs.«01_k».proof.Proof.RefSelect
public import proofs.«01_k».proof.Proof.RefSum

@[expose] public section

set_option maxRecDepth 16384

noncomputable section

namespace Cert.MobaRef

open Cert.Moba Cert.ReferenceIdeal Cert.ReferenceIdeal.Gen Cert.ReferenceIdeal.Read Idealize.ShloMosaic Idealize.ShloMosaic.TcCoe Idealize.SL.Sem

variable (x0 : FVec Ideal S16x2048x1024 .f32) (x1 x2 : FVec Ideal S16x2048x1024 .bf16) (x3 : FVec Ideal S16x8x1024 .f32)
  (a0 a1 : S16x2048x1024.Idx → ℝ) (a3 : S16x8x1024.Idx → ℝ)
  (h0 : ∀ i, x0 i = ((a0 i : ℝ) : EReal)) (h1 : ∀ i, x1 i = ((a1 i : ℝ) : EReal)) (h3 : ∀ i, x3 i = ((a3 i : ℝ) : EReal))
  (b : Fin 16) (h : Fin 8)

/-- The head's queries, or its keys. -/
def heads (a : S16x2048x1024.Idx → ℝ) (r : Fin 2048) (d : Fin 128) : ℝ := a (ix3 b r ⟨h * 128 + d, by omega⟩)

/-- The head's block means. -/
def means (r : Fin 8) (d : Fin 128) : ℝ := a3 (ix3 b r ⟨h * 128 + d, by omega⟩)

include h0 h3 in
theorem gate_eq (r : Fin 2048) (n : Fin 8) : val_main_v27 (F := Ideal) x0 x3 (ix4 b h r n) = gateOf (heads b h a0) (means a3 b h) r n := by
  rw [gate_raw, div_word, WordCmp.cmpi_slt_ofNat (by omega) (by omega), select_decide, ofBits_neg_inf]
  simp only [h0, h3]
  rw [sum_coe_mul]
  rfl

/-- The block chosen at place `t`. -/
def chosen (r : Fin 2048) (t : Fin 3) : Fin 8 := pick (gateOf (heads b h a0) (means a3 b h) r) (t.castLE (by decide))

include h0 h3 in
theorem index_eq (r : Fin 2048) (t : Fin 3) :
    val_main_indices (F := Ideal) x0 x3 (ix4 b h r t) = BitVec.ofNat 32 (chosen a0 a3 b h r t : ℕ) :=
  topk_read (val_main_v27 (F := Ideal) x0 x3) (gateOf (heads b h a0) (means a3 b h) r) b h r (gate_eq x0 x3 a0 a3 h0 h3 b h r) t

include h0 h1 h3 in
theorem sel_eq (r : Fin 2048) (t : Fin 3) (l : Fin 256) : val_main_v88 (F := Ideal) x0 x1 x3 (ix5 b h r t l)
    = if (t : ℕ) < r / 256 then ((score scale (slope h) (heads b h a0) (heads b h a1) r ⟨chosen a0 a3 b h r t * 256 + l, by omega⟩ : ℝ) : EReal)
      else ⊥ := by
  rw [sel_raw, div_word, WordCmp.cmpi_slt_ofNat (by omega) (by omega), select_decide, ofBits_neg_inf, index_eq x0 x3 a0 a3 h0 h3, pos_word,
    sub_word _ _ (by omega) (by omega)]
  simp only [k_sel x0 x1 x3 b h r t l _ _ (index_eq x0 x3 a0 a3 h0 h3 b h r t), h0, h1]
  rw [sum_coe_mul, scale_eq, slope_eq, ← EReal.coe_mul, ← EReal.coe_mul, ← EReal.coe_sub]
  rfl

include h0 h1 in
theorem own_eq (n : Fin 8) (i j : Fin 256) : val_main_v72 (F := Ideal) x0 x1 (ix5 b h n i j)
    = if (j : ℕ) ≤ i then ((score scale (slope h) (heads b h a0) (heads b h a1) ⟨n * 256 + i, by omega⟩ ⟨n * 256 + j, by omega⟩ : ℝ) : EReal)
      else ⊥ := by
  rw [own_raw, WordCmp.cmpi_sle_ofNat (by omega) (by omega), select_decide, ofBits_neg_inf, sub_word _ _ (by omega) (by omega)]
  simp only [h0, h1]
  rw [sum_coe_mul, scale_eq, slope_eq, ← EReal.coe_mul, ← EReal.coe_mul, ← EReal.coe_sub]
  unfold score
  have e : ((⟨(n : ℕ) * 256 + i, by omega⟩ : Fin 2048) : ℝ) - ((⟨(n : ℕ) * 256 + j, by omega⟩ : Fin 2048) : ℝ) = (i : ℝ) - (j : ℝ) := by
    push_cast
    ring
  rw [e]
  rfl

include h0 h1 h3 in
theorem out_eq (r : Fin 2048) (d : Fin 128) : val_main_v111 (F := Ideal) x0 x1 x2 x3 (ix3 b r ⟨h * 128 + d, by omega⟩)
    = attn slope a0 a1 x2 a3 b r h d := by
  have key := softmax_row scale (slope h) (heads b h a0) (heads b h a1) (means a3 b h) r
    (fun x => val_main_v90 (F := Ideal) x0 x1 x3 (ix4 b h r x)) (fun j => x2 (ix3 b j ⟨h * 128 + d, by omega⟩))
    (fun t l => by
      rw [cat_raw, dif_pos (by show (t : ℕ) * 256 + l < 768; omega)]
      refine Eq.trans ?_ (sel_eq x0 x1 x3 a0 a1 a3 h0 h1 h3 b h r t l)
      congr 2
      · exact Fin.ext (by show ((t : ℕ) * 256 + l) / 256 = t; omega)
      · exact Fin.ext (by show ((t : ℕ) * 256 + l) % 256 = l; omega))
    (fun l => by
      rw [cat_raw, dif_neg (by show ¬ 768 + (l : ℕ) < 768; omega)]
      refine Eq.trans ?_ ((own_eq x0 x1 a0 a1 h0 h1 b h ⟨r / 256, by omega⟩ ⟨r % 256, by omega⟩ l).trans ?_)
      · congr 2
        exact Fin.ext (by show 768 + (l : ℕ) - 768 = l; omega)
      · have e : (⟨(⟨r / 256, by omega⟩ : Fin 8) * 256 + (⟨r % 256, by omega⟩ : Fin 256), by show (r : ℕ) / 256 * 256 + r % 256 < 2048; omega⟩ : Fin 2048) = r :=
          Fin.ext (by show (r : ℕ) / 256 * 256 + r % 256 = r; omega)
        rw [e])
    (prob x0 x1 x3 b h r) (fun x => by
      unfold prob
      rw [sum_raw]
      simp only [exp_raw, max_raw, ofBits_neg_inf])
  rw [out_raw, sel_out, own_out]
  simp only [v_sel x0 x2 x3 b h r _ _ d _ (index_eq x0 x3 a0 a3 h0 h3 b h r _)]
  exact key

include h0 h1 h3 in
/-- The reference's result. -/
theorem final : val_main_v111 (F := Ideal) x0 x1 x2 x3 = attnA slope a0 a1 x2 a3 := by
  funext y
  have h2 : (y 2 : ℕ) < 1024 := (y 2).isLt
  have e : y = ix3 (y 0) (y 1) ⟨(⟨y 2 / 128, by omega⟩ : Fin 8) * 128 + (⟨y 2 % 128, by omega⟩ : Fin 128), by
      show (y 2 : ℕ) / 128 * 128 + (y 2 : ℕ) % 128 < 1024; omega⟩ := by
    funext a
    fin_cases a
    · rfl
    · rfl
    · exact Fin.ext (by show (y 2 : ℕ) = (y 2 : ℕ) / 128 * 128 + (y 2 : ℕ) % 128; omega)
  rw [attnA_eq slope a0 a1 x2 a3 y (y 0) (y 1) ⟨y 2 / 128, by omega⟩ ⟨y 2 % 128, by omega⟩ rfl rfl
    (by show (y 2 : ℕ) = (y 2 : ℕ) / 128 * 128 + (y 2 : ℕ) % 128; omega)]
  conv_lhs => rw [e]
  exact out_eq x0 x1 x2 x3 a0 a1 a3 h0 h1 h3 _ _ _ _

end Cert.MobaRef

end
-- ==== Proof.Entries.lean ====
/- What the precondition says of the arguments: every entry of the queries, the keys and the block means is a real number. -/
module

public import proofs.«01_k».proof.Defs
public import proofs.«01_k».proof.Proof.Gen.Pre_finite
public import Idealize.ShloMosaic.Lib.Pointwise

@[expose] public section

set_option maxRecDepth 16384

noncomputable section

namespace Cert.Moba

open Idealize.ShloMosaic

/-- An extended real whose absolute value is less than infinity is a real number. -/
theorem real_of_abs_lt (x : EReal) (h : max x (-x) < ⊤) : x = ((x.toReal : ℝ) : EReal) :=
  (EReal.coe_toReal (fun e => by rw [e] at h; simp at h) (fun e => by rw [e] at h; simp at h)).symm

/-- The infinity of the precondition's comparison. -/
theorem ofBits_inf : Ideal.ofBits .f32 0x7F800000#32 = (⊤ : EReal) := by
  simp [Ideal.ofBits, Ideal.ieee]

/-- A comparison that came out true is true. -/
theorem lt_of_word (x y : EReal) (h : BitVec.ofBool (decide (x < y)) = 1#1) : x < y := by
  by_contra hn
  rw [decide_eq_false hn] at h
  exact absurd h (by decide)

variable (x0 : FVec Ideal Cert.Pre_finite.S16x2048x1024 .f32) (x1 x2 : FVec Ideal Cert.Pre_finite.S16x2048x1024 .bf16)
  (x3 : FVec Ideal Cert.Pre_finite.S16x8x1024 .f32)

theorem queries_real (h : (Cert.Pre_finite.fn (F := Ideal) x0 x1 x2 x3).1 = fun _ => 1#1) (i) : x0 i = (((x0 i : EReal).toReal : ℝ) : EReal) := by
  refine real_of_abs_lt _ (lt_of_word _ _ (Eq.trans ?_ (congrFun h i)))
  rw [← ofBits_inf]
  rfl

theorem keys_real (h : (Cert.Pre_finite.fn (F := Ideal) x0 x1 x2 x3).2.1 = fun _ => 1#1) (i) : x1 i = (((x1 i : EReal).toReal : ℝ) : EReal) := by
  refine real_of_abs_lt _ (lt_of_word _ _ (Eq.trans ?_ (congrFun h i)))
  rw [← ofBits_inf]
  rfl

theorem means_real (h : (Cert.Pre_finite.fn (F := Ideal) x0 x1 x2 x3).2.2 = fun _ => 1#1) (i) : x3 i = (((x3 i : EReal).toReal : ℝ) : EReal) := by
  refine real_of_abs_lt _ (lt_of_word _ _ (Eq.trans ?_ (congrFun h i)))
  rw [← ofBits_inf]
  rfl

end Cert.Moba

end
-- ==== Proof.Claims.lean ====
/- The claims about the prompt attention: the three frames, the mask constant, and the equality of the two results. -/
module

public import proofs.«01_k».proof.Proof.KerValue
public import proofs.«01_k».proof.Proof.RefValue
public import proofs.«01_k».proof.Proof.Entries
public import proofs.«01_k».proof.Proof.Gen.Kernel.Frame
public import proofs.«01_k».proof.Proof.Gen.ReferenceIdeal.Run
public import Idealize.ShloMosaic.Lib.Claim
public import Idealize.ShloMosaic.Lib.Quiescent

@[expose] public section

noncomputable section

namespace Cert.Moba

open Idealize.ShloMosaic Idealize.ShloMosaic.TcCoe Idealize.SL.Sem

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite := fun m ρ _ => Cert.KernelIdeal.Gen.frame m ρ
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)
theorem frame_reference_pre : Cert.quiescent_ReferenceIdeal_pre_finite := fun m ρ _ => frame_reference m ρ trivial

theorem mask : Cert.preserves_Kernel_KernelIdeal :=
  IdealRules.named_const.statement Cert.KernelIdeal.κ "mask" .f32 0xF149F2CA#32 ⊥ rfl

theorem equal : Cert.algebraic_KernelIdeal_ReferenceIdeal_pre_finite := by
  intro m g m' g' hpre hagree
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun _ h c => ⟨(h c).1.trans ?_, (h c).2⟩) (Cert.ReferenceIdeal.Value.run (F := Ideal) m' g')
  obtain ⟨p0, p1, p3⟩ := hpre c
  obtain ⟨e0, e1, e2, e3⟩ := hagree c
  have r0 := queries_real _ _ _ _ p0
  have r1 := keys_real _ _ _ _ p1
  have r3 := means_real _ _ _ _ p3
  refine (Cert.ReferenceIdeal.Read.val_main_v111_eq m' c).trans ?_
  rw [e0, e1, e2, e3]
  exact (Cert.MobaRef.final _ _ _ _ _ _ _ r0 r1 r3).trans (final m c slope slope_eq _ _ _ r0 r1 r3).symm

end Cert.Moba

end
-- ==== Proof.DownValue.lean ====
/- The down projection: the kernel's result array is the residual plus the product of the activation with the weights, as the
   reference computes it. -/
module

public import proofs.«01_k».proof.Proof.Gen.Kernel2Ideal.Value
public import proofs.«01_k».proof.Proof.Gen.Kernel2.Frame
public import proofs.«01_k».proof.Proof.Gen.Reference2Ideal.Run
public import proofs.«01_k».proof.Proof.Gen.Reference2Ideal.Read
public import proofs.«01_k».proof.Defs
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.Down

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The array both programs compute. -/
abbrev down (x0 : FVec Ideal S32768x5632 .bf16) (x1 : FVec Ideal S32768x2048 .f32) (x2 : FVec Ideal S5632x2048 .f32) :
    FVec Ideal S32768x2048 .f32 := Cert.Reference2Ideal.Read.val_main_v2 (F := Ideal) x0 x1 x2

/-- Which block every window reads or writes at a grid point. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- What the body stores at an entry of a grid point's block. -/
theorem point (c : Dev nD) (t : Fin cfg0.N) (y : S512x2048.Idx) : k0_pay1 (F := Ideal) (iblk m c 1 t) (iblk m c 0 t) (iblk m c 2 t) y
    = down (m ((c : Thread nD τ).loc main_arg0)) (m ((c : Thread nD τ).loc main_arg1)) (m ((c : Thread nD τ).loc main_arg2))
        (((cfg0.win 3).blk t).view.emb y) := by
  pointwise [k0_pay1, down, Cert.Reference2Ideal.Read.val_main_v2, Cert.Reference2Ideal.Read.val_main_v1, Cert.Reference2Ideal.Read.val_main_v0]
  blk_point [iblk, V, idx t]

/-- The kernel's result array. -/
theorem final (c : Dev nD) : (dats m 0 c).arrAt 3 (cfgs 0).N
    = down (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem equal : Cert.algebraic_Kernel2Ideal_Reference2Ideal := by
  intro m g m' g' _ hagree
  refine ⟨fun c => (dats m 0 c).arrAt 3 cfg0.N, Cert.Kernel2Ideal.Value.run_blocks m g, ?_⟩
  refine (θ_run Cert.Reference2Ideal.defs _ _).mono (fun _ h c => ⟨(h c).1.trans ?_, (h c).2⟩) (Cert.Reference2Ideal.Value.run (F := Ideal) m' g')
  obtain ⟨e0, e1, e2⟩ := hagree c
  refine (Cert.Reference2Ideal.Read.val_main_v2_eq _ _ _).trans ?_
  rw [e0, e1, e2]
  exact (final m c).symm

end Cert.Down

end
-- ==== Proof.OutValue.lean ====
/- The output projection: the kernel's two result arrays are the residual sum and its normalised rows, as the reference computes
   them. -/
module

public import proofs.«01_k».proof.Proof.Gen.Kernel4Ideal.Value
public import proofs.«01_k».proof.Proof.Gen.Kernel4.Frame
public import proofs.«01_k».proof.Proof.Gen.Reference4Ideal.Run
public import proofs.«01_k».proof.Proof.Gen.Reference4Ideal.Read
public import proofs.«01_k».proof.Defs
public import Idealize.ShloMosaic.Lib.Pointwise
public import Idealize.ShloMosaic.Lib.Claim
public import Idealize.ShloMosaic.Lib.Quiescent
public import Idealize.ShloMosaic.Lib.Pipeline.ValueKit

@[expose] public section

set_option maxRecDepth 16384

noncomputable section

namespace Cert.OutProj

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Which block every window reads or writes at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0] ∧ win0_7.index t = ![t.val, 0] :=
  (by decide +kernel : ∀ t : Fin grid0.N, _)

open Cert.Reference4Ideal.Read

/-- The scratch the body fills with the three mixers' blocks, side by side. -/
def mix (p : Vec Ideal S512x512 .f32) (a : Vec Ideal S512x1024 .f32) (e : Vec Ideal S512x512 .f32) : Vec Ideal S512x2048 .bf16 :=
  View.canon (s := S512x2048) (e := .bf16) (Val := Elt Ideal) [⟨Rect.unit ![0, 1536] ![512, 512] inb_S512x2048_S512x512_0_1536, k0_pay4 (F := Ideal) e⟩,
    ⟨Rect.unit ![0, 512] ![512, 1024] inb_S512x2048_S512x1024_0_512, k0_pay3 (F := Ideal) a⟩,
    ⟨Rect.unit ![0, 0] ![512, 512] inb_S512x2048_S512x512_0_0, k0_pay2 (F := Ideal) p⟩]

/-- An entry of the scratch is the entry of the reference's concatenation. -/
theorem mix_at (p : Vec Ideal S512x512 .f32) (a : Vec Ideal S512x1024 .f32) (e : Vec Ideal S512x512 .f32)
    (x1 : FVec Ideal S32768x512 .f32) (x2 : FVec Ideal S32768x1024 .f32) (x3 : FVec Ideal S32768x512 .f32)
    (r : Fin 512) (R : Fin 32768) (hp : ∀ k, p (ix2 r k) = x1 (ix2 R k)) (ha : ∀ k, a (ix2 r k) = x2 (ix2 R k))
    (he : ∀ k, e (ix2 r k) = x3 (ix2 R k)) (k : Fin 2048) :
    mix p a e (ix2 r k) = val_main_v0 (F := Ideal) x1 x2 x3 (ix2 R k) := by
  unfold mix
  have cover : ∃ q ∈ ([⟨Rect.unit ![0, 1536] ![512, 512] inb_S512x2048_S512x512_0_1536, k0_pay4 (F := Ideal) e⟩,
      ⟨Rect.unit ![0, 512] ![512, 1024] inb_S512x2048_S512x1024_0_512, k0_pay3 (F := Ideal) a⟩,
      ⟨Rect.unit ![0, 0] ![512, 512] inb_S512x2048_S512x512_0_0, k0_pay2 (F := Ideal) p⟩] : List (View.Piece (Elt Ideal) S512x2048 .bf16)),
      (ix2 r k : S512x2048.Idx) ∈ q.1.set := by
    have hr := r.isLt
    have hk := k.isLt
    by_cases h1 : 1536 ≤ k.val
    · have hm : (ix2 r k : S512x2048.Idx) ∈ (Rect.unit (s := S512x2048) ![0, 1536] ![512, 512] inb_S512x2048_S512x512_0_1536).set := Rect.mem_set_unit.mpr fun a => by
        fin_cases a <;> simp <;> omega
      exact ⟨_, List.mem_cons_self, hm⟩
    by_cases h2 : 512 ≤ k.val
    · have hm : (ix2 r k : S512x2048.Idx) ∈ (Rect.unit (s := S512x2048) ![0, 512] ![512, 1024] inb_S512x2048_S512x1024_0_512).set := Rect.mem_set_unit.mpr fun a => by
        fin_cases a <;> simp <;> omega
      exact ⟨_, List.mem_cons_of_mem _ List.mem_cons_self, hm⟩
    · have hm : (ix2 r k : S512x2048.Idx) ∈ (Rect.unit (s := S512x2048) ![0, 0] ![512, 512] inb_S512x2048_S512x512_0_0).set := Rect.mem_set_unit.mpr fun a => by
        fin_cases a <;> simp <;> omega
      exact ⟨_, List.mem_cons_of_mem _ (List.mem_cons_of_mem _ List.mem_cons_self), hm⟩
  canon_tiles x h using cover
  all_goals
    obtain ⟨i, b, rfl⟩ : ∃ (i : Fin 512) (b : Fin _), x = ix2 i b := ⟨x 0, x 1, by funext k; fin_cases k <;> rfl⟩
    obtain rfl : r = i := Fin.ext h0
  all_goals (simp only [show ∀ (n n' : Nat) (a : Fin n) (b : Fin n'), ((ix2 a b : (⟨2, ![n, n']⟩ : Shape).Idx) 1).val = b.val from fun _ _ _ _ => rfl] at h1)
  case piece0 =>
    pointwise [k0_pay4, val_main_v0]
    have hb := b.isLt
    rw [he b]
    split_ifs <;> first | omega | (congr 2; apply Fin.ext; show b.val = _; simp only []; omega)
  case piece1 =>
    pointwise [k0_pay3, val_main_v0]
    have hb := b.isLt
    rw [ha b]
    split_ifs <;> first | omega | (congr 2; apply Fin.ext; show b.val = _; simp only []; omega)
  case piece2 =>
    pointwise [k0_pay2, val_main_v0]
    have hb := b.isLt
    rw [hp b]
    split_ifs <;> first | omega | (congr 2; apply Fin.ext; show b.val = _; simp only []; omega)

variable (X : Vec Ideal S512x2048 .f32) (W : Vec Ideal S2048x2048 .bf16) (N : Vec Ideal S1x2048 .f32)
  (p : Vec Ideal S512x512 .f32) (a : Vec Ideal S512x1024 .f32) (e : Vec Ideal S512x512 .f32)
  (x0 : FVec Ideal S32768x2048 .f32) (x1 : FVec Ideal S32768x512 .f32) (x2 : FVec Ideal S32768x1024 .f32) (x3 : FVec Ideal S32768x512 .f32)
  (x4 : FVec Ideal S2048x2048 .f32) (x5 : FVec Ideal S2048 .f32) (r : Fin 512) (R : Fin 32768)

/-- A row of the residual sum. -/
theorem sum_at (hx : ∀ k, X (ix2 r k) = x0 (ix2 R k)) (hp : ∀ k, p (ix2 r k) = x1 (ix2 R k)) (ha : ∀ k, a (ix2 r k) = x2 (ix2 R k))
    (he : ∀ k, e (ix2 r k) = x3 (ix2 R k)) (hw : ∀ k j, W (ix2 k j) = x4 (ix2 k j)) (j : Fin 2048) :
    k0_pay5 (F := Ideal) X (mix p a e) W (ix2 r j) = val_main_v2 (F := Ideal) x0 x1 x2 x3 x4 (ix2 R j) := by
  have hm := mix_at p a e x1 x2 x3 r R hp ha he
  generalize mix p a e = M at hm ⊢
  pointwise [k0_pay5, val_main_v2, val_main_v1]
  simp only [hx, hm, hw]

/-- A row of the normalised sum. -/
theorem norm_at (hx : ∀ k, X (ix2 r k) = x0 (ix2 R k)) (hp : ∀ k, p (ix2 r k) = x1 (ix2 R k)) (ha : ∀ k, a (ix2 r k) = x2 (ix2 R k))
    (he : ∀ k, e (ix2 r k) = x3 (ix2 R k)) (hw : ∀ k j, W (ix2 k j) = x4 (ix2 k j)) (hn : ∀ j, N (ix2 0 j) = x5 (ix1 j)) (j : Fin 2048) :
    k0_pay1 (F := Ideal) (k0_pay5 X (mix p a e) W) (k0_pay6 X (mix p a e) W) N (ix2 r j)
      = val_main_v16 (F := Ideal) x0 x1 x2 x3 x4 x5 (ix2 R j) := by
  have hs := sum_at X W p a e x0 x1 x2 x3 x4 r R hx hp ha he hw
  unfold k0_pay6
  generalize mix p a e = M at hs ⊢
  generalize k0_pay5 (F := Ideal) X M W = S at hs ⊢
  rw [val_main_v16_apply, val_main_v15_apply, val_main_v12_apply]
  unfold val_main_v11 val_main_v10 val_main_v9 val_main_v7 val_main_v5 val_main_v4 val_main_v3
  generalize val_main_v2 (F := Ideal) x0 x1 x2 x3 x4 = T at hs ⊢
  pointwise [k0_pay1, val_main_v14, val_main_v13, val_main_v8, val_main_v6, val_main_cst_0, val_main_cst_1, val_main_cst]
  simp only [hs, hn]

/-- The load of the whole scratch after the three stores. -/
theorem whole : ∀ j, (Rect.unit ![0, 0] ![512, 2048] inb_S512x2048_S512x2048_0_0 : Rect S512x2048).toLoadRect.idx j = j := fun j => by
  funext a; fin_cases a <;> (apply Fin.ext; simp [Rect.toLoadRect, Rect.unit, LoadRect.idx])

/-- The kernel's first result array. -/
theorem final6 (c : Dev nD) : (dats m 0 c).arrAt 6 (cfgs 0).N
    = val_main_v2 (F := Ideal) (m ((c : Thread nD τ).loc main_arg0)) (m ((c : Thread nD τ).loc main_arg1)) (m ((c : Thread nD τ).loc main_arg2))
       (m ((c : Thread nD τ).loc main_arg3)) (m ((c : Thread nD τ).loc main_arg4)) := by
  refine (dats m 0 c).arrAt_eq_of_covers 6 _ (by decide +kernel) fun t _ y => ?_
  blk_simp
  rw [after0_6]
  simp only [outsAt0]
  frame_out
  rw [View.readCov_eq_canon']
  simp only [whole]
  change k0_pay5 (F := Ideal) (iblk m c 0 t) (mix (iblk m c 1 t) (iblk m c 2 t) (iblk m c 3 t)) (iblk m c 4 t) y = _
  obtain ⟨r, j, rfl⟩ : ∃ (r : Fin 512) (j : Fin 2048), y = ix2 r j := ⟨y 0, y 1, by funext k; fin_cases k <;> rfl⟩
  have ht : t.val < 64 := t.isLt
  have hr := r.isLt
  have hR : ((View.whole main_v2_0).slice (win0_6.rect t)).emb (ix2 r j) = ix2 (⟨t.val * 512 + r.val, by omega⟩ : Fin 32768) j := by
    blk_ext [idx t]
  rw [hR]
  refine sum_at _ _ _ _ _ _ _ _ _ _ r _ ?_ ?_ ?_ ?_ ?_ j
  all_goals intros; blk_point [iblk, V, idx t]

/-- The kernel's second result array. -/
theorem final7 (c : Dev nD) : (dats m 0 c).arrAt 7 (cfgs 0).N
    = val_main_v16 (F := Ideal) (m ((c : Thread nD τ).loc main_arg0)) (m ((c : Thread nD τ).loc main_arg1)) (m ((c : Thread nD τ).loc main_arg2))
       (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  simp only [outsAt0]
  frame_out
  rw [View.readCov_eq_canon']
  simp only [whole]
  change k0_pay1 (F := Ideal) (k0_pay5 (iblk m c 0 t) (mix (iblk m c 1 t) (iblk m c 2 t) (iblk m c 3 t)) (iblk m c 4 t))
    (k0_pay6 (iblk m c 0 t) (mix (iblk m c 1 t) (iblk m c 2 t) (iblk m c 3 t)) (iblk m c 4 t)) (iblk m c 5 t) y = _
  obtain ⟨r, j, rfl⟩ : ∃ (r : Fin 512) (j : Fin 2048), y = ix2 r j := ⟨y 0, y 1, by funext k; fin_cases k <;> rfl⟩
  have ht : t.val < 64 := t.isLt
  have hr := r.isLt
  have hR : ((View.whole main_v2_1).slice (win0_7.rect t)).emb (ix2 r j) = ix2 (⟨t.val * 512 + r.val, by omega⟩ : Fin 32768) j := by
    blk_ext [idx t]
  rw [hR]
  refine norm_at _ _ _ _ _ _ _ _ _ _ _ _ r _ ?_ ?_ ?_ ?_ ?_ ?_ j
  all_goals intros; blk_point [iblk, V, idx t]

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem equal : Cert.algebraic_Kernel4Ideal_Reference4Ideal := by
  intro m g m' g' _ hagree
  refine ⟨fun c => (dats m 0 c).arrAt 6 cfg0.N, fun c => (dats m 0 c).arrAt 7 cfg0.N, Cert.Kernel4Ideal.Value.run_blocks m g, ?_⟩
  refine (θ_run Cert.Reference4Ideal.defs _ _).mono (fun _ h c => ⟨(h c).1.trans ?_, (h c).2.1.trans ?_, (h c).2.2⟩)
    (Cert.Reference4Ideal.Value.run (F := Ideal) m' g')
  · obtain ⟨e0, e1, e2, e3, e4, e5⟩ := hagree c
    refine (val_main_v2_eq _ _ _ _ _).trans ?_
    rw [e0, e1, e2, e3, e4]
    exact (final6 m c).symm
  · obtain ⟨e0, e1, e2, e3, e4, e5⟩ := hagree c
    refine (val_main_v16_eq _ _ _ _ _ _).trans ?_
    rw [e0, e1, e2, e3, e4, e5]
    exact (final7 m c).symm

end Cert.OutProj

end
-- ==== Proof.InBody.lean ====
/- The body of the input projection. -/
module

public import proofs.«01_k».proof.Proof.Gen.Kernel3Ideal.Frame
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import Idealize.ShloMosaic.Lib.Quiescent

@[expose] public section

set_option maxRecDepth 16384

noncomputable section

namespace Cert.Kernel3Ideal.Body

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option maxHeartbeats 4000000 in
/-- What one grid point stores in every output's buffer, with the run that stores it. -/
noncomputable def kernelRun (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) :
    Σ' (L6 : List (View.Piece (Elt F) S512x512 .f32)), Σ' (L7 : List (View.Piece (Elt F) S512x1024 .f32)), Σ' (L8 : List (View.Piece (Elt F) S4096x128 .f32)), Σ' (L9 : List (View.Piece (Elt F) S512x1024 .bf16)), Σ' (L10 : List (View.Piece (Elt F) S1x2x1024 .f32)), Σ' (L11 : List (View.Piece (Elt F) S4096x128 .f32)), Σ' (L12 : List (View.Piece (Elt F) S512x1024 .bf16)), { L13 : List (View.Piece (Elt F) S512x512 .f32) //
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_norm_proj i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, ?_, ?_, ?_, fun E K => ?run⟩
  case run =>
    simp only [cc0_norm_proj_eq_skeleton]; unfold cc0_norm_proj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Kernel3Ideal.Body

end
-- ==== Proof.InFrame.lean ====
/- The proof data of the input projection, and its frame. -/
module

public import proofs.«01_k».proof.Proof.Gen.Kernel3Ideal.Frame
public import proofs.«01_k».proof.Proof.Gen.Kernel3Ideal.Skeleton
public import proofs.«01_k».proof.Proof.InBody
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp
public import Idealize.ShloMosaic.Lib.Claim
public import Idealize.ShloMosaic.Lib.Quiescent

@[expose] public section

set_option maxRecDepth 16384

noncomputable section

namespace Cert.Kernel3Ideal.Body

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Eight stores, each into every eighth row, cover the block. -/
theorem cover_rows (L : List (View.Piece (Elt F) S4096x128 .f32))
    (h : ∀ k : Fin 8, ∃ p ∈ L, p.1.off = ![k.val, 0] ∧ p.1.size = ![512, 128] ∧ p.1.stride = ![8, 1]) (y : S4096x128.Idx) :
    ∃ p ∈ L, y ∈ p.1.set := by
  obtain ⟨p, hp, ho, hs, ht⟩ := h ⟨(y 0).val % 8, Nat.mod_lt _ (by decide)⟩
  refine ⟨p, hp, ?_⟩
  rw [LoadRect.mem_set]
  have h0 : (y 0).val < 4096 := (y 0).isLt
  have h1 : (y 1).val < 128 := (y 1).isLt
  intro a
  rw [ho, hs, ht]
  match a with
  | ⟨0, _⟩ => exact ⟨(y 0).val / 8, show (y 0).val / 8 < 512 by omega, show (y 0).val = (y 0).val % 8 + 8 * ((y 0).val / 8) by omega⟩
  | ⟨1, _⟩ => exact ⟨(y 1).val, show (y 1).val < 128 from h1, show (y 1).val = 0 + 1 * (y 1).val by omega⟩

/-- The stores into output 6 cover its block. -/
theorem cover6 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) (y : S512x512.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).1 ![512, 128] (by sl_kernel_rfl) y

/-- The stores into output 7 cover its block. -/
theorem cover7 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) (y : S512x1024.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.1 ![512, 128] (by sl_kernel_rfl) y

/-- The stores into output 8 cover its block. -/
theorem cover8 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) (y : S4096x128.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1, y ∈ pc.1.set :=
  cover_rows _ (fun q => by
    fin_cases q
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1[7]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1[6]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1[5]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1[4]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1[3]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1[2]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1[1]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1[0]'(of_decide_eq_true (by sl_kernel_rfl)), List.getElem_mem _, rfl, rfl, rfl⟩
    ) y

/-- The stores into output 9 cover its block. -/
theorem cover9 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) (y : S512x1024.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.1 ![512, 128] (by sl_kernel_rfl) y

/-- The stores into output 10 cover its block. -/
theorem cover10 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) (y : S1x2x1024.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.1 ![1, 1, 128] (by sl_kernel_rfl) y

/-- The stores into output 11 cover its block. -/
theorem cover11 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) (y : S4096x128.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1, y ∈ pc.1.set :=
  cover_rows _ (fun q => by
    fin_cases q
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1[7]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1[6]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1[5]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1[4]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1[3]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1[2]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1[1]'(of_decide_eq_true (by sl_kernel_rfl)), List.getElem_mem _, rfl, rfl, rfl⟩
    · exact ⟨(kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1[0]'(of_decide_eq_true (by sl_kernel_rfl)), List.getElem_mem _, rfl, rfl, rfl⟩
    ) y

/-- The stores into output 12 cover its block. -/
theorem cover12 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) (y : S512x1024.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.2.1 ![512, 128] (by sl_kernel_rfl) y

/-- The stores into output 13 cover its block. -/
theorem cover13 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) (y : S512x512.Idx) :
    ∃ pc ∈ (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.2.2.1, y ∈ pc.1.set :=
  View.cover_of_tiledL (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.2.2.1 ![512, 128] (by sl_kernel_rfl) y

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4096x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4096x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S512x512 .f32 := win0_13.stage (cfg0.slots t 13)
abbrev hs0_13 (t : Fin cfg0.N) : (ms0_13 t).IsWhole := hstage0_13 ((cfg0.slots t 13).cast nbuf0_13)

/-- What point `t` leaves in output 6's buffer. -/
def out6 (c : Dev nD) (t : Fin cfg0.N) : Vec F S512x512 .f32 :=
  View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t)).1

/-- What point `t` leaves in output 7's buffer. -/
def out7 (c : Dev nD) (t : Fin cfg0.N) : Vec F S512x1024 .f32 :=
  View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t)).2.1

/-- What point `t` leaves in output 8's buffer. -/
def out8 (c : Dev nD) (t : Fin cfg0.N) : Vec F S4096x128 .f32 :=
  View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t)).2.2.1

/-- What point `t` leaves in output 9's buffer. -/
def out9 (c : Dev nD) (t : Fin cfg0.N) : Vec F S512x1024 .bf16 :=
  View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t)).2.2.2.1

/-- What point `t` leaves in output 10's buffer. -/
def out10 (c : Dev nD) (t : Fin cfg0.N) : Vec F S1x2x1024 .f32 :=
  View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t)).2.2.2.2.1

/-- What point `t` leaves in output 11's buffer. -/
def out11 (c : Dev nD) (t : Fin cfg0.N) : Vec F S4096x128 .f32 :=
  View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t)).2.2.2.2.2.1

/-- What point `t` leaves in output 12's buffer. -/
def out12 (c : Dev nD) (t : Fin cfg0.N) : Vec F S512x1024 .bf16 :=
  View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t)).2.2.2.2.2.2.1

/-- What point `t` leaves in output 13's buffer. -/
def out13 (c : Dev nD) (t : Fin cfg0.N) : Vec F S512x512 .f32 :=
  View.canon (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t)).2.2.2.2.2.2.2.1

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
    | ⟨7, _⟩ => out7 m c t
    | ⟨8, _⟩ => out8 m c t
    | ⟨9, _⟩ => out9 m c t
    | ⟨10, _⟩ => out10 m c t
    | ⟨11, _⟩ => out11 m c t
    | ⟨12, _⟩ => out12 m c t
    | ⟨13, _⟩ => out13 m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]
theorem after0_7 (c : Dev nD) (t : Fin cfg0.N) : (dats m 0 c).after 7 t = out7 m c t := by dsimp only [dats]
theorem after0_8 (c : Dev nD) (t : Fin cfg0.N) : (dats m 0 c).after 8 t = out8 m c t := by dsimp only [dats]
theorem after0_9 (c : Dev nD) (t : Fin cfg0.N) : (dats m 0 c).after 9 t = out9 m c t := by dsimp only [dats]
theorem after0_10 (c : Dev nD) (t : Fin cfg0.N) : (dats m 0 c).after 10 t = out10 m c t := by dsimp only [dats]
theorem after0_11 (c : Dev nD) (t : Fin cfg0.N) : (dats m 0 c).after 11 t = out11 m c t := by dsimp only [dats]
theorem after0_12 (c : Dev nD) (t : Fin cfg0.N) : (dats m 0 c).after 12 t = out12 m c t := by dsimp only [dats]
theorem after0_13 (c : Dev nD) (t : Fin cfg0.N) : (dats m 0 c).after 13 t = out13 m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`. -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What the body returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  unfold out6 out7 out8 out9 out10 out11 out12 out13
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t)).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, ⟨%e6, H6⟩, ⟨%e7, H7⟩, ⟨%e8, H8⟩, ⟨%e9, H9⟩, ⟨%e10, H10⟩, ⟨%e11, H11⟩, ⟨%e12, H12⟩, ⟨%e13, H13⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (cover6 c _ _ _ _ _ _ _ _ _ _ _ _ _ _ _ _ _ _ _ _ _ _ _ _ _ _ _ _ _ _ _ _ _ _ _)
  isplitl [H7]
  · unfold owns; iexists _; isplitr
    swap; · iexact H7
    ipureintro; exact View.read_writes_eq_canon _ _ _ (cover7 c _ _ _ _ _ _ _ _ _ _ _ _ _ _ _ _ _ _ _ _ _ _ _ _ _ _ _ _ _ _ _ _ _ _ _)
  isplitl [H8]
  · unfold owns; iexists _; isplitr
    swap; · iexact H8
    ipureintro; exact View.read_writes_eq_canon _ _ _ (cover8 c _ _ _ _ _ _ _ _ _ _ _ _ _ _ _ _ _ _ _ _ _ _ _ _ _ _ _ _ _ _ _ _ _ _ _)
  isplitl [H9]
  · unfold owns; iexists _; isplitr
    swap; · iexact H9
    ipureintro; exact View.read_writes_eq_canon _ _ _ (cover9 c _ _ _ _ _ _ _ _ _ _ _ _ _ _ _ _ _ _ _ _ _ _ _ _ _ _ _ _ _ _ _ _ _ _ _)
  isplitl [H10]
  · unfold owns; iexists _; isplitr
    swap; · iexact H10
    ipureintro; exact View.read_writes_eq_canon _ _ _ (cover10 c _ _ _ _ _ _ _ _ _ _ _ _ _ _ _ _ _ _ _ _ _ _ _ _ _ _ _ _ _ _ _ _ _ _ _)
  isplitl [H11]
  · unfold owns; iexists _; isplitr
    swap; · iexact H11
    ipureintro; exact View.read_writes_eq_canon _ _ _ (cover11 c _ _ _ _ _ _ _ _ _ _ _ _ _ _ _ _ _ _ _ _ _ _ _ _ _ _ _ _ _ _ _ _ _ _ _)
  isplitl [H12]
  · unfold owns; iexists _; isplitr
    swap; · iexact H12
    ipureintro; exact View.read_writes_eq_canon _ _ _ (cover12 c _ _ _ _ _ _ _ _ _ _ _ _ _ _ _ _ _ _ _ _ _ _ _ _ _ _ _ _ _ _ _ _ _ _ _)
  unfold owns; iexists _; isplitr
  swap; · iexact H13
  ipureintro; exact View.read_writes_eq_canon _ _ _ (cover13 c _ _ _ _ _ _ _ _ _ _ _ _ _ _ _ _ _ _ _ _ _ _ _ _ _ _ _ _ _ _ _ _ _ _ _)

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run, with every counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run of the whole program. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: the argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The run with each output array named, the arguments unchanged. -/
theorem run_blocks : θ_run defs (onTc (τ := τ) (main (F := F))) ⟨m, fun _ => 0, ρ⟩ fun r => ∀ c : Dev nD,
      r.2.mem ((c : Thread nD τ).loc main_v6_0) = (dats m 0 c).arrAt 6 cfg0.N
      ∧ r.2.mem ((c : Thread nD τ).loc main_v6_1) = (dats m 0 c).arrAt 7 cfg0.N
      ∧ r.2.mem ((c : Thread nD τ).loc main_v6_2) = (dats m 0 c).arrAt 8 cfg0.N
      ∧ r.2.mem ((c : Thread nD τ).loc main_v6_3) = (dats m 0 c).arrAt 9 cfg0.N
      ∧ r.2.mem ((c : Thread nD τ).loc main_v6_4) = (dats m 0 c).arrAt 10 cfg0.N
      ∧ r.2.mem ((c : Thread nD τ).loc main_v6_5) = (dats m 0 c).arrAt 11 cfg0.N
      ∧ r.2.mem ((c : Thread nD τ).loc main_v6_6) = (dats m 0 c).arrAt 12 cfg0.N
      ∧ r.2.mem ((c : Thread nD τ).loc main_v6_7) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7, (h c).1 8, (h c).1 9, (h c).1 10, (h c).1 11, (h c).1 12, (h c).1 13,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.Kernel3Ideal.Body

end
-- ==== Proof.InPieces.lean ====
/- What the input projection stores at one grid point, output by output. -/
module

public import proofs.«01_k».proof.Proof.InFrame
public import Idealize.ShloMosaic.Lib.WholeRead
public import Idealize.ShloMosaic.Lib.Pointwise
public import Idealize.ShloMosaic.Lib.Pipeline.ValueKit

@[expose] public section

set_option maxRecDepth 16384

noncomputable section

namespace Cert.InProj

open Cert.Kernel3Ideal Cert.Kernel3Ideal.Gen Cert.Kernel3Ideal.Body
open Idealize.ShloMosaic Idealize.ShloMosaic.TcCoe Idealize.ShloMosaic.Tactic Idealize.SL.Sem

variable {F : FTy → Type} [FloatOps F]

/-- The 512 columns of the weight from column `o`. -/
def chunk (o : Nat) (h : ∀ a, (![0, o] : Fin 2 → Nat) a + S2048x512.size a ≤ S2048x4096.size a) (w : Vec F S2048x4096 .bf16) : Vec F S2048x512 .bf16 :=
  fun y => w ((Rect.unit (s := S2048x4096) ![0, o] S2048x512.size h).toLoadRect.idx y)

theorem load_chunk (o : Nat) (h : ∀ a, (![0, o] : Fin 2 → Nat) a + S2048x512.size a ≤ S2048x4096.size a)
    (arg : Memref sig .tc .vmem S2048x4096 .bf16) (harg : arg.IsWhole) (w : Vec F S2048x4096 .bf16) :
    View.readAt (Elt F) arg.view (Rect.unit (s := S2048x4096) ![0, o] S2048x512.size h).toLoadRect (harg.unread w) = chunk o h w :=
  funext fun y => harg.readAt_unread w _ y

theorem load_whole0 (arg : Memref sig .tc .vmem S512x2048 .f32) (harg : arg.IsWhole) (x : Vec F S512x2048 .f32) :
    View.readAt (Elt F) arg.view (Rect.unit (s := S512x2048) ![0, 0] S512x2048.size inb_S512x2048_S512x2048_0_0).toLoadRect (harg.unread x) = x :=
  funext fun y => (harg.readAt_unread x _ y).trans (congrArg x (by
    funext a; fin_cases a <;> (apply Fin.ext; simp [Rect.toLoadRect, Rect.unit, LoadRect.idx])))

theorem load_whole1 (arg : Memref sig .tc .vmem S1x2048 .f32) (harg : arg.IsWhole) (x : Vec F S1x2048 .f32) :
    View.readAt (Elt F) arg.view (Rect.unit (s := S1x2048) ![0, 0] S1x2048.size inb_S1x2048_S1x2048_0_0).toLoadRect (harg.unread x) = x :=
  funext fun y => (harg.readAt_unread x _ y).trans (congrArg x (by
    funext a; fin_cases a <;> (apply Fin.ext; simp [Rect.toLoadRect, Rect.unit, LoadRect.idx])))

theorem load_gain (arg : Memref sig .tc .vmem S1x128 .f32) (harg : arg.IsWhole) (x : Vec F S1x128 .f32) :
    View.readAt (Elt F) arg.view (Rect.unit (s := S1x128) ![0, 0] S1x128.size inb_S1x128_S1x128_0_0).toLoadRect (harg.unread x) = x :=
  funext fun y => (harg.readAt_unread x _ y).trans (congrArg x (by
    funext a; fin_cases a <;> (apply Fin.ext; simp [Rect.toLoadRect, Rect.unit, LoadRect.idx])))

/-- The stores into output 6: each rectangle with what is put there. -/
theorem pieces6 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) :
    (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).1 =
     [⟨Rect.unit ![0, 384] ![512, 128] inb_S512x512_S512x128_0_384, k0_pay7 x0 x1 (chunk 0 inb_S2048x4096_S2048x512_0_0 x2)⟩,
      ⟨Rect.unit ![0, 256] ![512, 128] inb_S512x512_S512x128_0_256, k0_pay6 x0 x1 (chunk 0 inb_S2048x4096_S2048x512_0_0 x2)⟩,
      ⟨Rect.unit ![0, 128] ![512, 128] inb_S512x512_S512x128_0_128, k0_pay5 x0 x1 (chunk 0 inb_S2048x4096_S2048x512_0_0 x2)⟩,
      ⟨Rect.unit ![0, 0] ![512, 128] inb_S512x512_S512x128_0_0, k0_pay4 x0 x1 (chunk 0 inb_S2048x4096_S2048x512_0_0 x2)⟩] := by
  have hX := load_whole0 arg1 harg1 x0
  have hN := load_whole1 arg2 harg2 x1
  have hG4 := load_gain arg4 harg4 x3
  have hG5 := load_gain arg5 harg5 x4
  have hG6 := load_gain arg6 harg6 x5
  have hw0 := load_chunk 0 inb_S2048x4096_S2048x512_0_0 arg3 harg3 x2
  have hw1 := load_chunk 512 inb_S2048x4096_S2048x512_0_512 arg3 harg3 x2
  have hw2 := load_chunk 1024 inb_S2048x4096_S2048x512_0_1024 arg3 harg3 x2
  have hw3 := load_chunk 1536 inb_S2048x4096_S2048x512_0_1536 arg3 harg3 x2
  have hw4 := load_chunk 2048 inb_S2048x4096_S2048x512_0_2048 arg3 harg3 x2
  have hw5 := load_chunk 2560 inb_S2048x4096_S2048x512_0_2560 arg3 harg3 x2
  have hw6 := load_chunk 3072 inb_S2048x4096_S2048x512_0_3072 arg3 harg3 x2
  have hw7 := load_chunk 3584 inb_S2048x4096_S2048x512_0_3584 arg3 harg3 x2
  unfold kernelRun
  dsimp only
  sl_unfold_words
  generalize (View.readAt (Elt F) arg1.view (Rect.unit (s := S512x2048) ![0, 0] S512x2048.size inb_S512x2048_S512x2048_0_0).toLoadRect (harg1.unread x0)) = X at hX ⊢
  generalize (View.readAt (Elt F) arg2.view (Rect.unit (s := S1x2048) ![0, 0] S1x2048.size inb_S1x2048_S1x2048_0_0).toLoadRect (harg2.unread x1)) = N at hN ⊢
  generalize (View.readAt (Elt F) arg4.view (Rect.unit (s := S1x128) ![0, 0] S1x128.size inb_S1x128_S1x128_0_0).toLoadRect (harg4.unread x3)) = G4 at hG4 ⊢
  generalize (View.readAt (Elt F) arg5.view (Rect.unit (s := S1x128) ![0, 0] S1x128.size inb_S1x128_S1x128_0_0).toLoadRect (harg5.unread x4)) = G5 at hG5 ⊢
  generalize (View.readAt (Elt F) arg6.view (Rect.unit (s := S1x128) ![0, 0] S1x128.size inb_S1x128_S1x128_0_0).toLoadRect (harg6.unread x5)) = G6 at hG6 ⊢
  generalize (View.readAt (Elt F) arg3.view (Rect.unit (s := S2048x4096) ![0, 0] S2048x512.size inb_S2048x4096_S2048x512_0_0).toLoadRect (harg3.unread x2)) = W0 at hw0 ⊢
  generalize (View.readAt (Elt F) arg3.view (Rect.unit (s := S2048x4096) ![0, 512] S2048x512.size inb_S2048x4096_S2048x512_0_512).toLoadRect (harg3.unread x2)) = W1 at hw1 ⊢
  generalize (View.readAt (Elt F) arg3.view (Rect.unit (s := S2048x4096) ![0, 1024] S2048x512.size inb_S2048x4096_S2048x512_0_1024).toLoadRect (harg3.unread x2)) = W2 at hw2 ⊢
  generalize (View.readAt (Elt F) arg3.view (Rect.unit (s := S2048x4096) ![0, 1536] S2048x512.size inb_S2048x4096_S2048x512_0_1536).toLoadRect (harg3.unread x2)) = W3 at hw3 ⊢
  generalize (View.readAt (Elt F) arg3.view (Rect.unit (s := S2048x4096) ![0, 2048] S2048x512.size inb_S2048x4096_S2048x512_0_2048).toLoadRect (harg3.unread x2)) = W4 at hw4 ⊢
  generalize (View.readAt (Elt F) arg3.view (Rect.unit (s := S2048x4096) ![0, 2560] S2048x512.size inb_S2048x4096_S2048x512_0_2560).toLoadRect (harg3.unread x2)) = W5 at hw5 ⊢
  generalize (View.readAt (Elt F) arg3.view (Rect.unit (s := S2048x4096) ![0, 3072] S2048x512.size inb_S2048x4096_S2048x512_0_3072).toLoadRect (harg3.unread x2)) = W6 at hw6 ⊢
  generalize (View.readAt (Elt F) arg3.view (Rect.unit (s := S2048x4096) ![0, 3584] S2048x512.size inb_S2048x4096_S2048x512_0_3584).toLoadRect (harg3.unread x2)) = W7 at hw7 ⊢
  subst hX hN hG4 hG5 hG6 hw0 hw1 hw2 hw3 hw4 hw5 hw6 hw7
  rfl

/-- The stores into output 7: each rectangle with what is put there. -/
theorem pieces7 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) :
    (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.1 =
     [⟨Rect.unit ![0, 896] ![512, 128] inb_S512x1024_S512x128_0_896, k0_pay22 (k0_pay20 (k0_pay16 (k0_pay2 x0 x1) (chunk 1024 inb_S2048x4096_S2048x512_0_1024 x2))) (k0_pay21 (k0_pay16 (k0_pay2 x0 x1) (chunk 1024 inb_S2048x4096_S2048x512_0_1024 x2))) (FloatOps.ofBits FTy.f32 897988541#32) x3⟩,
      ⟨Rect.unit ![0, 768] ![512, 128] inb_S512x1024_S512x128_0_768, k0_pay19 (k0_pay16 (k0_pay2 x0 x1) (chunk 1024 inb_S2048x4096_S2048x512_0_1024 x2)) x3⟩,
      ⟨Rect.unit ![0, 640] ![512, 128] inb_S512x1024_S512x128_0_640, k0_pay18 (k0_pay16 (k0_pay2 x0 x1) (chunk 1024 inb_S2048x4096_S2048x512_0_1024 x2)) x3⟩,
      ⟨Rect.unit ![0, 512] ![512, 128] inb_S512x1024_S512x128_0_512, k0_pay17 (k0_pay2 x0 x1) (chunk 1024 inb_S2048x4096_S2048x512_0_1024 x2) x3⟩,
      ⟨Rect.unit ![0, 384] ![512, 128] inb_S512x1024_S512x128_0_384, k0_pay15 (k0_pay8 x0 x1 (chunk 512 inb_S2048x4096_S2048x512_0_512 x2)) x3⟩,
      ⟨Rect.unit ![0, 256] ![512, 128] inb_S512x1024_S512x128_0_256, k0_pay14 (k0_pay13 (k0_pay8 x0 x1 (chunk 512 inb_S2048x4096_S2048x512_0_512 x2))) x3⟩,
      ⟨Rect.unit ![0, 128] ![512, 128] inb_S512x1024_S512x128_0_128, k0_pay12 (k0_pay8 x0 x1 (chunk 512 inb_S2048x4096_S2048x512_0_512 x2)) x3⟩,
      ⟨Rect.unit ![0, 0] ![512, 128] inb_S512x1024_S512x128_0_0, k0_pay11 (k0_pay9 x0 x1 (chunk 512 inb_S2048x4096_S2048x512_0_512 x2)) (k0_pay10 x0 x1 (chunk 512 inb_S2048x4096_S2048x512_0_512 x2)) x3⟩] := by
  have hX := load_whole0 arg1 harg1 x0
  have hN := load_whole1 arg2 harg2 x1
  have hG4 := load_gain arg4 harg4 x3
  have hG5 := load_gain arg5 harg5 x4
  have hG6 := load_gain arg6 harg6 x5
  have hw0 := load_chunk 0 inb_S2048x4096_S2048x512_0_0 arg3 harg3 x2
  have hw1 := load_chunk 512 inb_S2048x4096_S2048x512_0_512 arg3 harg3 x2
  have hw2 := load_chunk 1024 inb_S2048x4096_S2048x512_0_1024 arg3 harg3 x2
  have hw3 := load_chunk 1536 inb_S2048x4096_S2048x512_0_1536 arg3 harg3 x2
  have hw4 := load_chunk 2048 inb_S2048x4096_S2048x512_0_2048 arg3 harg3 x2
  have hw5 := load_chunk 2560 inb_S2048x4096_S2048x512_0_2560 arg3 harg3 x2
  have hw6 := load_chunk 3072 inb_S2048x4096_S2048x512_0_3072 arg3 harg3 x2
  have hw7 := load_chunk 3584 inb_S2048x4096_S2048x512_0_3584 arg3 harg3 x2
  unfold kernelRun
  dsimp only
  sl_unfold_words
  generalize (View.readAt (Elt F) arg1.view (Rect.unit (s := S512x2048) ![0, 0] S512x2048.size inb_S512x2048_S512x2048_0_0).toLoadRect (harg1.unread x0)) = X at hX ⊢
  generalize (View.readAt (Elt F) arg2.view (Rect.unit (s := S1x2048) ![0, 0] S1x2048.size inb_S1x2048_S1x2048_0_0).toLoadRect (harg2.unread x1)) = N at hN ⊢
  generalize (View.readAt (Elt F) arg4.view (Rect.unit (s := S1x128) ![0, 0] S1x128.size inb_S1x128_S1x128_0_0).toLoadRect (harg4.unread x3)) = G4 at hG4 ⊢
  generalize (View.readAt (Elt F) arg5.view (Rect.unit (s := S1x128) ![0, 0] S1x128.size inb_S1x128_S1x128_0_0).toLoadRect (harg5.unread x4)) = G5 at hG5 ⊢
  generalize (View.readAt (Elt F) arg6.view (Rect.unit (s := S1x128) ![0, 0] S1x128.size inb_S1x128_S1x128_0_0).toLoadRect (harg6.unread x5)) = G6 at hG6 ⊢
  generalize (View.readAt (Elt F) arg3.view (Rect.unit (s := S2048x4096) ![0, 0] S2048x512.size inb_S2048x4096_S2048x512_0_0).toLoadRect (harg3.unread x2)) = W0 at hw0 ⊢
  generalize (View.readAt (Elt F) arg3.view (Rect.unit (s := S2048x4096) ![0, 512] S2048x512.size inb_S2048x4096_S2048x512_0_512).toLoadRect (harg3.unread x2)) = W1 at hw1 ⊢
  generalize (View.readAt (Elt F) arg3.view (Rect.unit (s := S2048x4096) ![0, 1024] S2048x512.size inb_S2048x4096_S2048x512_0_1024).toLoadRect (harg3.unread x2)) = W2 at hw2 ⊢
  generalize (View.readAt (Elt F) arg3.view (Rect.unit (s := S2048x4096) ![0, 1536] S2048x512.size inb_S2048x4096_S2048x512_0_1536).toLoadRect (harg3.unread x2)) = W3 at hw3 ⊢
  generalize (View.readAt (Elt F) arg3.view (Rect.unit (s := S2048x4096) ![0, 2048] S2048x512.size inb_S2048x4096_S2048x512_0_2048).toLoadRect (harg3.unread x2)) = W4 at hw4 ⊢
  generalize (View.readAt (Elt F) arg3.view (Rect.unit (s := S2048x4096) ![0, 2560] S2048x512.size inb_S2048x4096_S2048x512_0_2560).toLoadRect (harg3.unread x2)) = W5 at hw5 ⊢
  generalize (View.readAt (Elt F) arg3.view (Rect.unit (s := S2048x4096) ![0, 3072] S2048x512.size inb_S2048x4096_S2048x512_0_3072).toLoadRect (harg3.unread x2)) = W6 at hw6 ⊢
  generalize (View.readAt (Elt F) arg3.view (Rect.unit (s := S2048x4096) ![0, 3584] S2048x512.size inb_S2048x4096_S2048x512_0_3584).toLoadRect (harg3.unread x2)) = W7 at hw7 ⊢
  subst hX hN hG4 hG5 hG6 hw0 hw1 hw2 hw3 hw4 hw5 hw6 hw7
  rfl

/-- The stores into output 8: each rectangle with what is put there. -/
theorem pieces8 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) :
    (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.1 =
     [⟨⟨(⟨![7, 0], ![512, 128], ![8, 1], inb_S4096x128_S512x128_7_0_s_8_1⟩ : LoadRect S4096x128), spos_8_1⟩, k0_pay59 (k0_pay43 (k0_pay2 x0 x1) (chunk 2048 inb_S2048x4096_S2048x512_0_2048 x2)) x4⟩,
      ⟨⟨(⟨![6, 0], ![512, 128], ![8, 1], inb_S4096x128_S512x128_6_0_s_8_1⟩ : LoadRect S4096x128), spos_8_1⟩, k0_pay54 (k0_pay43 (k0_pay2 x0 x1) (chunk 2048 inb_S2048x4096_S2048x512_0_2048 x2)) x4⟩,
      ⟨⟨(⟨![5, 0], ![512, 128], ![8, 1], inb_S4096x128_S512x128_5_0_s_8_1⟩ : LoadRect S4096x128), spos_8_1⟩, k0_pay49 (k0_pay43 (k0_pay2 x0 x1) (chunk 2048 inb_S2048x4096_S2048x512_0_2048 x2)) x4⟩,
      ⟨⟨(⟨![4, 0], ![512, 128], ![8, 1], inb_S4096x128_S512x128_4_0_s_8_1⟩ : LoadRect S4096x128), spos_8_1⟩, k0_pay44 (k0_pay2 x0 x1) (chunk 2048 inb_S2048x4096_S2048x512_0_2048 x2) x4⟩,
      ⟨⟨(⟨![3, 0], ![512, 128], ![8, 1], inb_S4096x128_S512x128_3_0_s_8_1⟩ : LoadRect S4096x128), spos_8_1⟩, k0_pay38 (k0_pay23 (k0_pay2 x0 x1) (chunk 1536 inb_S2048x4096_S2048x512_0_1536 x2)) x4⟩,
      ⟨⟨(⟨![2, 0], ![512, 128], ![8, 1], inb_S4096x128_S512x128_2_0_s_8_1⟩ : LoadRect S4096x128), spos_8_1⟩, k0_pay33 (k0_pay23 (k0_pay2 x0 x1) (chunk 1536 inb_S2048x4096_S2048x512_0_1536 x2)) x4⟩,
      ⟨⟨(⟨![1, 0], ![512, 128], ![8, 1], inb_S4096x128_S512x128_1_0_s_8_1⟩ : LoadRect S4096x128), spos_8_1⟩, k0_pay29 (k0_pay23 (k0_pay2 x0 x1) (chunk 1536 inb_S2048x4096_S2048x512_0_1536 x2)) x4⟩,
      ⟨⟨(⟨![0, 0], ![512, 128], ![8, 1], inb_S4096x128_S512x128_0_0_s_8_1⟩ : LoadRect S4096x128), spos_8_1⟩, k0_pay24 (k0_pay2 x0 x1) (chunk 1536 inb_S2048x4096_S2048x512_0_1536 x2) x4⟩] := by
  have hX := load_whole0 arg1 harg1 x0
  have hN := load_whole1 arg2 harg2 x1
  have hG4 := load_gain arg4 harg4 x3
  have hG5 := load_gain arg5 harg5 x4
  have hG6 := load_gain arg6 harg6 x5
  have hw0 := load_chunk 0 inb_S2048x4096_S2048x512_0_0 arg3 harg3 x2
  have hw1 := load_chunk 512 inb_S2048x4096_S2048x512_0_512 arg3 harg3 x2
  have hw2 := load_chunk 1024 inb_S2048x4096_S2048x512_0_1024 arg3 harg3 x2
  have hw3 := load_chunk 1536 inb_S2048x4096_S2048x512_0_1536 arg3 harg3 x2
  have hw4 := load_chunk 2048 inb_S2048x4096_S2048x512_0_2048 arg3 harg3 x2
  have hw5 := load_chunk 2560 inb_S2048x4096_S2048x512_0_2560 arg3 harg3 x2
  have hw6 := load_chunk 3072 inb_S2048x4096_S2048x512_0_3072 arg3 harg3 x2
  have hw7 := load_chunk 3584 inb_S2048x4096_S2048x512_0_3584 arg3 harg3 x2
  unfold kernelRun
  dsimp only
  sl_unfold_words
  generalize (View.readAt (Elt F) arg1.view (Rect.unit (s := S512x2048) ![0, 0] S512x2048.size inb_S512x2048_S512x2048_0_0).toLoadRect (harg1.unread x0)) = X at hX ⊢
  generalize (View.readAt (Elt F) arg2.view (Rect.unit (s := S1x2048) ![0, 0] S1x2048.size inb_S1x2048_S1x2048_0_0).toLoadRect (harg2.unread x1)) = N at hN ⊢
  generalize (View.readAt (Elt F) arg4.view (Rect.unit (s := S1x128) ![0, 0] S1x128.size inb_S1x128_S1x128_0_0).toLoadRect (harg4.unread x3)) = G4 at hG4 ⊢
  generalize (View.readAt (Elt F) arg5.view (Rect.unit (s := S1x128) ![0, 0] S1x128.size inb_S1x128_S1x128_0_0).toLoadRect (harg5.unread x4)) = G5 at hG5 ⊢
  generalize (View.readAt (Elt F) arg6.view (Rect.unit (s := S1x128) ![0, 0] S1x128.size inb_S1x128_S1x128_0_0).toLoadRect (harg6.unread x5)) = G6 at hG6 ⊢
  generalize (View.readAt (Elt F) arg3.view (Rect.unit (s := S2048x4096) ![0, 0] S2048x512.size inb_S2048x4096_S2048x512_0_0).toLoadRect (harg3.unread x2)) = W0 at hw0 ⊢
  generalize (View.readAt (Elt F) arg3.view (Rect.unit (s := S2048x4096) ![0, 512] S2048x512.size inb_S2048x4096_S2048x512_0_512).toLoadRect (harg3.unread x2)) = W1 at hw1 ⊢
  generalize (View.readAt (Elt F) arg3.view (Rect.unit (s := S2048x4096) ![0, 1024] S2048x512.size inb_S2048x4096_S2048x512_0_1024).toLoadRect (harg3.unread x2)) = W2 at hw2 ⊢
  generalize (View.readAt (Elt F) arg3.view (Rect.unit (s := S2048x4096) ![0, 1536] S2048x512.size inb_S2048x4096_S2048x512_0_1536).toLoadRect (harg3.unread x2)) = W3 at hw3 ⊢
  generalize (View.readAt (Elt F) arg3.view (Rect.unit (s := S2048x4096) ![0, 2048] S2048x512.size inb_S2048x4096_S2048x512_0_2048).toLoadRect (harg3.unread x2)) = W4 at hw4 ⊢
  generalize (View.readAt (Elt F) arg3.view (Rect.unit (s := S2048x4096) ![0, 2560] S2048x512.size inb_S2048x4096_S2048x512_0_2560).toLoadRect (harg3.unread x2)) = W5 at hw5 ⊢
  generalize (View.readAt (Elt F) arg3.view (Rect.unit (s := S2048x4096) ![0, 3072] S2048x512.size inb_S2048x4096_S2048x512_0_3072).toLoadRect (harg3.unread x2)) = W6 at hw6 ⊢
  generalize (View.readAt (Elt F) arg3.view (Rect.unit (s := S2048x4096) ![0, 3584] S2048x512.size inb_S2048x4096_S2048x512_0_3584).toLoadRect (harg3.unread x2)) = W7 at hw7 ⊢
  subst hX hN hG4 hG5 hG6 hw0 hw1 hw2 hw3 hw4 hw5 hw6 hw7
  rfl

/-- The stores into output 9: each rectangle with what is put there. -/
theorem pieces9 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) :
    (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.1 =
     [⟨Rect.unit ![0, 896] ![512, 128] inb_S512x1024_S512x128_0_896, k0_pay60 (k0_pay43 (k0_pay2 x0 x1) (chunk 2048 inb_S2048x4096_S2048x512_0_2048 x2)) x4⟩,
      ⟨Rect.unit ![0, 768] ![512, 128] inb_S512x1024_S512x128_0_768, k0_pay55 (k0_pay43 (k0_pay2 x0 x1) (chunk 2048 inb_S2048x4096_S2048x512_0_2048 x2)) x4⟩,
      ⟨Rect.unit ![0, 640] ![512, 128] inb_S512x1024_S512x128_0_640, k0_pay50 (k0_pay43 (k0_pay2 x0 x1) (chunk 2048 inb_S2048x4096_S2048x512_0_2048 x2)) x4⟩,
      ⟨Rect.unit ![0, 512] ![512, 128] inb_S512x1024_S512x128_0_512, k0_pay45 (k0_pay2 x0 x1) (chunk 2048 inb_S2048x4096_S2048x512_0_2048 x2) x4⟩,
      ⟨Rect.unit ![0, 384] ![512, 128] inb_S512x1024_S512x128_0_384, k0_pay39 (k0_pay23 (k0_pay2 x0 x1) (chunk 1536 inb_S2048x4096_S2048x512_0_1536 x2)) x4⟩,
      ⟨Rect.unit ![0, 256] ![512, 128] inb_S512x1024_S512x128_0_256, k0_pay34 (k0_pay23 (k0_pay2 x0 x1) (chunk 1536 inb_S2048x4096_S2048x512_0_1536 x2)) x4⟩,
      ⟨Rect.unit ![0, 128] ![512, 128] inb_S512x1024_S512x128_0_128, k0_pay30 (k0_pay23 (k0_pay2 x0 x1) (chunk 1536 inb_S2048x4096_S2048x512_0_1536 x2)) x4⟩,
      ⟨Rect.unit ![0, 0] ![512, 128] inb_S512x1024_S512x128_0_0, k0_pay25 (k0_pay2 x0 x1) (chunk 1536 inb_S2048x4096_S2048x512_0_1536 x2) x4⟩] := by
  have hX := load_whole0 arg1 harg1 x0
  have hN := load_whole1 arg2 harg2 x1
  have hG4 := load_gain arg4 harg4 x3
  have hG5 := load_gain arg5 harg5 x4
  have hG6 := load_gain arg6 harg6 x5
  have hw0 := load_chunk 0 inb_S2048x4096_S2048x512_0_0 arg3 harg3 x2
  have hw1 := load_chunk 512 inb_S2048x4096_S2048x512_0_512 arg3 harg3 x2
  have hw2 := load_chunk 1024 inb_S2048x4096_S2048x512_0_1024 arg3 harg3 x2
  have hw3 := load_chunk 1536 inb_S2048x4096_S2048x512_0_1536 arg3 harg3 x2
  have hw4 := load_chunk 2048 inb_S2048x4096_S2048x512_0_2048 arg3 harg3 x2
  have hw5 := load_chunk 2560 inb_S2048x4096_S2048x512_0_2560 arg3 harg3 x2
  have hw6 := load_chunk 3072 inb_S2048x4096_S2048x512_0_3072 arg3 harg3 x2
  have hw7 := load_chunk 3584 inb_S2048x4096_S2048x512_0_3584 arg3 harg3 x2
  unfold kernelRun
  dsimp only
  sl_unfold_words
  generalize (View.readAt (Elt F) arg1.view (Rect.unit (s := S512x2048) ![0, 0] S512x2048.size inb_S512x2048_S512x2048_0_0).toLoadRect (harg1.unread x0)) = X at hX ⊢
  generalize (View.readAt (Elt F) arg2.view (Rect.unit (s := S1x2048) ![0, 0] S1x2048.size inb_S1x2048_S1x2048_0_0).toLoadRect (harg2.unread x1)) = N at hN ⊢
  generalize (View.readAt (Elt F) arg4.view (Rect.unit (s := S1x128) ![0, 0] S1x128.size inb_S1x128_S1x128_0_0).toLoadRect (harg4.unread x3)) = G4 at hG4 ⊢
  generalize (View.readAt (Elt F) arg5.view (Rect.unit (s := S1x128) ![0, 0] S1x128.size inb_S1x128_S1x128_0_0).toLoadRect (harg5.unread x4)) = G5 at hG5 ⊢
  generalize (View.readAt (Elt F) arg6.view (Rect.unit (s := S1x128) ![0, 0] S1x128.size inb_S1x128_S1x128_0_0).toLoadRect (harg6.unread x5)) = G6 at hG6 ⊢
  generalize (View.readAt (Elt F) arg3.view (Rect.unit (s := S2048x4096) ![0, 0] S2048x512.size inb_S2048x4096_S2048x512_0_0).toLoadRect (harg3.unread x2)) = W0 at hw0 ⊢
  generalize (View.readAt (Elt F) arg3.view (Rect.unit (s := S2048x4096) ![0, 512] S2048x512.size inb_S2048x4096_S2048x512_0_512).toLoadRect (harg3.unread x2)) = W1 at hw1 ⊢
  generalize (View.readAt (Elt F) arg3.view (Rect.unit (s := S2048x4096) ![0, 1024] S2048x512.size inb_S2048x4096_S2048x512_0_1024).toLoadRect (harg3.unread x2)) = W2 at hw2 ⊢
  generalize (View.readAt (Elt F) arg3.view (Rect.unit (s := S2048x4096) ![0, 1536] S2048x512.size inb_S2048x4096_S2048x512_0_1536).toLoadRect (harg3.unread x2)) = W3 at hw3 ⊢
  generalize (View.readAt (Elt F) arg3.view (Rect.unit (s := S2048x4096) ![0, 2048] S2048x512.size inb_S2048x4096_S2048x512_0_2048).toLoadRect (harg3.unread x2)) = W4 at hw4 ⊢
  generalize (View.readAt (Elt F) arg3.view (Rect.unit (s := S2048x4096) ![0, 2560] S2048x512.size inb_S2048x4096_S2048x512_0_2560).toLoadRect (harg3.unread x2)) = W5 at hw5 ⊢
  generalize (View.readAt (Elt F) arg3.view (Rect.unit (s := S2048x4096) ![0, 3072] S2048x512.size inb_S2048x4096_S2048x512_0_3072).toLoadRect (harg3.unread x2)) = W6 at hw6 ⊢
  generalize (View.readAt (Elt F) arg3.view (Rect.unit (s := S2048x4096) ![0, 3584] S2048x512.size inb_S2048x4096_S2048x512_0_3584).toLoadRect (harg3.unread x2)) = W7 at hw7 ⊢
  subst hX hN hG4 hG5 hG6 hw0 hw1 hw2 hw3 hw4 hw5 hw6 hw7
  rfl

/-- The stores into output 10: each rectangle with what is put there. -/
theorem pieces10 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) :
    (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.1 =
     [⟨Rect.unit ![0, 1, 896] ![1, 1, 128] inb_S1x2x1024_S1x1x128_0_1_896, k0_pay63 (k0_pay62 (k0_pay43 (k0_pay2 x0 x1) (chunk 2048 inb_S2048x4096_S2048x512_0_2048 x2)) x4)⟩,
      ⟨Rect.unit ![0, 0, 896] ![1, 1, 128] inb_S1x2x1024_S1x1x128_0_0_896, k0_pay61 (k0_pay43 (k0_pay2 x0 x1) (chunk 2048 inb_S2048x4096_S2048x512_0_2048 x2)) x4⟩,
      ⟨Rect.unit ![0, 1, 768] ![1, 1, 128] inb_S1x2x1024_S1x1x128_0_1_768, k0_pay58 (k0_pay57 (k0_pay43 (k0_pay2 x0 x1) (chunk 2048 inb_S2048x4096_S2048x512_0_2048 x2)) x4)⟩,
      ⟨Rect.unit ![0, 0, 768] ![1, 1, 128] inb_S1x2x1024_S1x1x128_0_0_768, k0_pay56 (k0_pay43 (k0_pay2 x0 x1) (chunk 2048 inb_S2048x4096_S2048x512_0_2048 x2)) x4⟩,
      ⟨Rect.unit ![0, 1, 640] ![1, 1, 128] inb_S1x2x1024_S1x1x128_0_1_640, k0_pay53 (k0_pay52 (k0_pay43 (k0_pay2 x0 x1) (chunk 2048 inb_S2048x4096_S2048x512_0_2048 x2)) x4) (FloatOps.ofBits FTy.f32 1132462080#32)⟩,
      ⟨Rect.unit ![0, 0, 640] ![1, 1, 128] inb_S1x2x1024_S1x1x128_0_0_640, k0_pay51 (k0_pay43 (k0_pay2 x0 x1) (chunk 2048 inb_S2048x4096_S2048x512_0_2048 x2)) x4⟩,
      ⟨Rect.unit ![0, 1, 512] ![1, 1, 128] inb_S1x2x1024_S1x1x128_0_1_512, k0_pay48 (k0_pay47 (k0_pay2 x0 x1) (chunk 2048 inb_S2048x4096_S2048x512_0_2048 x2) x4)⟩,
      ⟨Rect.unit ![0, 0, 512] ![1, 1, 128] inb_S1x2x1024_S1x1x128_0_0_512, k0_pay46 (k0_pay2 x0 x1) (chunk 2048 inb_S2048x4096_S2048x512_0_2048 x2) x4⟩,
      ⟨Rect.unit ![0, 1, 384] ![1, 1, 128] inb_S1x2x1024_S1x1x128_0_1_384, k0_pay42 (k0_pay41 (k0_pay23 (k0_pay2 x0 x1) (chunk 1536 inb_S2048x4096_S2048x512_0_1536 x2)) x4) (FloatOps.ofBits FTy.f32 1132462080#32)⟩,
      ⟨Rect.unit ![0, 0, 384] ![1, 1, 128] inb_S1x2x1024_S1x1x128_0_0_384, k0_pay40 (k0_pay23 (k0_pay2 x0 x1) (chunk 1536 inb_S2048x4096_S2048x512_0_1536 x2)) x4⟩,
      ⟨Rect.unit ![0, 1, 256] ![1, 1, 128] inb_S1x2x1024_S1x1x128_0_1_256, k0_pay37 (k0_pay36 (k0_pay23 (k0_pay2 x0 x1) (chunk 1536 inb_S2048x4096_S2048x512_0_1536 x2)) x4)⟩,
      ⟨Rect.unit ![0, 0, 256] ![1, 1, 128] inb_S1x2x1024_S1x1x128_0_0_256, k0_pay35 (k0_pay23 (k0_pay2 x0 x1) (chunk 1536 inb_S2048x4096_S2048x512_0_1536 x2)) x4⟩,
      ⟨Rect.unit ![0, 1, 128] ![1, 1, 128] inb_S1x2x1024_S1x1x128_0_1_128, k0_pay32 (k0_pay29 (k0_pay23 (k0_pay2 x0 x1) (chunk 1536 inb_S2048x4096_S2048x512_0_1536 x2)) x4)⟩,
      ⟨Rect.unit ![0, 0, 128] ![1, 1, 128] inb_S1x2x1024_S1x1x128_0_0_128, k0_pay31 (k0_pay23 (k0_pay2 x0 x1) (chunk 1536 inb_S2048x4096_S2048x512_0_1536 x2)) x4⟩,
      ⟨Rect.unit ![0, 1, 0] ![1, 1, 128] inb_S1x2x1024_S1x1x128_0_1_0, k0_pay28 (k0_pay24 (k0_pay2 x0 x1) (chunk 1536 inb_S2048x4096_S2048x512_0_1536 x2) x4)⟩,
      ⟨Rect.unit ![0, 0, 0] ![1, 1, 128] inb_S1x2x1024_S1x1x128_0_0_0, k0_pay27 (k0_pay26 (k0_pay2 x0 x1) (chunk 1536 inb_S2048x4096_S2048x512_0_1536 x2) x4)⟩] := by
  have hX := load_whole0 arg1 harg1 x0
  have hN := load_whole1 arg2 harg2 x1
  have hG4 := load_gain arg4 harg4 x3
  have hG5 := load_gain arg5 harg5 x4
  have hG6 := load_gain arg6 harg6 x5
  have hw0 := load_chunk 0 inb_S2048x4096_S2048x512_0_0 arg3 harg3 x2
  have hw1 := load_chunk 512 inb_S2048x4096_S2048x512_0_512 arg3 harg3 x2
  have hw2 := load_chunk 1024 inb_S2048x4096_S2048x512_0_1024 arg3 harg3 x2
  have hw3 := load_chunk 1536 inb_S2048x4096_S2048x512_0_1536 arg3 harg3 x2
  have hw4 := load_chunk 2048 inb_S2048x4096_S2048x512_0_2048 arg3 harg3 x2
  have hw5 := load_chunk 2560 inb_S2048x4096_S2048x512_0_2560 arg3 harg3 x2
  have hw6 := load_chunk 3072 inb_S2048x4096_S2048x512_0_3072 arg3 harg3 x2
  have hw7 := load_chunk 3584 inb_S2048x4096_S2048x512_0_3584 arg3 harg3 x2
  unfold kernelRun
  dsimp only
  sl_unfold_words
  generalize (View.readAt (Elt F) arg1.view (Rect.unit (s := S512x2048) ![0, 0] S512x2048.size inb_S512x2048_S512x2048_0_0).toLoadRect (harg1.unread x0)) = X at hX ⊢
  generalize (View.readAt (Elt F) arg2.view (Rect.unit (s := S1x2048) ![0, 0] S1x2048.size inb_S1x2048_S1x2048_0_0).toLoadRect (harg2.unread x1)) = N at hN ⊢
  generalize (View.readAt (Elt F) arg4.view (Rect.unit (s := S1x128) ![0, 0] S1x128.size inb_S1x128_S1x128_0_0).toLoadRect (harg4.unread x3)) = G4 at hG4 ⊢
  generalize (View.readAt (Elt F) arg5.view (Rect.unit (s := S1x128) ![0, 0] S1x128.size inb_S1x128_S1x128_0_0).toLoadRect (harg5.unread x4)) = G5 at hG5 ⊢
  generalize (View.readAt (Elt F) arg6.view (Rect.unit (s := S1x128) ![0, 0] S1x128.size inb_S1x128_S1x128_0_0).toLoadRect (harg6.unread x5)) = G6 at hG6 ⊢
  generalize (View.readAt (Elt F) arg3.view (Rect.unit (s := S2048x4096) ![0, 0] S2048x512.size inb_S2048x4096_S2048x512_0_0).toLoadRect (harg3.unread x2)) = W0 at hw0 ⊢
  generalize (View.readAt (Elt F) arg3.view (Rect.unit (s := S2048x4096) ![0, 512] S2048x512.size inb_S2048x4096_S2048x512_0_512).toLoadRect (harg3.unread x2)) = W1 at hw1 ⊢
  generalize (View.readAt (Elt F) arg3.view (Rect.unit (s := S2048x4096) ![0, 1024] S2048x512.size inb_S2048x4096_S2048x512_0_1024).toLoadRect (harg3.unread x2)) = W2 at hw2 ⊢
  generalize (View.readAt (Elt F) arg3.view (Rect.unit (s := S2048x4096) ![0, 1536] S2048x512.size inb_S2048x4096_S2048x512_0_1536).toLoadRect (harg3.unread x2)) = W3 at hw3 ⊢
  generalize (View.readAt (Elt F) arg3.view (Rect.unit (s := S2048x4096) ![0, 2048] S2048x512.size inb_S2048x4096_S2048x512_0_2048).toLoadRect (harg3.unread x2)) = W4 at hw4 ⊢
  generalize (View.readAt (Elt F) arg3.view (Rect.unit (s := S2048x4096) ![0, 2560] S2048x512.size inb_S2048x4096_S2048x512_0_2560).toLoadRect (harg3.unread x2)) = W5 at hw5 ⊢
  generalize (View.readAt (Elt F) arg3.view (Rect.unit (s := S2048x4096) ![0, 3072] S2048x512.size inb_S2048x4096_S2048x512_0_3072).toLoadRect (harg3.unread x2)) = W6 at hw6 ⊢
  generalize (View.readAt (Elt F) arg3.view (Rect.unit (s := S2048x4096) ![0, 3584] S2048x512.size inb_S2048x4096_S2048x512_0_3584).toLoadRect (harg3.unread x2)) = W7 at hw7 ⊢
  subst hX hN hG4 hG5 hG6 hw0 hw1 hw2 hw3 hw4 hw5 hw6 hw7
  rfl

/-- The stores into output 11: each rectangle with what is put there. -/
theorem pieces11 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) :
    (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.1 =
     [⟨⟨(⟨![7, 0], ![512, 128], ![8, 1], inb_S4096x128_S512x128_7_0_s_8_1⟩ : LoadRect S4096x128), spos_8_1⟩, k0_pay80 (k0_pay73 (k0_pay2 x0 x1) (chunk 3072 inb_S2048x4096_S2048x512_0_3072 x2))⟩,
      ⟨⟨(⟨![6, 0], ![512, 128], ![8, 1], inb_S4096x128_S512x128_6_0_s_8_1⟩ : LoadRect S4096x128), spos_8_1⟩, k0_pay78 (k0_pay73 (k0_pay2 x0 x1) (chunk 3072 inb_S2048x4096_S2048x512_0_3072 x2))⟩,
      ⟨⟨(⟨![5, 0], ![512, 128], ![8, 1], inb_S4096x128_S512x128_5_0_s_8_1⟩ : LoadRect S4096x128), spos_8_1⟩, k0_pay76 (k0_pay73 (k0_pay2 x0 x1) (chunk 3072 inb_S2048x4096_S2048x512_0_3072 x2))⟩,
      ⟨⟨(⟨![4, 0], ![512, 128], ![8, 1], inb_S4096x128_S512x128_4_0_s_8_1⟩ : LoadRect S4096x128), spos_8_1⟩, k0_pay74 (k0_pay2 x0 x1) (chunk 3072 inb_S2048x4096_S2048x512_0_3072 x2)⟩,
      ⟨⟨(⟨![3, 0], ![512, 128], ![8, 1], inb_S4096x128_S512x128_3_0_s_8_1⟩ : LoadRect S4096x128), spos_8_1⟩, k0_pay71 (k0_pay2 x0 x1) (chunk 2560 inb_S2048x4096_S2048x512_0_2560 x2)⟩,
      ⟨⟨(⟨![2, 0], ![512, 128], ![8, 1], inb_S4096x128_S512x128_2_0_s_8_1⟩ : LoadRect S4096x128), spos_8_1⟩, k0_pay69 (k0_pay2 x0 x1) (chunk 2560 inb_S2048x4096_S2048x512_0_2560 x2)⟩,
      ⟨⟨(⟨![1, 0], ![512, 128], ![8, 1], inb_S4096x128_S512x128_1_0_s_8_1⟩ : LoadRect S4096x128), spos_8_1⟩, k0_pay67 (k0_pay2 x0 x1) (chunk 2560 inb_S2048x4096_S2048x512_0_2560 x2)⟩,
      ⟨⟨(⟨![0, 0], ![512, 128], ![8, 1], inb_S4096x128_S512x128_0_0_s_8_1⟩ : LoadRect S4096x128), spos_8_1⟩, k0_pay65 (k0_pay2 x0 x1) (chunk 2560 inb_S2048x4096_S2048x512_0_2560 x2)⟩] := by
  have hX := load_whole0 arg1 harg1 x0
  have hN := load_whole1 arg2 harg2 x1
  have hG4 := load_gain arg4 harg4 x3
  have hG5 := load_gain arg5 harg5 x4
  have hG6 := load_gain arg6 harg6 x5
  have hw0 := load_chunk 0 inb_S2048x4096_S2048x512_0_0 arg3 harg3 x2
  have hw1 := load_chunk 512 inb_S2048x4096_S2048x512_0_512 arg3 harg3 x2
  have hw2 := load_chunk 1024 inb_S2048x4096_S2048x512_0_1024 arg3 harg3 x2
  have hw3 := load_chunk 1536 inb_S2048x4096_S2048x512_0_1536 arg3 harg3 x2
  have hw4 := load_chunk 2048 inb_S2048x4096_S2048x512_0_2048 arg3 harg3 x2
  have hw5 := load_chunk 2560 inb_S2048x4096_S2048x512_0_2560 arg3 harg3 x2
  have hw6 := load_chunk 3072 inb_S2048x4096_S2048x512_0_3072 arg3 harg3 x2
  have hw7 := load_chunk 3584 inb_S2048x4096_S2048x512_0_3584 arg3 harg3 x2
  unfold kernelRun
  dsimp only
  sl_unfold_words
  generalize (View.readAt (Elt F) arg1.view (Rect.unit (s := S512x2048) ![0, 0] S512x2048.size inb_S512x2048_S512x2048_0_0).toLoadRect (harg1.unread x0)) = X at hX ⊢
  generalize (View.readAt (Elt F) arg2.view (Rect.unit (s := S1x2048) ![0, 0] S1x2048.size inb_S1x2048_S1x2048_0_0).toLoadRect (harg2.unread x1)) = N at hN ⊢
  generalize (View.readAt (Elt F) arg4.view (Rect.unit (s := S1x128) ![0, 0] S1x128.size inb_S1x128_S1x128_0_0).toLoadRect (harg4.unread x3)) = G4 at hG4 ⊢
  generalize (View.readAt (Elt F) arg5.view (Rect.unit (s := S1x128) ![0, 0] S1x128.size inb_S1x128_S1x128_0_0).toLoadRect (harg5.unread x4)) = G5 at hG5 ⊢
  generalize (View.readAt (Elt F) arg6.view (Rect.unit (s := S1x128) ![0, 0] S1x128.size inb_S1x128_S1x128_0_0).toLoadRect (harg6.unread x5)) = G6 at hG6 ⊢
  generalize (View.readAt (Elt F) arg3.view (Rect.unit (s := S2048x4096) ![0, 0] S2048x512.size inb_S2048x4096_S2048x512_0_0).toLoadRect (harg3.unread x2)) = W0 at hw0 ⊢
  generalize (View.readAt (Elt F) arg3.view (Rect.unit (s := S2048x4096) ![0, 512] S2048x512.size inb_S2048x4096_S2048x512_0_512).toLoadRect (harg3.unread x2)) = W1 at hw1 ⊢
  generalize (View.readAt (Elt F) arg3.view (Rect.unit (s := S2048x4096) ![0, 1024] S2048x512.size inb_S2048x4096_S2048x512_0_1024).toLoadRect (harg3.unread x2)) = W2 at hw2 ⊢
  generalize (View.readAt (Elt F) arg3.view (Rect.unit (s := S2048x4096) ![0, 1536] S2048x512.size inb_S2048x4096_S2048x512_0_1536).toLoadRect (harg3.unread x2)) = W3 at hw3 ⊢
  generalize (View.readAt (Elt F) arg3.view (Rect.unit (s := S2048x4096) ![0, 2048] S2048x512.size inb_S2048x4096_S2048x512_0_2048).toLoadRect (harg3.unread x2)) = W4 at hw4 ⊢
  generalize (View.readAt (Elt F) arg3.view (Rect.unit (s := S2048x4096) ![0, 2560] S2048x512.size inb_S2048x4096_S2048x512_0_2560).toLoadRect (harg3.unread x2)) = W5 at hw5 ⊢
  generalize (View.readAt (Elt F) arg3.view (Rect.unit (s := S2048x4096) ![0, 3072] S2048x512.size inb_S2048x4096_S2048x512_0_3072).toLoadRect (harg3.unread x2)) = W6 at hw6 ⊢
  generalize (View.readAt (Elt F) arg3.view (Rect.unit (s := S2048x4096) ![0, 3584] S2048x512.size inb_S2048x4096_S2048x512_0_3584).toLoadRect (harg3.unread x2)) = W7 at hw7 ⊢
  subst hX hN hG4 hG5 hG6 hw0 hw1 hw2 hw3 hw4 hw5 hw6 hw7
  rfl

/-- The stores into output 12: each rectangle with what is put there. -/
theorem pieces12 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) :
    (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.2.1 =
     [⟨Rect.unit ![0, 896] ![512, 128] inb_S512x1024_S512x128_0_896, k0_pay81 (k0_pay73 (k0_pay2 x0 x1) (chunk 3072 inb_S2048x4096_S2048x512_0_3072 x2))⟩,
      ⟨Rect.unit ![0, 768] ![512, 128] inb_S512x1024_S512x128_0_768, k0_pay79 (k0_pay73 (k0_pay2 x0 x1) (chunk 3072 inb_S2048x4096_S2048x512_0_3072 x2))⟩,
      ⟨Rect.unit ![0, 640] ![512, 128] inb_S512x1024_S512x128_0_640, k0_pay77 (k0_pay73 (k0_pay2 x0 x1) (chunk 3072 inb_S2048x4096_S2048x512_0_3072 x2))⟩,
      ⟨Rect.unit ![0, 512] ![512, 128] inb_S512x1024_S512x128_0_512, k0_pay75 (k0_pay74 (k0_pay2 x0 x1) (chunk 3072 inb_S2048x4096_S2048x512_0_3072 x2))⟩,
      ⟨Rect.unit ![0, 384] ![512, 128] inb_S512x1024_S512x128_0_384, k0_pay72 (k0_pay2 x0 x1) (chunk 2560 inb_S2048x4096_S2048x512_0_2560 x2)⟩,
      ⟨Rect.unit ![0, 256] ![512, 128] inb_S512x1024_S512x128_0_256, k0_pay70 (k0_pay2 x0 x1) (chunk 2560 inb_S2048x4096_S2048x512_0_2560 x2)⟩,
      ⟨Rect.unit ![0, 128] ![512, 128] inb_S512x1024_S512x128_0_128, k0_pay68 (k0_pay2 x0 x1) (chunk 2560 inb_S2048x4096_S2048x512_0_2560 x2)⟩,
      ⟨Rect.unit ![0, 0] ![512, 128] inb_S512x1024_S512x128_0_0, k0_pay66 (k0_pay2 x0 x1) (chunk 2560 inb_S2048x4096_S2048x512_0_2560 x2)⟩] := by
  have hX := load_whole0 arg1 harg1 x0
  have hN := load_whole1 arg2 harg2 x1
  have hG4 := load_gain arg4 harg4 x3
  have hG5 := load_gain arg5 harg5 x4
  have hG6 := load_gain arg6 harg6 x5
  have hw0 := load_chunk 0 inb_S2048x4096_S2048x512_0_0 arg3 harg3 x2
  have hw1 := load_chunk 512 inb_S2048x4096_S2048x512_0_512 arg3 harg3 x2
  have hw2 := load_chunk 1024 inb_S2048x4096_S2048x512_0_1024 arg3 harg3 x2
  have hw3 := load_chunk 1536 inb_S2048x4096_S2048x512_0_1536 arg3 harg3 x2
  have hw4 := load_chunk 2048 inb_S2048x4096_S2048x512_0_2048 arg3 harg3 x2
  have hw5 := load_chunk 2560 inb_S2048x4096_S2048x512_0_2560 arg3 harg3 x2
  have hw6 := load_chunk 3072 inb_S2048x4096_S2048x512_0_3072 arg3 harg3 x2
  have hw7 := load_chunk 3584 inb_S2048x4096_S2048x512_0_3584 arg3 harg3 x2
  unfold kernelRun
  dsimp only
  sl_unfold_words
  generalize (View.readAt (Elt F) arg1.view (Rect.unit (s := S512x2048) ![0, 0] S512x2048.size inb_S512x2048_S512x2048_0_0).toLoadRect (harg1.unread x0)) = X at hX ⊢
  generalize (View.readAt (Elt F) arg2.view (Rect.unit (s := S1x2048) ![0, 0] S1x2048.size inb_S1x2048_S1x2048_0_0).toLoadRect (harg2.unread x1)) = N at hN ⊢
  generalize (View.readAt (Elt F) arg4.view (Rect.unit (s := S1x128) ![0, 0] S1x128.size inb_S1x128_S1x128_0_0).toLoadRect (harg4.unread x3)) = G4 at hG4 ⊢
  generalize (View.readAt (Elt F) arg5.view (Rect.unit (s := S1x128) ![0, 0] S1x128.size inb_S1x128_S1x128_0_0).toLoadRect (harg5.unread x4)) = G5 at hG5 ⊢
  generalize (View.readAt (Elt F) arg6.view (Rect.unit (s := S1x128) ![0, 0] S1x128.size inb_S1x128_S1x128_0_0).toLoadRect (harg6.unread x5)) = G6 at hG6 ⊢
  generalize (View.readAt (Elt F) arg3.view (Rect.unit (s := S2048x4096) ![0, 0] S2048x512.size inb_S2048x4096_S2048x512_0_0).toLoadRect (harg3.unread x2)) = W0 at hw0 ⊢
  generalize (View.readAt (Elt F) arg3.view (Rect.unit (s := S2048x4096) ![0, 512] S2048x512.size inb_S2048x4096_S2048x512_0_512).toLoadRect (harg3.unread x2)) = W1 at hw1 ⊢
  generalize (View.readAt (Elt F) arg3.view (Rect.unit (s := S2048x4096) ![0, 1024] S2048x512.size inb_S2048x4096_S2048x512_0_1024).toLoadRect (harg3.unread x2)) = W2 at hw2 ⊢
  generalize (View.readAt (Elt F) arg3.view (Rect.unit (s := S2048x4096) ![0, 1536] S2048x512.size inb_S2048x4096_S2048x512_0_1536).toLoadRect (harg3.unread x2)) = W3 at hw3 ⊢
  generalize (View.readAt (Elt F) arg3.view (Rect.unit (s := S2048x4096) ![0, 2048] S2048x512.size inb_S2048x4096_S2048x512_0_2048).toLoadRect (harg3.unread x2)) = W4 at hw4 ⊢
  generalize (View.readAt (Elt F) arg3.view (Rect.unit (s := S2048x4096) ![0, 2560] S2048x512.size inb_S2048x4096_S2048x512_0_2560).toLoadRect (harg3.unread x2)) = W5 at hw5 ⊢
  generalize (View.readAt (Elt F) arg3.view (Rect.unit (s := S2048x4096) ![0, 3072] S2048x512.size inb_S2048x4096_S2048x512_0_3072).toLoadRect (harg3.unread x2)) = W6 at hw6 ⊢
  generalize (View.readAt (Elt F) arg3.view (Rect.unit (s := S2048x4096) ![0, 3584] S2048x512.size inb_S2048x4096_S2048x512_0_3584).toLoadRect (harg3.unread x2)) = W7 at hw7 ⊢
  subst hX hN hG4 hG5 hG6 hw0 hw1 hw2 hw3 hw4 hw5 hw6 hw7
  rfl

/-- The stores into output 13: each rectangle with what is put there. -/
theorem pieces13 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x512 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S512x1024 .bf16) (harg10 : arg10.IsWhole) (arg11 : Memref sig .tc .vmem S1x2x1024 .f32) (harg11 : arg11.IsWhole) (arg12 : Memref sig .tc .vmem S4096x128 .f32) (harg12 : arg12.IsWhole) (arg13 : Memref sig .tc .vmem S512x1024 .bf16) (harg13 : arg13.IsWhole) (arg14 : Memref sig .tc .vmem S512x512 .f32) (harg14 : arg14.IsWhole)
    (x0 : Vec F S512x2048 .f32) (x1 : Vec F S1x2048 .f32) (x2 : Vec F S2048x4096 .bf16) (x3 : Vec F S1x128 .f32) (x4 : Vec F S1x128 .f32) (x5 : Vec F S1x128 .f32) :
    (kernelRun c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5).2.2.2.2.2.2.2.1 =
     [⟨Rect.unit ![0, 384] ![512, 128] inb_S512x512_S512x128_0_384, k0_pay1 (k0_pay88 (k0_pay82 (k0_pay2 x0 x1) (chunk 3584 inb_S2048x4096_S2048x512_0_3584 x2))) (k0_pay89 (k0_pay82 (k0_pay2 x0 x1) (chunk 3584 inb_S2048x4096_S2048x512_0_3584 x2))) k0_pay90 x5⟩,
      ⟨Rect.unit ![0, 256] ![512, 128] inb_S512x512_S512x128_0_256, k0_pay87 (k0_pay82 (k0_pay2 x0 x1) (chunk 3584 inb_S2048x4096_S2048x512_0_3584 x2)) x5⟩,
      ⟨Rect.unit ![0, 128] ![512, 128] inb_S512x512_S512x128_0_128, k0_pay86 (k0_pay82 (k0_pay2 x0 x1) (chunk 3584 inb_S2048x4096_S2048x512_0_3584 x2)) x5⟩,
      ⟨Rect.unit ![0, 0] ![512, 128] inb_S512x512_S512x128_0_0, k0_pay85 (k0_pay83 (k0_pay2 x0 x1) (chunk 3584 inb_S2048x4096_S2048x512_0_3584 x2)) (k0_pay84 x5)⟩] := by
  have hX := load_whole0 arg1 harg1 x0
  have hN := load_whole1 arg2 harg2 x1
  have hG4 := load_gain arg4 harg4 x3
  have hG5 := load_gain arg5 harg5 x4
  have hG6 := load_gain arg6 harg6 x5
  have hw0 := load_chunk 0 inb_S2048x4096_S2048x512_0_0 arg3 harg3 x2
  have hw1 := load_chunk 512 inb_S2048x4096_S2048x512_0_512 arg3 harg3 x2
  have hw2 := load_chunk 1024 inb_S2048x4096_S2048x512_0_1024 arg3 harg3 x2
  have hw3 := load_chunk 1536 inb_S2048x4096_S2048x512_0_1536 arg3 harg3 x2
  have hw4 := load_chunk 2048 inb_S2048x4096_S2048x512_0_2048 arg3 harg3 x2
  have hw5 := load_chunk 2560 inb_S2048x4096_S2048x512_0_2560 arg3 harg3 x2
  have hw6 := load_chunk 3072 inb_S2048x4096_S2048x512_0_3072 arg3 harg3 x2
  have hw7 := load_chunk 3584 inb_S2048x4096_S2048x512_0_3584 arg3 harg3 x2
  unfold kernelRun
  dsimp only
  sl_unfold_words
  generalize (View.readAt (Elt F) arg1.view (Rect.unit (s := S512x2048) ![0, 0] S512x2048.size inb_S512x2048_S512x2048_0_0).toLoadRect (harg1.unread x0)) = X at hX ⊢
  generalize (View.readAt (Elt F) arg2.view (Rect.unit (s := S1x2048) ![0, 0] S1x2048.size inb_S1x2048_S1x2048_0_0).toLoadRect (harg2.unread x1)) = N at hN ⊢
  generalize (View.readAt (Elt F) arg4.view (Rect.unit (s := S1x128) ![0, 0] S1x128.size inb_S1x128_S1x128_0_0).toLoadRect (harg4.unread x3)) = G4 at hG4 ⊢
  generalize (View.readAt (Elt F) arg5.view (Rect.unit (s := S1x128) ![0, 0] S1x128.size inb_S1x128_S1x128_0_0).toLoadRect (harg5.unread x4)) = G5 at hG5 ⊢
  generalize (View.readAt (Elt F) arg6.view (Rect.unit (s := S1x128) ![0, 0] S1x128.size inb_S1x128_S1x128_0_0).toLoadRect (harg6.unread x5)) = G6 at hG6 ⊢
  generalize (View.readAt (Elt F) arg3.view (Rect.unit (s := S2048x4096) ![0, 0] S2048x512.size inb_S2048x4096_S2048x512_0_0).toLoadRect (harg3.unread x2)) = W0 at hw0 ⊢
  generalize (View.readAt (Elt F) arg3.view (Rect.unit (s := S2048x4096) ![0, 512] S2048x512.size inb_S2048x4096_S2048x512_0_512).toLoadRect (harg3.unread x2)) = W1 at hw1 ⊢
  generalize (View.readAt (Elt F) arg3.view (Rect.unit (s := S2048x4096) ![0, 1024] S2048x512.size inb_S2048x4096_S2048x512_0_1024).toLoadRect (harg3.unread x2)) = W2 at hw2 ⊢
  generalize (View.readAt (Elt F) arg3.view (Rect.unit (s := S2048x4096) ![0, 1536] S2048x512.size inb_S2048x4096_S2048x512_0_1536).toLoadRect (harg3.unread x2)) = W3 at hw3 ⊢
  generalize (View.readAt (Elt F) arg3.view (Rect.unit (s := S2048x4096) ![0, 2048] S2048x512.size inb_S2048x4096_S2048x512_0_2048).toLoadRect (harg3.unread x2)) = W4 at hw4 ⊢
  generalize (View.readAt (Elt F) arg3.view (Rect.unit (s := S2048x4096) ![0, 2560] S2048x512.size inb_S2048x4096_S2048x512_0_2560).toLoadRect (harg3.unread x2)) = W5 at hw5 ⊢
  generalize (View.readAt (Elt F) arg3.view (Rect.unit (s := S2048x4096) ![0, 3072] S2048x512.size inb_S2048x4096_S2048x512_0_3072).toLoadRect (harg3.unread x2)) = W6 at hw6 ⊢
  generalize (View.readAt (Elt F) arg3.view (Rect.unit (s := S2048x4096) ![0, 3584] S2048x512.size inb_S2048x4096_S2048x512_0_3584).toLoadRect (harg3.unread x2)) = W7 at hw7 ⊢
  subst hX hN hG4 hG5 hG6 hw0 hw1 hw2 hw3 hw4 hw5 hw6 hw7
  rfl

end Cert.InProj

end
-- ==== Proof.InStores.lean ====
/- Every store of the input projection, as a function of the projected rows. -/
module

public import proofs.«01_k».proof.Proof.InFrame
public import proofs.«01_k».proof.Proof.InPieces
public import Idealize.ShloMosaic.Lib.WholeRead
public import Idealize.ShloMosaic.Lib.Pointwise
public import Idealize.ShloMosaic.Lib.Pipeline.ValueKit

@[expose] public section

set_option maxRecDepth 16384

noncomputable section

namespace Cert.InProj

open Cert.Kernel3Ideal Cert.Kernel3Ideal.Gen Cert.Kernel3Ideal.Body
open Idealize.ShloMosaic Idealize.ShloMosaic.TcCoe Idealize.ShloMosaic.Tactic Idealize.SL.Sem

/-- A head's 128 values normalised: each divided by the root of their mean square, and scaled. -/
def nrm (z : Fin 128 → EReal) (g : EReal) (j : Fin 128) : EReal :=
  z j * Ideal.rsqrt (Ideal.div (∑ x, z x * z x) (Ideal.ofBits FTy.f32 1124073472#32) + Ideal.ofBits FTy.f32 897988541#32) * g

theorem nrm_congr (z z' : Fin 128 → EReal) (g g' : EReal) (j : Fin 128) (hz : ∀ x, z x = z' x) (hg : g = g') : nrm z g j = nrm z' g' j := by
  rw [funext hz, hg]

/-- The mean of 256 rows. -/
def avg (z : Fin 256 → EReal) : EReal := Ideal.div (∑ x, z x) (Ideal.ofBits FTy.f32 1132462080#32)

theorem p3_eq (X : Vec Ideal S512x2048 .f32) (N : Vec Ideal S1x2048 .f32) (W : Vec Ideal S2048x512 .bf16) : k0_pay3 (F := Ideal) X N W = k0_pay23 (k0_pay2 X N) W := rfl
theorem p8_eq (X : Vec Ideal S512x2048 .f32) (N : Vec Ideal S1x2048 .f32) (W : Vec Ideal S2048x512 .bf16) : k0_pay8 (F := Ideal) X N W = k0_pay23 (k0_pay2 X N) W := rfl
theorem p16_eq (Y : FVec Ideal S512x2048 .bf16) (W : Vec Ideal S2048x512 .bf16) : k0_pay16 (F := Ideal) Y W = k0_pay23 Y W := rfl
theorem p43_eq (Y : FVec Ideal S512x2048 .bf16) (W : Vec Ideal S2048x512 .bf16) : k0_pay43 (F := Ideal) Y W = k0_pay23 Y W := rfl
theorem p73_eq (Y : FVec Ideal S512x2048 .bf16) (W : Vec Ideal S2048x512 .bf16) : k0_pay73 (F := Ideal) Y W = k0_pay23 Y W := rfl
theorem p82_eq (Y : FVec Ideal S512x2048 .bf16) (W : Vec Ideal S2048x512 .bf16) : k0_pay82 (F := Ideal) Y W = k0_pay23 Y W := rfl

variable (X : Vec Ideal S512x2048 .f32) (N : Vec Ideal S1x2048 .f32) (W : Vec Ideal S2048x512 .bf16) (Y : FVec Ideal S512x2048 .bf16)
  (G : Vec Ideal S1x128 .f32) (r : Fin 512) (j : Fin 128)

theorem u0_at : (k0_pay4 (F := Ideal) X N W) (ix2 r j) = k0_pay23 (F := Ideal) (k0_pay2 X N) W (ix2 r ⟨0 + j.val, by have := j.isLt; omega⟩) := by
  unfold k0_pay4
  try simp only [p3_eq, p8_eq, p16_eq, p43_eq, p73_eq, p82_eq]
  generalize k0_pay23 (F := Ideal) (k0_pay2 X N) W = Z
  pointwise []
  all_goals rfl

theorem u1_at : (k0_pay5 (F := Ideal) X N W) (ix2 r j) = k0_pay23 (F := Ideal) (k0_pay2 X N) W (ix2 r ⟨128 + j.val, by have := j.isLt; omega⟩) := by
  unfold k0_pay5
  try simp only [p3_eq, p8_eq, p16_eq, p43_eq, p73_eq, p82_eq]
  generalize k0_pay23 (F := Ideal) (k0_pay2 X N) W = Z
  pointwise []
  all_goals rfl

theorem u2_at : (k0_pay6 (F := Ideal) X N W) (ix2 r j) = k0_pay23 (F := Ideal) (k0_pay2 X N) W (ix2 r ⟨256 + j.val, by have := j.isLt; omega⟩) := by
  unfold k0_pay6
  try simp only [p3_eq, p8_eq, p16_eq, p43_eq, p73_eq, p82_eq]
  generalize k0_pay23 (F := Ideal) (k0_pay2 X N) W = Z
  pointwise []
  all_goals rfl

theorem u3_at : (k0_pay7 (F := Ideal) X N W) (ix2 r j) = k0_pay23 (F := Ideal) (k0_pay2 X N) W (ix2 r ⟨384 + j.val, by have := j.isLt; omega⟩) := by
  unfold k0_pay7
  try simp only [p3_eq, p8_eq, p16_eq, p43_eq, p73_eq, p82_eq]
  generalize k0_pay23 (F := Ideal) (k0_pay2 X N) W = Z
  pointwise []
  all_goals rfl

theorem q0_at : (k0_pay11 (F := Ideal) (k0_pay9 X N W) (k0_pay10 X N W) G) (ix2 r j) = nrm (fun x : Fin 128 => k0_pay23 (F := Ideal) (k0_pay2 X N) W (ix2 r ⟨0 + x.val, by have := x.isLt; omega⟩)) (G (ix2 0 j)) j := by
  unfold k0_pay10 k0_pay9
  try simp only [p3_eq, p8_eq, p16_eq, p43_eq, p73_eq, p82_eq]
  generalize k0_pay23 (F := Ideal) (k0_pay2 X N) W = Z
  pointwise [k0_pay11]
  all_goals rfl

theorem q1_at : (k0_pay12 (F := Ideal) (k0_pay8 X N W) G) (ix2 r j) = nrm (fun x : Fin 128 => k0_pay23 (F := Ideal) (k0_pay2 X N) W (ix2 r ⟨128 + x.val, by have := x.isLt; omega⟩)) (G (ix2 0 j)) j := by
  try simp only [p3_eq, p8_eq, p16_eq, p43_eq, p73_eq, p82_eq]
  generalize k0_pay23 (F := Ideal) (k0_pay2 X N) W = Z
  pointwise [k0_pay12]
  all_goals rfl

theorem q2_at : (k0_pay14 (F := Ideal) (k0_pay13 (k0_pay8 X N W)) G) (ix2 r j) = nrm (fun x : Fin 128 => k0_pay23 (F := Ideal) (k0_pay2 X N) W (ix2 r ⟨256 + x.val, by have := x.isLt; omega⟩)) (G (ix2 0 j)) j := by
  try simp only [p3_eq, p8_eq, p16_eq, p43_eq, p73_eq, p82_eq]
  generalize k0_pay23 (F := Ideal) (k0_pay2 X N) W = Z
  pointwise [k0_pay14, k0_pay13]
  all_goals rfl

theorem q3_at : (k0_pay15 (F := Ideal) (k0_pay8 X N W) G) (ix2 r j) = nrm (fun x : Fin 128 => k0_pay23 (F := Ideal) (k0_pay2 X N) W (ix2 r ⟨384 + x.val, by have := x.isLt; omega⟩)) (G (ix2 0 j)) j := by
  try simp only [p3_eq, p8_eq, p16_eq, p43_eq, p73_eq, p82_eq]
  generalize k0_pay23 (F := Ideal) (k0_pay2 X N) W = Z
  pointwise [k0_pay15]
  all_goals rfl

theorem q4_at : (k0_pay17 (F := Ideal) Y W G) (ix2 r j) = nrm (fun x : Fin 128 => k0_pay23 (F := Ideal) Y W (ix2 r ⟨0 + x.val, by have := x.isLt; omega⟩)) (G (ix2 0 j)) j := by
  unfold k0_pay17
  try simp only [p3_eq, p8_eq, p16_eq, p43_eq, p73_eq, p82_eq]
  generalize k0_pay23 (F := Ideal) Y W = Z
  pointwise []
  all_goals rfl

theorem q5_at : (k0_pay18 (F := Ideal) (k0_pay16 Y W) G) (ix2 r j) = nrm (fun x : Fin 128 => k0_pay23 (F := Ideal) Y W (ix2 r ⟨128 + x.val, by have := x.isLt; omega⟩)) (G (ix2 0 j)) j := by
  try simp only [p3_eq, p8_eq, p16_eq, p43_eq, p73_eq, p82_eq]
  generalize k0_pay23 (F := Ideal) Y W = Z
  pointwise [k0_pay18]
  all_goals rfl

theorem q6_at : (k0_pay19 (F := Ideal) (k0_pay16 Y W) G) (ix2 r j) = nrm (fun x : Fin 128 => k0_pay23 (F := Ideal) Y W (ix2 r ⟨256 + x.val, by have := x.isLt; omega⟩)) (G (ix2 0 j)) j := by
  try simp only [p3_eq, p8_eq, p16_eq, p43_eq, p73_eq, p82_eq]
  generalize k0_pay23 (F := Ideal) Y W = Z
  pointwise [k0_pay19]
  all_goals rfl

theorem q7_at : (k0_pay22 (F := Ideal) (k0_pay20 (k0_pay16 Y W)) (k0_pay21 (k0_pay16 Y W)) (FloatOps.ofBits FTy.f32 897988541#32) G) (ix2 r j) = nrm (fun x : Fin 128 => k0_pay23 (F := Ideal) Y W (ix2 r ⟨384 + x.val, by have := x.isLt; omega⟩)) (G (ix2 0 j)) j := by
  try simp only [p3_eq, p8_eq, p16_eq, p43_eq, p73_eq, p82_eq]
  generalize k0_pay23 (F := Ideal) Y W = Z
  pointwise [k0_pay22, k0_pay21, k0_pay20]
  all_goals rfl

theorem k0_at : (k0_pay24 (F := Ideal) Y W G) (ix2 r j) = nrm (fun x : Fin 128 => k0_pay23 (F := Ideal) Y W (ix2 r ⟨0 + x.val, by have := x.isLt; omega⟩)) (G (ix2 0 j)) j := by
  unfold k0_pay24
  try simp only [p3_eq, p8_eq, p16_eq, p43_eq, p73_eq, p82_eq]
  generalize k0_pay23 (F := Ideal) Y W = Z
  pointwise []
  all_goals rfl

theorem k1_at : (k0_pay29 (F := Ideal) (k0_pay23 Y W) G) (ix2 r j) = nrm (fun x : Fin 128 => k0_pay23 (F := Ideal) Y W (ix2 r ⟨128 + x.val, by have := x.isLt; omega⟩)) (G (ix2 0 j)) j := by
  try simp only [p3_eq, p8_eq, p16_eq, p43_eq, p73_eq, p82_eq]
  generalize k0_pay23 (F := Ideal) Y W = Z
  pointwise [k0_pay29]
  all_goals rfl

theorem k2_at : (k0_pay33 (F := Ideal) (k0_pay23 Y W) G) (ix2 r j) = nrm (fun x : Fin 128 => k0_pay23 (F := Ideal) Y W (ix2 r ⟨256 + x.val, by have := x.isLt; omega⟩)) (G (ix2 0 j)) j := by
  try simp only [p3_eq, p8_eq, p16_eq, p43_eq, p73_eq, p82_eq]
  generalize k0_pay23 (F := Ideal) Y W = Z
  pointwise [k0_pay33]
  all_goals rfl

theorem k3_at : (k0_pay38 (F := Ideal) (k0_pay23 Y W) G) (ix2 r j) = nrm (fun x : Fin 128 => k0_pay23 (F := Ideal) Y W (ix2 r ⟨384 + x.val, by have := x.isLt; omega⟩)) (G (ix2 0 j)) j := by
  try simp only [p3_eq, p8_eq, p16_eq, p43_eq, p73_eq, p82_eq]
  generalize k0_pay23 (F := Ideal) Y W = Z
  pointwise [k0_pay38]
  all_goals rfl

theorem k4_at : (k0_pay44 (F := Ideal) Y W G) (ix2 r j) = nrm (fun x : Fin 128 => k0_pay23 (F := Ideal) Y W (ix2 r ⟨0 + x.val, by have := x.isLt; omega⟩)) (G (ix2 0 j)) j := by
  unfold k0_pay44
  try simp only [p3_eq, p8_eq, p16_eq, p43_eq, p73_eq, p82_eq]
  generalize k0_pay23 (F := Ideal) Y W = Z
  pointwise []
  all_goals rfl

theorem k5_at : (k0_pay49 (F := Ideal) (k0_pay43 Y W) G) (ix2 r j) = nrm (fun x : Fin 128 => k0_pay23 (F := Ideal) Y W (ix2 r ⟨128 + x.val, by have := x.isLt; omega⟩)) (G (ix2 0 j)) j := by
  try simp only [p3_eq, p8_eq, p16_eq, p43_eq, p73_eq, p82_eq]
  generalize k0_pay23 (F := Ideal) Y W = Z
  pointwise [k0_pay49]
  all_goals rfl

theorem k6_at : (k0_pay54 (F := Ideal) (k0_pay43 Y W) G) (ix2 r j) = nrm (fun x : Fin 128 => k0_pay23 (F := Ideal) Y W (ix2 r ⟨256 + x.val, by have := x.isLt; omega⟩)) (G (ix2 0 j)) j := by
  try simp only [p3_eq, p8_eq, p16_eq, p43_eq, p73_eq, p82_eq]
  generalize k0_pay23 (F := Ideal) Y W = Z
  pointwise [k0_pay54]
  all_goals rfl

theorem k7_at : (k0_pay59 (F := Ideal) (k0_pay43 Y W) G) (ix2 r j) = nrm (fun x : Fin 128 => k0_pay23 (F := Ideal) Y W (ix2 r ⟨384 + x.val, by have := x.isLt; omega⟩)) (G (ix2 0 j)) j := by
  try simp only [p3_eq, p8_eq, p16_eq, p43_eq, p73_eq, p82_eq]
  generalize k0_pay23 (F := Ideal) Y W = Z
  pointwise [k0_pay59]
  all_goals rfl

theorem kb0_at : (k0_pay25 (F := Ideal) Y W G) (ix2 r j) = (k0_pay24 (F := Ideal) Y W G) (ix2 r j) := rfl
theorem kb1_at : (k0_pay30 (F := Ideal) (k0_pay23 Y W) G) (ix2 r j) = (k0_pay29 (F := Ideal) (k0_pay23 Y W) G) (ix2 r j) := rfl
theorem kb2_at : (k0_pay34 (F := Ideal) (k0_pay23 Y W) G) (ix2 r j) = (k0_pay33 (F := Ideal) (k0_pay23 Y W) G) (ix2 r j) := rfl
theorem kb3_at : (k0_pay39 (F := Ideal) (k0_pay23 Y W) G) (ix2 r j) = (k0_pay38 (F := Ideal) (k0_pay23 Y W) G) (ix2 r j) := rfl
theorem kb4_at : (k0_pay45 (F := Ideal) Y W G) (ix2 r j) = (k0_pay44 (F := Ideal) Y W G) (ix2 r j) := rfl
theorem kb5_at : (k0_pay50 (F := Ideal) (k0_pay43 Y W) G) (ix2 r j) = (k0_pay49 (F := Ideal) (k0_pay43 Y W) G) (ix2 r j) := rfl
theorem kb6_at : (k0_pay55 (F := Ideal) (k0_pay43 Y W) G) (ix2 r j) = (k0_pay54 (F := Ideal) (k0_pay43 Y W) G) (ix2 r j) := rfl
theorem kb7_at : (k0_pay60 (F := Ideal) (k0_pay43 Y W) G) (ix2 r j) = (k0_pay59 (F := Ideal) (k0_pay43 Y W) G) (ix2 r j) := rfl
theorem m0_0_at : (k0_pay27 (F := Ideal) (k0_pay26 Y W G)) (ix3 0 0 j) = avg (fun x : Fin 256 => (k0_pay24 (F := Ideal) Y W G) (ix2 ⟨0 + x.val, by have := x.isLt; omega⟩ j)) := by
  unfold k0_pay27 k0_pay26
  generalize k0_pay24 (F := Ideal) Y W G = K
  pointwise []
  all_goals rfl

theorem m0_1_at : (k0_pay28 (F := Ideal) (k0_pay24 Y W G)) (ix3 0 0 j) = avg (fun x : Fin 256 => (k0_pay24 (F := Ideal) Y W G) (ix2 ⟨256 + x.val, by have := x.isLt; omega⟩ j)) := by
  unfold k0_pay28
  generalize k0_pay24 (F := Ideal) Y W G = K
  pointwise []
  all_goals rfl

theorem m1_0_at : (k0_pay31 (F := Ideal) (k0_pay23 Y W) G) (ix3 0 0 j) = avg (fun x : Fin 256 => (k0_pay29 (F := Ideal) (k0_pay23 Y W) G) (ix2 ⟨0 + x.val, by have := x.isLt; omega⟩ j)) := by
  unfold k0_pay31
  generalize k0_pay29 (F := Ideal) (k0_pay23 Y W) G = K
  pointwise []
  all_goals rfl

theorem m1_1_at : (k0_pay32 (F := Ideal) (k0_pay29 (k0_pay23 Y W) G)) (ix3 0 0 j) = avg (fun x : Fin 256 => (k0_pay29 (F := Ideal) (k0_pay23 Y W) G) (ix2 ⟨256 + x.val, by have := x.isLt; omega⟩ j)) := by
  unfold k0_pay32
  generalize k0_pay29 (F := Ideal) (k0_pay23 Y W) G = K
  pointwise []
  all_goals rfl

theorem m2_0_at : (k0_pay35 (F := Ideal) (k0_pay23 Y W) G) (ix3 0 0 j) = avg (fun x : Fin 256 => (k0_pay33 (F := Ideal) (k0_pay23 Y W) G) (ix2 ⟨0 + x.val, by have := x.isLt; omega⟩ j)) := by
  unfold k0_pay35
  generalize k0_pay33 (F := Ideal) (k0_pay23 Y W) G = K
  pointwise []
  all_goals rfl

theorem m2_1_at : (k0_pay37 (F := Ideal) (k0_pay36 (k0_pay23 Y W) G)) (ix3 0 0 j) = avg (fun x : Fin 256 => (k0_pay33 (F := Ideal) (k0_pay23 Y W) G) (ix2 ⟨256 + x.val, by have := x.isLt; omega⟩ j)) := by
  unfold k0_pay37 k0_pay36
  generalize k0_pay33 (F := Ideal) (k0_pay23 Y W) G = K
  pointwise []
  all_goals rfl

theorem m3_0_at : (k0_pay40 (F := Ideal) (k0_pay23 Y W) G) (ix3 0 0 j) = avg (fun x : Fin 256 => (k0_pay38 (F := Ideal) (k0_pay23 Y W) G) (ix2 ⟨0 + x.val, by have := x.isLt; omega⟩ j)) := by
  unfold k0_pay40
  generalize k0_pay38 (F := Ideal) (k0_pay23 Y W) G = K
  pointwise []
  all_goals rfl

theorem m3_1_at : (k0_pay42 (F := Ideal) (k0_pay41 (k0_pay23 Y W) G) (FloatOps.ofBits FTy.f32 1132462080#32)) (ix3 0 0 j) = avg (fun x : Fin 256 => (k0_pay38 (F := Ideal) (k0_pay23 Y W) G) (ix2 ⟨256 + x.val, by have := x.isLt; omega⟩ j)) := by
  unfold k0_pay42 k0_pay41
  generalize k0_pay38 (F := Ideal) (k0_pay23 Y W) G = K
  pointwise []
  all_goals rfl

theorem m4_0_at : (k0_pay46 (F := Ideal) Y W G) (ix3 0 0 j) = avg (fun x : Fin 256 => (k0_pay44 (F := Ideal) Y W G) (ix2 ⟨0 + x.val, by have := x.isLt; omega⟩ j)) := by
  unfold k0_pay46
  generalize k0_pay44 (F := Ideal) Y W G = K
  pointwise []
  all_goals rfl

theorem m4_1_at : (k0_pay48 (F := Ideal) (k0_pay47 Y W G)) (ix3 0 0 j) = avg (fun x : Fin 256 => (k0_pay44 (F := Ideal) Y W G) (ix2 ⟨256 + x.val, by have := x.isLt; omega⟩ j)) := by
  unfold k0_pay48 k0_pay47
  generalize k0_pay44 (F := Ideal) Y W G = K
  pointwise []
  all_goals rfl

theorem m5_0_at : (k0_pay51 (F := Ideal) (k0_pay43 Y W) G) (ix3 0 0 j) = avg (fun x : Fin 256 => (k0_pay49 (F := Ideal) (k0_pay43 Y W) G) (ix2 ⟨0 + x.val, by have := x.isLt; omega⟩ j)) := by
  unfold k0_pay51
  generalize k0_pay49 (F := Ideal) (k0_pay43 Y W) G = K
  pointwise []
  all_goals rfl

theorem m5_1_at : (k0_pay53 (F := Ideal) (k0_pay52 (k0_pay43 Y W) G) (FloatOps.ofBits FTy.f32 1132462080#32)) (ix3 0 0 j) = avg (fun x : Fin 256 => (k0_pay49 (F := Ideal) (k0_pay43 Y W) G) (ix2 ⟨256 + x.val, by have := x.isLt; omega⟩ j)) := by
  unfold k0_pay53 k0_pay52
  generalize k0_pay49 (F := Ideal) (k0_pay43 Y W) G = K
  pointwise []
  all_goals rfl

theorem m6_0_at : (k0_pay56 (F := Ideal) (k0_pay43 Y W) G) (ix3 0 0 j) = avg (fun x : Fin 256 => (k0_pay54 (F := Ideal) (k0_pay43 Y W) G) (ix2 ⟨0 + x.val, by have := x.isLt; omega⟩ j)) := by
  unfold k0_pay56
  generalize k0_pay54 (F := Ideal) (k0_pay43 Y W) G = K
  pointwise []
  all_goals rfl

theorem m6_1_at : (k0_pay58 (F := Ideal) (k0_pay57 (k0_pay43 Y W) G)) (ix3 0 0 j) = avg (fun x : Fin 256 => (k0_pay54 (F := Ideal) (k0_pay43 Y W) G) (ix2 ⟨256 + x.val, by have := x.isLt; omega⟩ j)) := by
  unfold k0_pay58 k0_pay57
  generalize k0_pay54 (F := Ideal) (k0_pay43 Y W) G = K
  pointwise []
  all_goals rfl

theorem m7_0_at : (k0_pay61 (F := Ideal) (k0_pay43 Y W) G) (ix3 0 0 j) = avg (fun x : Fin 256 => (k0_pay59 (F := Ideal) (k0_pay43 Y W) G) (ix2 ⟨0 + x.val, by have := x.isLt; omega⟩ j)) := by
  unfold k0_pay61
  generalize k0_pay59 (F := Ideal) (k0_pay43 Y W) G = K
  pointwise []
  all_goals rfl

theorem m7_1_at : (k0_pay63 (F := Ideal) (k0_pay62 (k0_pay43 Y W) G)) (ix3 0 0 j) = avg (fun x : Fin 256 => (k0_pay59 (F := Ideal) (k0_pay43 Y W) G) (ix2 ⟨256 + x.val, by have := x.isLt; omega⟩ j)) := by
  unfold k0_pay63 k0_pay62
  generalize k0_pay59 (F := Ideal) (k0_pay43 Y W) G = K
  pointwise []
  all_goals rfl

theorem v0_at : (k0_pay65 (F := Ideal) Y W) (ix2 r j) = k0_pay23 (F := Ideal) Y W (ix2 r ⟨0 + j.val, by have := j.isLt; omega⟩) := by
  unfold k0_pay65
  try simp only [show k0_pay64 (F := Ideal) Y W = k0_pay23 Y W from rfl]
  try simp only [p73_eq]
  generalize k0_pay23 (F := Ideal) Y W = Z
  pointwise []
  all_goals rfl

theorem v1_at : (k0_pay67 (F := Ideal) Y W) (ix2 r j) = k0_pay23 (F := Ideal) Y W (ix2 r ⟨128 + j.val, by have := j.isLt; omega⟩) := by
  unfold k0_pay67
  try simp only [show k0_pay64 (F := Ideal) Y W = k0_pay23 Y W from rfl]
  try simp only [p73_eq]
  generalize k0_pay23 (F := Ideal) Y W = Z
  pointwise []
  all_goals rfl

theorem v2_at : (k0_pay69 (F := Ideal) Y W) (ix2 r j) = k0_pay23 (F := Ideal) Y W (ix2 r ⟨256 + j.val, by have := j.isLt; omega⟩) := by
  unfold k0_pay69
  try simp only [show k0_pay64 (F := Ideal) Y W = k0_pay23 Y W from rfl]
  try simp only [p73_eq]
  generalize k0_pay23 (F := Ideal) Y W = Z
  pointwise []
  all_goals rfl

theorem v3_at : (k0_pay71 (F := Ideal) Y W) (ix2 r j) = k0_pay23 (F := Ideal) Y W (ix2 r ⟨384 + j.val, by have := j.isLt; omega⟩) := by
  unfold k0_pay71
  try simp only [show k0_pay64 (F := Ideal) Y W = k0_pay23 Y W from rfl]
  try simp only [p73_eq]
  generalize k0_pay23 (F := Ideal) Y W = Z
  pointwise []
  all_goals rfl

theorem v4_at : (k0_pay74 (F := Ideal) Y W) (ix2 r j) = k0_pay23 (F := Ideal) Y W (ix2 r ⟨0 + j.val, by have := j.isLt; omega⟩) := by
  unfold k0_pay74
  try simp only [show k0_pay64 (F := Ideal) Y W = k0_pay23 Y W from rfl]
  try simp only [p73_eq]
  generalize k0_pay23 (F := Ideal) Y W = Z
  pointwise []
  all_goals rfl

theorem v5_at : (k0_pay76 (F := Ideal) (k0_pay73 Y W)) (ix2 r j) = k0_pay23 (F := Ideal) Y W (ix2 r ⟨128 + j.val, by have := j.isLt; omega⟩) := by
  unfold k0_pay76
  try simp only [show k0_pay64 (F := Ideal) Y W = k0_pay23 Y W from rfl]
  try simp only [p73_eq]
  generalize k0_pay23 (F := Ideal) Y W = Z
  pointwise []
  all_goals rfl

theorem v6_at : (k0_pay78 (F := Ideal) (k0_pay73 Y W)) (ix2 r j) = k0_pay23 (F := Ideal) Y W (ix2 r ⟨256 + j.val, by have := j.isLt; omega⟩) := by
  unfold k0_pay78
  try simp only [show k0_pay64 (F := Ideal) Y W = k0_pay23 Y W from rfl]
  try simp only [p73_eq]
  generalize k0_pay23 (F := Ideal) Y W = Z
  pointwise []
  all_goals rfl

theorem v7_at : (k0_pay80 (F := Ideal) (k0_pay73 Y W)) (ix2 r j) = k0_pay23 (F := Ideal) Y W (ix2 r ⟨384 + j.val, by have := j.isLt; omega⟩) := by
  unfold k0_pay80
  try simp only [show k0_pay64 (F := Ideal) Y W = k0_pay23 Y W from rfl]
  try simp only [p73_eq]
  generalize k0_pay23 (F := Ideal) Y W = Z
  pointwise []
  all_goals rfl

theorem vb0_at : (k0_pay66 (F := Ideal) Y W) (ix2 r j) = (k0_pay65 (F := Ideal) Y W) (ix2 r j) := rfl
theorem vb1_at : (k0_pay68 (F := Ideal) Y W) (ix2 r j) = (k0_pay67 (F := Ideal) Y W) (ix2 r j) := rfl
theorem vb2_at : (k0_pay70 (F := Ideal) Y W) (ix2 r j) = (k0_pay69 (F := Ideal) Y W) (ix2 r j) := rfl
theorem vb3_at : (k0_pay72 (F := Ideal) Y W) (ix2 r j) = (k0_pay71 (F := Ideal) Y W) (ix2 r j) := rfl
theorem vb4_at : (k0_pay75 (F := Ideal) (k0_pay74 Y W)) (ix2 r j) = (k0_pay74 (F := Ideal) Y W) (ix2 r j) := rfl
theorem vb5_at : (k0_pay77 (F := Ideal) (k0_pay73 Y W)) (ix2 r j) = (k0_pay76 (F := Ideal) (k0_pay73 Y W)) (ix2 r j) := rfl
theorem vb6_at : (k0_pay79 (F := Ideal) (k0_pay73 Y W)) (ix2 r j) = (k0_pay78 (F := Ideal) (k0_pay73 Y W)) (ix2 r j) := rfl
theorem vb7_at : (k0_pay81 (F := Ideal) (k0_pay73 Y W)) (ix2 r j) = (k0_pay80 (F := Ideal) (k0_pay73 Y W)) (ix2 r j) := rfl
theorem mq0_at : (k0_pay85 (F := Ideal) (k0_pay83 Y W) (k0_pay84 G)) (ix2 r j) = nrm (fun x : Fin 128 => k0_pay23 (F := Ideal) Y W (ix2 r ⟨0 + x.val, by have := x.isLt; omega⟩)) (G (ix2 0 j)) j := by
  unfold k0_pay83
  try simp only [p3_eq, p8_eq, p16_eq, p43_eq, p73_eq, p82_eq]
  generalize k0_pay23 (F := Ideal) Y W = Z
  pointwise [k0_pay85, k0_pay84]
  all_goals rfl

theorem mq1_at : (k0_pay86 (F := Ideal) (k0_pay82 Y W) G) (ix2 r j) = nrm (fun x : Fin 128 => k0_pay23 (F := Ideal) Y W (ix2 r ⟨128 + x.val, by have := x.isLt; omega⟩)) (G (ix2 0 j)) j := by
  try simp only [p3_eq, p8_eq, p16_eq, p43_eq, p73_eq, p82_eq]
  generalize k0_pay23 (F := Ideal) Y W = Z
  pointwise [k0_pay86]
  all_goals rfl

theorem mq2_at : (k0_pay87 (F := Ideal) (k0_pay82 Y W) G) (ix2 r j) = nrm (fun x : Fin 128 => k0_pay23 (F := Ideal) Y W (ix2 r ⟨256 + x.val, by have := x.isLt; omega⟩)) (G (ix2 0 j)) j := by
  try simp only [p3_eq, p8_eq, p16_eq, p43_eq, p73_eq, p82_eq]
  generalize k0_pay23 (F := Ideal) Y W = Z
  pointwise [k0_pay87]
  all_goals rfl

theorem mq3_at : (k0_pay1 (F := Ideal) (k0_pay88 (k0_pay82 Y W)) (k0_pay89 (k0_pay82 Y W)) k0_pay90 G) (ix2 r j) = nrm (fun x : Fin 128 => k0_pay23 (F := Ideal) Y W (ix2 r ⟨384 + x.val, by have := x.isLt; omega⟩)) (G (ix2 0 j)) j := by
  try simp only [p3_eq, p8_eq, p16_eq, p43_eq, p73_eq, p82_eq]
  generalize k0_pay23 (F := Ideal) Y W = Z
  pointwise [k0_pay1, k0_pay88, k0_pay89, k0_pay90]
  all_goals rfl

end Cert.InProj

end
-- ==== Proof.InRows.lean ====
/- The reference's results by row and head, and the kernel's rows as those. -/
module

public import proofs.«01_k».proof.Proof.InFrame
public import proofs.«01_k».proof.Proof.InStores
public import proofs.«01_k».proof.Proof.Gen.Reference3Ideal.Run
public import proofs.«01_k».proof.Proof.Gen.Reference3Ideal.Read
public import Idealize.ShloMosaic.Lib.WholeRead
public import Idealize.ShloMosaic.Lib.Pointwise
public import Idealize.ShloMosaic.Lib.Pipeline.ValueKit

@[expose] public section

set_option maxRecDepth 16384

noncomputable section

namespace Cert.InProj

open Cert.Kernel3Ideal Cert.Kernel3Ideal.Gen Cert.Kernel3Ideal.Body Cert.Reference3Ideal.Read
open Idealize.ShloMosaic Idealize.ShloMosaic.TcCoe Idealize.ShloMosaic.Tactic Idealize.SL.Sem

theorem xn_at (X : Vec Ideal S512x2048 .f32) (N : Vec Ideal S1x2048 .f32) (x0 : FVec Ideal Cert.Reference3Ideal.S16x2048x2048 .f32) (x1 : FVec Ideal Cert.Reference3Ideal.S2048 .f32)
    (r : Fin 512) (R : Fin 32768) (hx : ∀ k, X (ix2 r k) = val_main_v0 (F := Ideal) x0 (ix2 R k)) (hn : ∀ k, N (ix2 0 k) = x1 (ix1 k)) (k : Fin 2048) :
    k0_pay2 (F := Ideal) X N (ix2 r k) = val_main_v13 (F := Ideal) x0 x1 (ix2 R k) := by
  rw [val_main_v13_apply, val_main_v10_apply]
  unfold val_main_v9 val_main_v8 val_main_v7 val_main_v5 val_main_v3 val_main_v2 val_main_v1
  generalize val_main_v0 (F := Ideal) x0 = T at hx ⊢
  pointwise [k0_pay2, val_main_v12, val_main_v11, val_main_v6, val_main_v4, val_main_cst_0, val_main_cst_1, val_main_cst]
  simp only [hx, hn]

theorem chunk_at (XN : FVec Ideal S512x2048 .bf16) (W : Vec Ideal S2048x512 .bf16) (x0 : FVec Ideal Cert.Reference3Ideal.S16x2048x2048 .f32) (x1 : FVec Ideal Cert.Reference3Ideal.S2048 .f32)
    (x2 : FVec Ideal Cert.Reference3Ideal.S2048x4096 .f32) (o : Nat) (ho : o + 512 ≤ 4096)
    (r : Fin 512) (R : Fin 32768) (hx : ∀ k, XN (ix2 r k) = val_main_v13 (F := Ideal) x0 x1 (ix2 R k))
    (hw : ∀ k (j : Fin 512), W (ix2 k j) = x2 (ix2 k ⟨o + j.val, by omega⟩)) (j : Fin 512) :
    k0_pay23 (F := Ideal) XN W (ix2 r j) = val_main_v14 (F := Ideal) x0 x1 x2 (ix2 R ⟨o + j.val, by omega⟩) := by
  unfold val_main_v14
  generalize val_main_v13 (F := Ideal) x0 x1 = T at hx ⊢
  pointwise [k0_pay23]
  simp only [hx, hw]

section reference

variable (x0 : FVec Ideal Cert.Reference3Ideal.S16x2048x2048 .f32) (x1 : FVec Ideal Cert.Reference3Ideal.S2048 .f32)
    (x2 : FVec Ideal Cert.Reference3Ideal.S2048x4096 .f32) (g : FVec Ideal Cert.Reference3Ideal.S128 .f32) (R : Fin 32768)

/-- A row of the projection. -/
abbrev prj (c : Fin 4096) : EReal := val_main_v14 (F := Ideal) x0 x1 x2 (ix2 R c)

theorem v30_at (h : Fin 8) (j : Fin 128) (o : Nat) (ho : o = 512 + 128 * h.val) :
    val_main_v30 (F := Ideal) x0 x1 x2 g (ix3 R h j) = nrm (fun x : Fin 128 => prj x0 x1 x2 R ⟨o + x.val, by have := x.isLt; have := h.isLt; omega⟩) (g (ix1 j)) j := by
  subst ho
  unfold prj
  rw [val_main_v30_apply, val_main_v27_apply]
  unfold val_main_v26 val_main_v25 val_main_v24 val_main_v22 val_main_v20 val_main_v19 val_main_v18 val_main_v17 val_main_v16
  generalize val_main_v14 (F := Ideal) x0 x1 x2 = T
  pointwise [val_main_v29, val_main_v28, val_main_v23, val_main_v21, val_main_cst_3, val_main_cst_4, val_main_cst_2]
  unfold nrm
  simp only [Nat.mul_comm 128, Nat.add_assoc]

theorem v45_at (h : Fin 8) (j : Fin 128) (o : Nat) (ho : o = 1536 + 128 * h.val) :
    val_main_v45 (F := Ideal) x0 x1 x2 g (ix3 R h j) = nrm (fun x : Fin 128 => prj x0 x1 x2 R ⟨o + x.val, by have := x.isLt; have := h.isLt; omega⟩) (g (ix1 j)) j := by
  subst ho
  unfold prj
  rw [val_main_v45_apply, val_main_v42_apply]
  unfold val_main_v41 val_main_v40 val_main_v39 val_main_v37 val_main_v35 val_main_v34 val_main_v33 val_main_v32 val_main_v31
  generalize val_main_v14 (F := Ideal) x0 x1 x2 = T
  pointwise [val_main_v44, val_main_v43, val_main_v38, val_main_v36, val_main_cst_6, val_main_cst_7, val_main_cst_5]
  unfold nrm
  simp only [Nat.mul_comm 128, Nat.add_assoc]

theorem v61_at (h : Fin 4) (j : Fin 128) (o : Nat) (ho : o = 3584 + 128 * h.val) :
    val_main_v61 (F := Ideal) x0 x1 x2 g (ix3 R h j) = nrm (fun x : Fin 128 => prj x0 x1 x2 R ⟨o + x.val, by have := x.isLt; have := h.isLt; omega⟩) (g (ix1 j)) j := by
  subst ho
  unfold prj
  rw [val_main_v61_apply, val_main_v58_apply]
  unfold val_main_v57 val_main_v56 val_main_v55 val_main_v53 val_main_v51 val_main_v50 val_main_v49 val_main_v48 val_main_v47
  generalize val_main_v14 (F := Ideal) x0 x1 x2 = T
  pointwise [val_main_v60, val_main_v59, val_main_v54, val_main_v52, val_main_cst_9, val_main_cst_10, val_main_cst_8]
  unfold nrm
  simp only [Nat.mul_comm 128, Nat.add_assoc]

theorem v66_at (h : Fin 8) (j : Fin 128) (c : Fin 1024) (hc : c.val = 128 * h.val + j.val) :
    val_main_v66 (F := Ideal) x0 x1 x2 g (ix2 R c) = val_main_v30 (F := Ideal) x0 x1 x2 g (ix3 R h j) := by
  have := h.isLt
  rw [val_main_v66_apply]
  congr 1
  have := R.isLt
  have := j.isLt
  funext a; fin_cases a <;> (apply Fin.ext; simp [idx_main_v66, ix2, ix3]; try omega)

theorem v67_at (h : Fin 8) (j : Fin 128) (c : Fin 262144) (hc : c.val = 8 * R.val + h.val) :
    val_main_v67 (F := Ideal) x0 x1 x2 g (ix2 c j) = val_main_v45 (F := Ideal) x0 x1 x2 g (ix3 R h j) := by
  have := h.isLt
  rw [val_main_v67_apply]
  congr 1
  have := R.isLt
  have := j.isLt
  funext a; fin_cases a <;> (apply Fin.ext; simp [idx_main_v67, ix2, ix3]; try omega)

theorem v68_at (h : Fin 8) (j : Fin 128) (c : Fin 1024) (hc : c.val = 128 * h.val + j.val) :
    val_main_v68 (F := Ideal) x0 x1 x2 g (ix2 R c) = val_main_v45 (F := Ideal) x0 x1 x2 g (ix3 R h j) := by
  have := h.isLt
  rw [val_main_v68_apply]
  congr 1
  have := R.isLt
  have := j.isLt
  funext a; fin_cases a <;> (apply Fin.ext; simp [idx_main_v68, ix2, ix3]; try omega)

theorem v73_at (h : Fin 4) (j : Fin 128) (c : Fin 512) (hc : c.val = 128 * h.val + j.val) :
    val_main_v73 (F := Ideal) x0 x1 x2 g (ix2 R c) = val_main_v61 (F := Ideal) x0 x1 x2 g (ix3 R h j) := by
  have := h.isLt
  rw [val_main_v73_apply]
  congr 1
  have := R.isLt
  have := j.isLt
  funext a; fin_cases a <;> (apply Fin.ext; simp [idx_main_v73, ix2, ix3]; try omega)

theorem v69_at (h : Fin 8) (j : Fin 128) (c : Fin 1024) (hc : c.val = 128 * h.val + j.val) :
    val_main_v69 (F := Ideal) x0 x1 x2 g (ix2 R c) = val_main_v45 (F := Ideal) x0 x1 x2 g (ix3 R h j) := by
  rw [val_main_v69_apply, v68_at x0 x1 x2 g R h j c hc]
  generalize val_main_v45 (F := Ideal) x0 x1 x2 g = K
  rfl

theorem v71_at (h : Fin 8) (j : Fin 128) (c : Fin 262144) (hc : c.val = 8 * R.val + h.val) (d : Fin 4096) (hd : d.val = 2560 + 128 * h.val + j.val) :
    val_main_v71 (F := Ideal) x0 x1 x2 (ix2 c j) = prj x0 x1 x2 R d := by
  rw [val_main_v71_apply, val_main_v46_apply]
  unfold prj
  congr 1
  have := R.isLt
  have := j.isLt
  have := h.isLt
  funext a; fin_cases a <;> (apply Fin.ext; simp [idx_main_v71, idx_main_v46, ix2]; try omega)

theorem v72_at (c : Fin 1024) (d : Fin 4096) (hd : d.val = 2560 + c.val) :
    val_main_v72 (F := Ideal) x0 x1 x2 (ix2 R c) = prj x0 x1 x2 R d := by
  rw [val_main_v72_apply, val_main_v46_apply]
  unfold prj
  generalize val_main_v14 (F := Ideal) x0 x1 x2 = T
  refine congrArg T ?_
  funext a; fin_cases a <;> (apply Fin.ext; simp [idx_main_v46, ix2]; try omega)

theorem v15_at (c : Fin 512) (d : Fin 4096) (hd : d.val = c.val) :
    val_main_v15 (F := Ideal) x0 x1 x2 (ix2 R c) = prj x0 x1 x2 R d := by
  rw [val_main_v15_apply]
  unfold prj
  refine congrArg (val_main_v14 (F := Ideal) x0 x1 x2) ?_
  funext a; fin_cases a <;> (apply Fin.ext; simp [idx_main_v15, ix2]; try omega)

theorem v70_at (t : Fin 64) (b : Fin 2) (h : Fin 8) (j : Fin 128) (c : Fin 1024) (hc : c.val = 128 * h.val + j.val) :
    val_main_v70 (F := Ideal) x0 x1 x2 g (ix3 t b c)
      = avg (fun x : Fin 256 => val_main_v45 (F := Ideal) x0 x1 x2 g (ix3 ⟨t.val * 512 + (256 * b.val + x.val), by have := t.isLt; have := b.isLt; have := x.isLt; omega⟩ h j)) := by
  rw [val_main_v70_apply, val_main_v65_apply, val_main_v63_apply]
  simp only [val_main_v62_apply]
  generalize val_main_v45 (F := Ideal) x0 x1 x2 g = K
  pointwise [val_main_v64, val_main_cst_11, val_main_cst_12]
  unfold avg
  congr 1
  refine Finset.sum_congr rfl fun x _ => congrArg K ?_
  have := t.isLt
  have := b.isLt
  have := h.isLt
  have := j.isLt
  have := x.isLt
  funext a; fin_cases a <;> (apply Fin.ext; simp [idx_main_v62, idx_main_v63, idx_main_v70, ix3]; try omega)

end reference

section kernel

variable (XN : FVec Ideal S512x2048 .bf16) (w : Vec Ideal S2048x4096 .bf16) (x0 : FVec Ideal Cert.Reference3Ideal.S16x2048x2048 .f32) (x1 : FVec Ideal Cert.Reference3Ideal.S2048 .f32)
    (x2 : FVec Ideal Cert.Reference3Ideal.S2048x4096 .f32) (r : Fin 512) (R : Fin 32768)

theorem chunk_apply (o : Nat) (ho : o + 512 ≤ 4096) (h) (k : Fin 2048) (j : Fin 512) :
    chunk (F := Ideal) o h w (ix2 k j) = w (ix2 k ⟨o + j.val, by have := j.isLt; omega⟩) := by
  unfold chunk
  refine congrArg w ?_
  funext a; fin_cases a <;> (apply Fin.ext; simp [Rect.toLoadRect, Rect.unit, LoadRect.idx, ix2])

/-- A stretch of 128 columns of one chunk, read off the projection. -/
theorem z_at (hx : ∀ k, XN (ix2 r k) = val_main_v13 (F := Ideal) x0 x1 (ix2 R k)) (hw : ∀ k j, w (ix2 k j) = x2 (ix2 k j))
    (o a : Nat) (ho : o + 512 ≤ 4096) (h) (ha : a + 128 ≤ 512) (c : Nat) (hc : o + a = c) (x : Fin 128) :
    k0_pay23 (F := Ideal) XN (chunk o h w) (ix2 r ⟨a + x.val, by have := x.isLt; omega⟩) = prj x0 x1 x2 R ⟨c + x.val, by have := x.isLt; omega⟩ := by
  subst hc
  refine (chunk_at XN (chunk o h w) x0 x1 x2 o ho r R hx (fun k j => (chunk_apply w o ho h k j).trans (hw _ _)) _).trans ?_
  unfold prj
  refine congrArg (val_main_v14 (F := Ideal) x0 x1 x2) ?_
  funext b; fin_cases b <;> (apply Fin.ext; simp [ix2]; try omega)

/-- A normalised head of the kernel is the reference's. -/
theorem qrow (g : FVec Ideal Cert.Reference3Ideal.S128 .f32) (G : Vec Ideal S1x128 .f32) (hx : ∀ k, XN (ix2 r k) = val_main_v13 (F := Ideal) x0 x1 (ix2 R k))
    (hw : ∀ k j, w (ix2 k j) = x2 (ix2 k j)) (hg : ∀ j, G (ix2 0 j) = g (ix1 j))
    (o a : Nat) (ho : o + 512 ≤ 4096) (h) (ha : a + 128 ≤ 512) (hd : Fin 8) (hc : o + a = 512 + 128 * hd.val) (j : Fin 128) (E : EReal)
    (hE : E = nrm (fun x : Fin 128 => k0_pay23 (F := Ideal) XN (chunk o h w) (ix2 r ⟨a + x.val, by have := x.isLt; omega⟩)) (G (ix2 0 j)) j) :
    E = val_main_v30 (F := Ideal) x0 x1 x2 g (ix3 R hd j) :=
  hE.trans ((nrm_congr _ _ _ _ j (fun x => z_at XN w x0 x1 x2 r R hx hw o a ho h ha _ hc x) (hg j)).trans (v30_at x0 x1 x2 g R hd j _ rfl).symm)

/-- A normalised head of the kernel is the reference's. -/
theorem krow (g : FVec Ideal Cert.Reference3Ideal.S128 .f32) (G : Vec Ideal S1x128 .f32) (hx : ∀ k, XN (ix2 r k) = val_main_v13 (F := Ideal) x0 x1 (ix2 R k))
    (hw : ∀ k j, w (ix2 k j) = x2 (ix2 k j)) (hg : ∀ j, G (ix2 0 j) = g (ix1 j))
    (o a : Nat) (ho : o + 512 ≤ 4096) (h) (ha : a + 128 ≤ 512) (hd : Fin 8) (hc : o + a = 1536 + 128 * hd.val) (j : Fin 128) (E : EReal)
    (hE : E = nrm (fun x : Fin 128 => k0_pay23 (F := Ideal) XN (chunk o h w) (ix2 r ⟨a + x.val, by have := x.isLt; omega⟩)) (G (ix2 0 j)) j) :
    E = val_main_v45 (F := Ideal) x0 x1 x2 g (ix3 R hd j) :=
  hE.trans ((nrm_congr _ _ _ _ j (fun x => z_at XN w x0 x1 x2 r R hx hw o a ho h ha _ hc x) (hg j)).trans (v45_at x0 x1 x2 g R hd j _ rfl).symm)

/-- A normalised head of the kernel is the reference's. -/
theorem mqrow (g : FVec Ideal Cert.Reference3Ideal.S128 .f32) (G : Vec Ideal S1x128 .f32) (hx : ∀ k, XN (ix2 r k) = val_main_v13 (F := Ideal) x0 x1 (ix2 R k))
    (hw : ∀ k j, w (ix2 k j) = x2 (ix2 k j)) (hg : ∀ j, G (ix2 0 j) = g (ix1 j))
    (o a : Nat) (ho : o + 512 ≤ 4096) (h) (ha : a + 128 ≤ 512) (hd : Fin 4) (hc : o + a = 3584 + 128 * hd.val) (j : Fin 128) (E : EReal)
    (hE : E = nrm (fun x : Fin 128 => k0_pay23 (F := Ideal) XN (chunk o h w) (ix2 r ⟨a + x.val, by have := x.isLt; omega⟩)) (G (ix2 0 j)) j) :
    E = val_main_v61 (F := Ideal) x0 x1 x2 g (ix3 R hd j) :=
  hE.trans ((nrm_congr _ _ _ _ j (fun x => z_at XN w x0 x1 x2 r R hx hw o a ho h ha _ hc x) (hg j)).trans (v61_at x0 x1 x2 g R hd j _ rfl).symm)

end kernel

end Cert.InProj

end
-- ==== Proof.InBlocks.lean ====
/- What the input projection stores at one grid point is the reference's rows of that point. -/
module

public import proofs.«01_k».proof.Proof.InFrame
public import proofs.«01_k».proof.Proof.InRows
public import Idealize.ShloMosaic.Lib.WholeRead
public import Idealize.ShloMosaic.Lib.Pointwise
public import Idealize.ShloMosaic.Lib.Pipeline.ValueKit

@[expose] public section

set_option maxRecDepth 16384

noncomputable section

namespace Cert.InProj

open Cert.Kernel3Ideal Cert.Kernel3Ideal.Gen Cert.Kernel3Ideal.Body Cert.Reference3Ideal.Read
open Idealize.ShloMosaic Idealize.ShloMosaic.TcCoe Idealize.ShloMosaic.Tactic Idealize.SL.Sem

theorem flat512 {e : EltTy} (o : Nat) (h) (ho : o + 128 ≤ 512) (v : Vec Ideal S512x128 e) (G : S512x512.Idx → Elt Ideal e)
    (hv : ∀ r j, v (ix2 r j) = G (ix2 r ⟨o + j.val, by have := j.isLt; omega⟩)) (x : S512x128.Idx) :
    v x = G ((Rect.unit (s := S512x512) ![0, o] ![512, 128] h).emb x) := by
  obtain ⟨r, j, rfl⟩ : ∃ (r : Fin 512) (j : Fin 128), x = ix2 r j := ⟨x 0, x 1, by funext k; fin_cases k <;> rfl⟩
  rw [hv]
  refine congrArg G ?_
  funext a; fin_cases a <;> (apply Fin.ext; simp [Rect.emb, Rect.unit, LoadRect.idx, ix2])

theorem flat1024 {e : EltTy} (o : Nat) (h) (ho : o + 128 ≤ 1024) (v : Vec Ideal S512x128 e) (G : S512x1024.Idx → Elt Ideal e)
    (hv : ∀ r j, v (ix2 r j) = G (ix2 r ⟨o + j.val, by have := j.isLt; omega⟩)) (x : S512x128.Idx) :
    v x = G ((Rect.unit (s := S512x1024) ![0, o] ![512, 128] h).emb x) := by
  obtain ⟨r, j, rfl⟩ : ∃ (r : Fin 512) (j : Fin 128), x = ix2 r j := ⟨x 0, x 1, by funext k; fin_cases k <;> rfl⟩
  rw [hv]
  refine congrArg G ?_
  funext a; fin_cases a <;> (apply Fin.ext; simp [Rect.emb, Rect.unit, LoadRect.idx, ix2])

theorem everyEighth {e : EltTy} (o : Nat) (h) (hs) (ho : o < 8) (v : Vec Ideal S512x128 e) (G : S4096x128.Idx → Elt Ideal e)
    (hv : ∀ r j, v (ix2 r j) = G (ix2 ⟨o + 8 * r.val, by have := r.isLt; omega⟩ j)) (x : S512x128.Idx) :
    v x = G ((⟨(⟨![o, 0], ![512, 128], ![8, 1], h⟩ : LoadRect S4096x128), hs⟩ : Rect S4096x128).emb x) := by
  obtain ⟨r, j, rfl⟩ : ∃ (r : Fin 512) (j : Fin 128), x = ix2 r j := ⟨x 0, x 1, by funext k; fin_cases k <;> rfl⟩
  rw [hv]
  refine congrArg G ?_
  funext a; fin_cases a <;> apply Fin.ext
  · rfl
  · show j.val = 0 + 1 * j.val
    omega

theorem oneRow {e : EltTy} (b o : Nat) (h) (hb : b < 2) (ho : o + 128 ≤ 1024) (v : Vec Ideal S1x1x128 e) (G : S1x2x1024.Idx → Elt Ideal e)
    (hv : ∀ j, v (ix3 0 0 j) = G (ix3 0 ⟨b, hb⟩ ⟨o + j.val, by have := j.isLt; omega⟩)) (x : S1x1x128.Idx) :
    v x = G ((Rect.unit (s := S1x2x1024) ![0, b, o] ![1, 1, 128] h).emb x) := by
  obtain ⟨j, rfl⟩ : ∃ (j : Fin 128), x = ix3 0 0 j := ⟨x 2, by
    have h0 : (x 0).val < 1 := (x 0).isLt
    have h1 : (x 1).val < 1 := (x 1).isLt
    funext k; fin_cases k <;> first | rfl | (apply Fin.ext; simp [ix3])⟩
  rw [hv]
  refine congrArg G ?_
  funext a; fin_cases a <;> (apply Fin.ext; simp [Rect.emb, Rect.unit, LoadRect.idx, ix3])

theorem avg_congr (z z' : Fin 256 → EReal) (h : ∀ x, z x = z' x) : avg z = avg z' := by rw [funext h]

variable (x0 : Vec Ideal S512x2048 .f32) (x1 : Vec Ideal S1x2048 .f32) (x2 : Vec Ideal S2048x4096 .bf16) (x3 x4 x5 : Vec Ideal S1x128 .f32)
  (a0 : FVec Ideal Cert.Reference3Ideal.S16x2048x2048 .f32) (a1 : FVec Ideal Cert.Reference3Ideal.S2048 .f32)
  (a2 : FVec Ideal Cert.Reference3Ideal.S2048x4096 .f32) (a3 a4 a5 : FVec Ideal Cert.Reference3Ideal.S128 .f32) (t : Fin 64)

/-- Row `r` of block `t`. -/
abbrev row (r : Fin 512) : Fin 32768 := ⟨t.val * 512 + r.val, by have := t.isLt; have := r.isLt; omega⟩

theorem blk6 (hx : ∀ r k, k0_pay2 (F := Ideal) x0 x1 (ix2 r k) = val_main_v13 (F := Ideal) a0 a1 (ix2 (row t r) k))
    (hw : ∀ k j, x2 (ix2 k j) = a2 (ix2 k j)) :
    ∀ p ∈ ([⟨Rect.unit ![0, 384] ![512, 128] inb_S512x512_S512x128_0_384, k0_pay7 x0 x1 (chunk 0 inb_S2048x4096_S2048x512_0_0 x2)⟩,
      ⟨Rect.unit ![0, 256] ![512, 128] inb_S512x512_S512x128_0_256, k0_pay6 x0 x1 (chunk 0 inb_S2048x4096_S2048x512_0_0 x2)⟩,
      ⟨Rect.unit ![0, 128] ![512, 128] inb_S512x512_S512x128_0_128, k0_pay5 x0 x1 (chunk 0 inb_S2048x4096_S2048x512_0_0 x2)⟩,
      ⟨Rect.unit ![0, 0] ![512, 128] inb_S512x512_S512x128_0_0, k0_pay4 x0 x1 (chunk 0 inb_S2048x4096_S2048x512_0_0 x2)⟩] : List (View.Piece (Elt Ideal) S512x512 .f32)), ∀ x, p.2 x = (fun y : S512x512.Idx => val_main_v15 (F := Ideal) a0 a1 a2 (ix2 (row t (y 0)) (y 1))) (p.1.emb x) := by
  have h0 : ∀ x : S512x128.Idx, ((k0_pay7 x0 x1 (chunk 0 inb_S2048x4096_S2048x512_0_0 x2)) : Vec Ideal S512x128 .f32) x = (fun y : S512x512.Idx => val_main_v15 (F := Ideal) a0 a1 a2 (ix2 (row t (y 0)) (y 1))) ((Rect.unit ![0, 384] ![512, 128] inb_S512x512_S512x128_0_384 : Rect S512x512).emb x) := flat512 384 inb_S512x512_S512x128_0_384 (by decide) _ (fun y : S512x512.Idx => val_main_v15 (F := Ideal) a0 a1 a2 (ix2 (row t (y 0)) (y 1))) (fun r j => (u3_at ..).trans ((z_at (k0_pay2 (F := Ideal) x0 x1) x2 a0 a1 a2 r (row t r) (hx r) hw 0 384 (by decide) inb_S2048x4096_S2048x512_0_0 (by decide) 384 (by decide) j).trans (v15_at a0 a1 a2 (row t r) _ ⟨384 + j.val, by have := j.isLt; omega⟩ rfl).symm))
  have h1 : ∀ x : S512x128.Idx, ((k0_pay6 x0 x1 (chunk 0 inb_S2048x4096_S2048x512_0_0 x2)) : Vec Ideal S512x128 .f32) x = (fun y : S512x512.Idx => val_main_v15 (F := Ideal) a0 a1 a2 (ix2 (row t (y 0)) (y 1))) ((Rect.unit ![0, 256] ![512, 128] inb_S512x512_S512x128_0_256 : Rect S512x512).emb x) := flat512 256 inb_S512x512_S512x128_0_256 (by decide) _ (fun y : S512x512.Idx => val_main_v15 (F := Ideal) a0 a1 a2 (ix2 (row t (y 0)) (y 1))) (fun r j => (u2_at ..).trans ((z_at (k0_pay2 (F := Ideal) x0 x1) x2 a0 a1 a2 r (row t r) (hx r) hw 0 256 (by decide) inb_S2048x4096_S2048x512_0_0 (by decide) 256 (by decide) j).trans (v15_at a0 a1 a2 (row t r) _ ⟨256 + j.val, by have := j.isLt; omega⟩ rfl).symm))
  have h2 : ∀ x : S512x128.Idx, ((k0_pay5 x0 x1 (chunk 0 inb_S2048x4096_S2048x512_0_0 x2)) : Vec Ideal S512x128 .f32) x = (fun y : S512x512.Idx => val_main_v15 (F := Ideal) a0 a1 a2 (ix2 (row t (y 0)) (y 1))) ((Rect.unit ![0, 128] ![512, 128] inb_S512x512_S512x128_0_128 : Rect S512x512).emb x) := flat512 128 inb_S512x512_S512x128_0_128 (by decide) _ (fun y : S512x512.Idx => val_main_v15 (F := Ideal) a0 a1 a2 (ix2 (row t (y 0)) (y 1))) (fun r j => (u1_at ..).trans ((z_at (k0_pay2 (F := Ideal) x0 x1) x2 a0 a1 a2 r (row t r) (hx r) hw 0 128 (by decide) inb_S2048x4096_S2048x512_0_0 (by decide) 128 (by decide) j).trans (v15_at a0 a1 a2 (row t r) _ ⟨128 + j.val, by have := j.isLt; omega⟩ rfl).symm))
  have h3 : ∀ x : S512x128.Idx, ((k0_pay4 x0 x1 (chunk 0 inb_S2048x4096_S2048x512_0_0 x2)) : Vec Ideal S512x128 .f32) x = (fun y : S512x512.Idx => val_main_v15 (F := Ideal) a0 a1 a2 (ix2 (row t (y 0)) (y 1))) ((Rect.unit ![0, 0] ![512, 128] inb_S512x512_S512x128_0_0 : Rect S512x512).emb x) := flat512 0 inb_S512x512_S512x128_0_0 (by decide) _ (fun y : S512x512.Idx => val_main_v15 (F := Ideal) a0 a1 a2 (ix2 (row t (y 0)) (y 1))) (fun r j => (u0_at ..).trans ((z_at (k0_pay2 (F := Ideal) x0 x1) x2 a0 a1 a2 r (row t r) (hx r) hw 0 0 (by decide) inb_S2048x4096_S2048x512_0_0 (by decide) 0 (by decide) j).trans (v15_at a0 a1 a2 (row t r) _ ⟨0 + j.val, by have := j.isLt; omega⟩ rfl).symm))
  exact List.forall_mem_cons.2 ⟨h0, List.forall_mem_cons.2 ⟨h1, List.forall_mem_cons.2 ⟨h2, List.forall_mem_cons.2 ⟨h3, fun _ h => absurd h List.not_mem_nil⟩⟩⟩⟩

theorem blk7 (hx : ∀ r k, k0_pay2 (F := Ideal) x0 x1 (ix2 r k) = val_main_v13 (F := Ideal) a0 a1 (ix2 (row t r) k))
    (hw : ∀ k j, x2 (ix2 k j) = a2 (ix2 k j)) (hg : ∀ j, x3 (ix2 0 j) = a3 (ix1 j)) :
    ∀ p ∈ ([⟨Rect.unit ![0, 896] ![512, 128] inb_S512x1024_S512x128_0_896, k0_pay22 (k0_pay20 (k0_pay16 (k0_pay2 x0 x1) (chunk 1024 inb_S2048x4096_S2048x512_0_1024 x2))) (k0_pay21 (k0_pay16 (k0_pay2 x0 x1) (chunk 1024 inb_S2048x4096_S2048x512_0_1024 x2))) (FloatOps.ofBits FTy.f32 897988541#32) x3⟩,
      ⟨Rect.unit ![0, 768] ![512, 128] inb_S512x1024_S512x128_0_768, k0_pay19 (k0_pay16 (k0_pay2 x0 x1) (chunk 1024 inb_S2048x4096_S2048x512_0_1024 x2)) x3⟩,
      ⟨Rect.unit ![0, 640] ![512, 128] inb_S512x1024_S512x128_0_640, k0_pay18 (k0_pay16 (k0_pay2 x0 x1) (chunk 1024 inb_S2048x4096_S2048x512_0_1024 x2)) x3⟩,
      ⟨Rect.unit ![0, 512] ![512, 128] inb_S512x1024_S512x128_0_512, k0_pay17 (k0_pay2 x0 x1) (chunk 1024 inb_S2048x4096_S2048x512_0_1024 x2) x3⟩,
      ⟨Rect.unit ![0, 384] ![512, 128] inb_S512x1024_S512x128_0_384, k0_pay15 (k0_pay8 x0 x1 (chunk 512 inb_S2048x4096_S2048x512_0_512 x2)) x3⟩,
      ⟨Rect.unit ![0, 256] ![512, 128] inb_S512x1024_S512x128_0_256, k0_pay14 (k0_pay13 (k0_pay8 x0 x1 (chunk 512 inb_S2048x4096_S2048x512_0_512 x2))) x3⟩,
      ⟨Rect.unit ![0, 128] ![512, 128] inb_S512x1024_S512x128_0_128, k0_pay12 (k0_pay8 x0 x1 (chunk 512 inb_S2048x4096_S2048x512_0_512 x2)) x3⟩,
      ⟨Rect.unit ![0, 0] ![512, 128] inb_S512x1024_S512x128_0_0, k0_pay11 (k0_pay9 x0 x1 (chunk 512 inb_S2048x4096_S2048x512_0_512 x2)) (k0_pay10 x0 x1 (chunk 512 inb_S2048x4096_S2048x512_0_512 x2)) x3⟩] : List (View.Piece (Elt Ideal) S512x1024 .f32)), ∀ x, p.2 x = (fun y : S512x1024.Idx => val_main_v66 (F := Ideal) a0 a1 a2 a3 (ix2 (row t (y 0)) (y 1))) (p.1.emb x) := by
  have h0 : ∀ x : S512x128.Idx, ((k0_pay22 (k0_pay20 (k0_pay16 (k0_pay2 x0 x1) (chunk 1024 inb_S2048x4096_S2048x512_0_1024 x2))) (k0_pay21 (k0_pay16 (k0_pay2 x0 x1) (chunk 1024 inb_S2048x4096_S2048x512_0_1024 x2))) (FloatOps.ofBits FTy.f32 897988541#32) x3) : Vec Ideal S512x128 .f32) x = (fun y : S512x1024.Idx => val_main_v66 (F := Ideal) a0 a1 a2 a3 (ix2 (row t (y 0)) (y 1))) ((Rect.unit ![0, 896] ![512, 128] inb_S512x1024_S512x128_0_896 : Rect S512x1024).emb x) := flat1024 896 inb_S512x1024_S512x128_0_896 (by decide) _ (fun y : S512x1024.Idx => val_main_v66 (F := Ideal) a0 a1 a2 a3 (ix2 (row t (y 0)) (y 1))) (fun r j => (qrow (k0_pay2 (F := Ideal) x0 x1) x2 a0 a1 a2 r (row t r) a3 x3 (hx r) hw hg 1024 384 (by decide) inb_S2048x4096_S2048x512_0_1024 (by decide) 7 (by decide) j _ (q7_at ..)).trans (v66_at a0 a1 a2 a3 (row t r) 7 j _ rfl).symm)
  have h1 : ∀ x : S512x128.Idx, ((k0_pay19 (k0_pay16 (k0_pay2 x0 x1) (chunk 1024 inb_S2048x4096_S2048x512_0_1024 x2)) x3) : Vec Ideal S512x128 .f32) x = (fun y : S512x1024.Idx => val_main_v66 (F := Ideal) a0 a1 a2 a3 (ix2 (row t (y 0)) (y 1))) ((Rect.unit ![0, 768] ![512, 128] inb_S512x1024_S512x128_0_768 : Rect S512x1024).emb x) := flat1024 768 inb_S512x1024_S512x128_0_768 (by decide) _ (fun y : S512x1024.Idx => val_main_v66 (F := Ideal) a0 a1 a2 a3 (ix2 (row t (y 0)) (y 1))) (fun r j => (qrow (k0_pay2 (F := Ideal) x0 x1) x2 a0 a1 a2 r (row t r) a3 x3 (hx r) hw hg 1024 256 (by decide) inb_S2048x4096_S2048x512_0_1024 (by decide) 6 (by decide) j _ (q6_at ..)).trans (v66_at a0 a1 a2 a3 (row t r) 6 j _ rfl).symm)
  have h2 : ∀ x : S512x128.Idx, ((k0_pay18 (k0_pay16 (k0_pay2 x0 x1) (chunk 1024 inb_S2048x4096_S2048x512_0_1024 x2)) x3) : Vec Ideal S512x128 .f32) x = (fun y : S512x1024.Idx => val_main_v66 (F := Ideal) a0 a1 a2 a3 (ix2 (row t (y 0)) (y 1))) ((Rect.unit ![0, 640] ![512, 128] inb_S512x1024_S512x128_0_640 : Rect S512x1024).emb x) := flat1024 640 inb_S512x1024_S512x128_0_640 (by decide) _ (fun y : S512x1024.Idx => val_main_v66 (F := Ideal) a0 a1 a2 a3 (ix2 (row t (y 0)) (y 1))) (fun r j => (qrow (k0_pay2 (F := Ideal) x0 x1) x2 a0 a1 a2 r (row t r) a3 x3 (hx r) hw hg 1024 128 (by decide) inb_S2048x4096_S2048x512_0_1024 (by decide) 5 (by decide) j _ (q5_at ..)).trans (v66_at a0 a1 a2 a3 (row t r) 5 j _ rfl).symm)
  have h3 : ∀ x : S512x128.Idx, ((k0_pay17 (k0_pay2 x0 x1) (chunk 1024 inb_S2048x4096_S2048x512_0_1024 x2) x3) : Vec Ideal S512x128 .f32) x = (fun y : S512x1024.Idx => val_main_v66 (F := Ideal) a0 a1 a2 a3 (ix2 (row t (y 0)) (y 1))) ((Rect.unit ![0, 512] ![512, 128] inb_S512x1024_S512x128_0_512 : Rect S512x1024).emb x) := flat1024 512 inb_S512x1024_S512x128_0_512 (by decide) _ (fun y : S512x1024.Idx => val_main_v66 (F := Ideal) a0 a1 a2 a3 (ix2 (row t (y 0)) (y 1))) (fun r j => (qrow (k0_pay2 (F := Ideal) x0 x1) x2 a0 a1 a2 r (row t r) a3 x3 (hx r) hw hg 1024 0 (by decide) inb_S2048x4096_S2048x512_0_1024 (by decide) 4 (by decide) j _ (q4_at ..)).trans (v66_at a0 a1 a2 a3 (row t r) 4 j _ rfl).symm)
  have h4 : ∀ x : S512x128.Idx, ((k0_pay15 (k0_pay8 x0 x1 (chunk 512 inb_S2048x4096_S2048x512_0_512 x2)) x3) : Vec Ideal S512x128 .f32) x = (fun y : S512x1024.Idx => val_main_v66 (F := Ideal) a0 a1 a2 a3 (ix2 (row t (y 0)) (y 1))) ((Rect.unit ![0, 384] ![512, 128] inb_S512x1024_S512x128_0_384 : Rect S512x1024).emb x) := flat1024 384 inb_S512x1024_S512x128_0_384 (by decide) _ (fun y : S512x1024.Idx => val_main_v66 (F := Ideal) a0 a1 a2 a3 (ix2 (row t (y 0)) (y 1))) (fun r j => (qrow (k0_pay2 (F := Ideal) x0 x1) x2 a0 a1 a2 r (row t r) a3 x3 (hx r) hw hg 512 384 (by decide) inb_S2048x4096_S2048x512_0_512 (by decide) 3 (by decide) j _ (q3_at ..)).trans (v66_at a0 a1 a2 a3 (row t r) 3 j _ rfl).symm)
  have h5 : ∀ x : S512x128.Idx, ((k0_pay14 (k0_pay13 (k0_pay8 x0 x1 (chunk 512 inb_S2048x4096_S2048x512_0_512 x2))) x3) : Vec Ideal S512x128 .f32) x = (fun y : S512x1024.Idx => val_main_v66 (F := Ideal) a0 a1 a2 a3 (ix2 (row t (y 0)) (y 1))) ((Rect.unit ![0, 256] ![512, 128] inb_S512x1024_S512x128_0_256 : Rect S512x1024).emb x) := flat1024 256 inb_S512x1024_S512x128_0_256 (by decide) _ (fun y : S512x1024.Idx => val_main_v66 (F := Ideal) a0 a1 a2 a3 (ix2 (row t (y 0)) (y 1))) (fun r j => (qrow (k0_pay2 (F := Ideal) x0 x1) x2 a0 a1 a2 r (row t r) a3 x3 (hx r) hw hg 512 256 (by decide) inb_S2048x4096_S2048x512_0_512 (by decide) 2 (by decide) j _ (q2_at ..)).trans (v66_at a0 a1 a2 a3 (row t r) 2 j _ rfl).symm)
  have h6 : ∀ x : S512x128.Idx, ((k0_pay12 (k0_pay8 x0 x1 (chunk 512 inb_S2048x4096_S2048x512_0_512 x2)) x3) : Vec Ideal S512x128 .f32) x = (fun y : S512x1024.Idx => val_main_v66 (F := Ideal) a0 a1 a2 a3 (ix2 (row t (y 0)) (y 1))) ((Rect.unit ![0, 128] ![512, 128] inb_S512x1024_S512x128_0_128 : Rect S512x1024).emb x) := flat1024 128 inb_S512x1024_S512x128_0_128 (by decide) _ (fun y : S512x1024.Idx => val_main_v66 (F := Ideal) a0 a1 a2 a3 (ix2 (row t (y 0)) (y 1))) (fun r j => (qrow (k0_pay2 (F := Ideal) x0 x1) x2 a0 a1 a2 r (row t r) a3 x3 (hx r) hw hg 512 128 (by decide) inb_S2048x4096_S2048x512_0_512 (by decide) 1 (by decide) j _ (q1_at ..)).trans (v66_at a0 a1 a2 a3 (row t r) 1 j _ rfl).symm)
  have h7 : ∀ x : S512x128.Idx, ((k0_pay11 (k0_pay9 x0 x1 (chunk 512 inb_S2048x4096_S2048x512_0_512 x2)) (k0_pay10 x0 x1 (chunk 512 inb_S2048x4096_S2048x512_0_512 x2)) x3) : Vec Ideal S512x128 .f32) x = (fun y : S512x1024.Idx => val_main_v66 (F := Ideal) a0 a1 a2 a3 (ix2 (row t (y 0)) (y 1))) ((Rect.unit ![0, 0] ![512, 128] inb_S512x1024_S512x128_0_0 : Rect S512x1024).emb x) := flat1024 0 inb_S512x1024_S512x128_0_0 (by decide) _ (fun y : S512x1024.Idx => val_main_v66 (F := Ideal) a0 a1 a2 a3 (ix2 (row t (y 0)) (y 1))) (fun r j => (qrow (k0_pay2 (F := Ideal) x0 x1) x2 a0 a1 a2 r (row t r) a3 x3 (hx r) hw hg 512 0 (by decide) inb_S2048x4096_S2048x512_0_512 (by decide) 0 (by decide) j _ (q0_at ..)).trans (v66_at a0 a1 a2 a3 (row t r) 0 j _ rfl).symm)
  exact List.forall_mem_cons.2 ⟨h0, List.forall_mem_cons.2 ⟨h1, List.forall_mem_cons.2 ⟨h2, List.forall_mem_cons.2 ⟨h3, List.forall_mem_cons.2 ⟨h4, List.forall_mem_cons.2 ⟨h5, List.forall_mem_cons.2 ⟨h6, List.forall_mem_cons.2 ⟨h7, fun _ h => absurd h List.not_mem_nil⟩⟩⟩⟩⟩⟩⟩⟩

theorem blk8 (hx : ∀ r k, k0_pay2 (F := Ideal) x0 x1 (ix2 r k) = val_main_v13 (F := Ideal) a0 a1 (ix2 (row t r) k))
    (hw : ∀ k j, x2 (ix2 k j) = a2 (ix2 k j)) (hg : ∀ j, x4 (ix2 0 j) = a4 (ix1 j)) :
    ∀ p ∈ ([⟨⟨(⟨![7, 0], ![512, 128], ![8, 1], inb_S4096x128_S512x128_7_0_s_8_1⟩ : LoadRect S4096x128), spos_8_1⟩, k0_pay59 (k0_pay43 (k0_pay2 x0 x1) (chunk 2048 inb_S2048x4096_S2048x512_0_2048 x2)) x4⟩,
      ⟨⟨(⟨![6, 0], ![512, 128], ![8, 1], inb_S4096x128_S512x128_6_0_s_8_1⟩ : LoadRect S4096x128), spos_8_1⟩, k0_pay54 (k0_pay43 (k0_pay2 x0 x1) (chunk 2048 inb_S2048x4096_S2048x512_0_2048 x2)) x4⟩,
      ⟨⟨(⟨![5, 0], ![512, 128], ![8, 1], inb_S4096x128_S512x128_5_0_s_8_1⟩ : LoadRect S4096x128), spos_8_1⟩, k0_pay49 (k0_pay43 (k0_pay2 x0 x1) (chunk 2048 inb_S2048x4096_S2048x512_0_2048 x2)) x4⟩,
      ⟨⟨(⟨![4, 0], ![512, 128], ![8, 1], inb_S4096x128_S512x128_4_0_s_8_1⟩ : LoadRect S4096x128), spos_8_1⟩, k0_pay44 (k0_pay2 x0 x1) (chunk 2048 inb_S2048x4096_S2048x512_0_2048 x2) x4⟩,
      ⟨⟨(⟨![3, 0], ![512, 128], ![8, 1], inb_S4096x128_S512x128_3_0_s_8_1⟩ : LoadRect S4096x128), spos_8_1⟩, k0_pay38 (k0_pay23 (k0_pay2 x0 x1) (chunk 1536 inb_S2048x4096_S2048x512_0_1536 x2)) x4⟩,
      ⟨⟨(⟨![2, 0], ![512, 128], ![8, 1], inb_S4096x128_S512x128_2_0_s_8_1⟩ : LoadRect S4096x128), spos_8_1⟩, k0_pay33 (k0_pay23 (k0_pay2 x0 x1) (chunk 1536 inb_S2048x4096_S2048x512_0_1536 x2)) x4⟩,
      ⟨⟨(⟨![1, 0], ![512, 128], ![8, 1], inb_S4096x128_S512x128_1_0_s_8_1⟩ : LoadRect S4096x128), spos_8_1⟩, k0_pay29 (k0_pay23 (k0_pay2 x0 x1) (chunk 1536 inb_S2048x4096_S2048x512_0_1536 x2)) x4⟩,
      ⟨⟨(⟨![0, 0], ![512, 128], ![8, 1], inb_S4096x128_S512x128_0_0_s_8_1⟩ : LoadRect S4096x128), spos_8_1⟩, k0_pay24 (k0_pay2 x0 x1) (chunk 1536 inb_S2048x4096_S2048x512_0_1536 x2) x4⟩] : List (View.Piece (Elt Ideal) S4096x128 .f32)), ∀ x, p.2 x = (fun y : S4096x128.Idx => val_main_v67 (F := Ideal) a0 a1 a2 a4 (ix2 ⟨t.val * 4096 + (y 0).val, by have h0 : (y 0).val < 4096 := (y 0).isLt; have := t.isLt; omega⟩ (y 1))) (p.1.emb x) := by
  have h0 : ∀ x : S512x128.Idx, ((k0_pay59 (k0_pay43 (k0_pay2 x0 x1) (chunk 2048 inb_S2048x4096_S2048x512_0_2048 x2)) x4) : Vec Ideal S512x128 .f32) x = (fun y : S4096x128.Idx => val_main_v67 (F := Ideal) a0 a1 a2 a4 (ix2 ⟨t.val * 4096 + (y 0).val, by have h0 : (y 0).val < 4096 := (y 0).isLt; have := t.isLt; omega⟩ (y 1))) ((⟨(⟨![7, 0], ![512, 128], ![8, 1], inb_S4096x128_S512x128_7_0_s_8_1⟩ : LoadRect S4096x128), spos_8_1⟩ : Rect S4096x128).emb x) := everyEighth 7 inb_S4096x128_S512x128_7_0_s_8_1 spos_8_1 (by decide) _ (fun y : S4096x128.Idx => val_main_v67 (F := Ideal) a0 a1 a2 a4 (ix2 ⟨t.val * 4096 + (y 0).val, by have h0 : (y 0).val < 4096 := (y 0).isLt; have := t.isLt; omega⟩ (y 1))) (fun r j => (krow (k0_pay2 (F := Ideal) x0 x1) x2 a0 a1 a2 r (row t r) a4 x4 (hx r) hw hg 2048 384 (by decide) inb_S2048x4096_S2048x512_0_2048 (by decide) 7 (by decide) j _ (k7_at ..)).trans (v67_at a0 a1 a2 a4 (row t r) 7 j _ (by show t.val * 4096 + (7 + 8 * r.val) = 8 * (t.val * 512 + r.val) + 7; omega)).symm)
  have h1 : ∀ x : S512x128.Idx, ((k0_pay54 (k0_pay43 (k0_pay2 x0 x1) (chunk 2048 inb_S2048x4096_S2048x512_0_2048 x2)) x4) : Vec Ideal S512x128 .f32) x = (fun y : S4096x128.Idx => val_main_v67 (F := Ideal) a0 a1 a2 a4 (ix2 ⟨t.val * 4096 + (y 0).val, by have h0 : (y 0).val < 4096 := (y 0).isLt; have := t.isLt; omega⟩ (y 1))) ((⟨(⟨![6, 0], ![512, 128], ![8, 1], inb_S4096x128_S512x128_6_0_s_8_1⟩ : LoadRect S4096x128), spos_8_1⟩ : Rect S4096x128).emb x) := everyEighth 6 inb_S4096x128_S512x128_6_0_s_8_1 spos_8_1 (by decide) _ (fun y : S4096x128.Idx => val_main_v67 (F := Ideal) a0 a1 a2 a4 (ix2 ⟨t.val * 4096 + (y 0).val, by have h0 : (y 0).val < 4096 := (y 0).isLt; have := t.isLt; omega⟩ (y 1))) (fun r j => (krow (k0_pay2 (F := Ideal) x0 x1) x2 a0 a1 a2 r (row t r) a4 x4 (hx r) hw hg 2048 256 (by decide) inb_S2048x4096_S2048x512_0_2048 (by decide) 6 (by decide) j _ (k6_at ..)).trans (v67_at a0 a1 a2 a4 (row t r) 6 j _ (by show t.val * 4096 + (6 + 8 * r.val) = 8 * (t.val * 512 + r.val) + 6; omega)).symm)
  have h2 : ∀ x : S512x128.Idx, ((k0_pay49 (k0_pay43 (k0_pay2 x0 x1) (chunk 2048 inb_S2048x4096_S2048x512_0_2048 x2)) x4) : Vec Ideal S512x128 .f32) x = (fun y : S4096x128.Idx => val_main_v67 (F := Ideal) a0 a1 a2 a4 (ix2 ⟨t.val * 4096 + (y 0).val, by have h0 : (y 0).val < 4096 := (y 0).isLt; have := t.isLt; omega⟩ (y 1))) ((⟨(⟨![5, 0], ![512, 128], ![8, 1], inb_S4096x128_S512x128_5_0_s_8_1⟩ : LoadRect S4096x128), spos_8_1⟩ : Rect S4096x128).emb x) := everyEighth 5 inb_S4096x128_S512x128_5_0_s_8_1 spos_8_1 (by decide) _ (fun y : S4096x128.Idx => val_main_v67 (F := Ideal) a0 a1 a2 a4 (ix2 ⟨t.val * 4096 + (y 0).val, by have h0 : (y 0).val < 4096 := (y 0).isLt; have := t.isLt; omega⟩ (y 1))) (fun r j => (krow (k0_pay2 (F := Ideal) x0 x1) x2 a0 a1 a2 r (row t r) a4 x4 (hx r) hw hg 2048 128 (by decide) inb_S2048x4096_S2048x512_0_2048 (by decide) 5 (by decide) j _ (k5_at ..)).trans (v67_at a0 a1 a2 a4 (row t r) 5 j _ (by show t.val * 4096 + (5 + 8 * r.val) = 8 * (t.val * 512 + r.val) + 5; omega)).symm)
  have h3 : ∀ x : S512x128.Idx, ((k0_pay44 (k0_pay2 x0 x1) (chunk 2048 inb_S2048x4096_S2048x512_0_2048 x2) x4) : Vec Ideal S512x128 .f32) x = (fun y : S4096x128.Idx => val_main_v67 (F := Ideal) a0 a1 a2 a4 (ix2 ⟨t.val * 4096 + (y 0).val, by have h0 : (y 0).val < 4096 := (y 0).isLt; have := t.isLt; omega⟩ (y 1))) ((⟨(⟨![4, 0], ![512, 128], ![8, 1], inb_S4096x128_S512x128_4_0_s_8_1⟩ : LoadRect S4096x128), spos_8_1⟩ : Rect S4096x128).emb x) := everyEighth 4 inb_S4096x128_S512x128_4_0_s_8_1 spos_8_1 (by decide) _ (fun y : S4096x128.Idx => val_main_v67 (F := Ideal) a0 a1 a2 a4 (ix2 ⟨t.val * 4096 + (y 0).val, by have h0 : (y 0).val < 4096 := (y 0).isLt; have := t.isLt; omega⟩ (y 1))) (fun r j => (krow (k0_pay2 (F := Ideal) x0 x1) x2 a0 a1 a2 r (row t r) a4 x4 (hx r) hw hg 2048 0 (by decide) inb_S2048x4096_S2048x512_0_2048 (by decide) 4 (by decide) j _ (k4_at ..)).trans (v67_at a0 a1 a2 a4 (row t r) 4 j _ (by show t.val * 4096 + (4 + 8 * r.val) = 8 * (t.val * 512 + r.val) + 4; omega)).symm)
  have h4 : ∀ x : S512x128.Idx, ((k0_pay38 (k0_pay23 (k0_pay2 x0 x1) (chunk 1536 inb_S2048x4096_S2048x512_0_1536 x2)) x4) : Vec Ideal S512x128 .f32) x = (fun y : S4096x128.Idx => val_main_v67 (F := Ideal) a0 a1 a2 a4 (ix2 ⟨t.val * 4096 + (y 0).val, by have h0 : (y 0).val < 4096 := (y 0).isLt; have := t.isLt; omega⟩ (y 1))) ((⟨(⟨![3, 0], ![512, 128], ![8, 1], inb_S4096x128_S512x128_3_0_s_8_1⟩ : LoadRect S4096x128), spos_8_1⟩ : Rect S4096x128).emb x) := everyEighth 3 inb_S4096x128_S512x128_3_0_s_8_1 spos_8_1 (by decide) _ (fun y : S4096x128.Idx => val_main_v67 (F := Ideal) a0 a1 a2 a4 (ix2 ⟨t.val * 4096 + (y 0).val, by have h0 : (y 0).val < 4096 := (y 0).isLt; have := t.isLt; omega⟩ (y 1))) (fun r j => (krow (k0_pay2 (F := Ideal) x0 x1) x2 a0 a1 a2 r (row t r) a4 x4 (hx r) hw hg 1536 384 (by decide) inb_S2048x4096_S2048x512_0_1536 (by decide) 3 (by decide) j _ (k3_at ..)).trans (v67_at a0 a1 a2 a4 (row t r) 3 j _ (by show t.val * 4096 + (3 + 8 * r.val) = 8 * (t.val * 512 + r.val) + 3; omega)).symm)
  have h5 : ∀ x : S512x128.Idx, ((k0_pay33 (k0_pay23 (k0_pay2 x0 x1) (chunk 1536 inb_S2048x4096_S2048x512_0_1536 x2)) x4) : Vec Ideal S512x128 .f32) x = (fun y : S4096x128.Idx => val_main_v67 (F := Ideal) a0 a1 a2 a4 (ix2 ⟨t.val * 4096 + (y 0).val, by have h0 : (y 0).val < 4096 := (y 0).isLt; have := t.isLt; omega⟩ (y 1))) ((⟨(⟨![2, 0], ![512, 128], ![8, 1], inb_S4096x128_S512x128_2_0_s_8_1⟩ : LoadRect S4096x128), spos_8_1⟩ : Rect S4096x128).emb x) := everyEighth 2 inb_S4096x128_S512x128_2_0_s_8_1 spos_8_1 (by decide) _ (fun y : S4096x128.Idx => val_main_v67 (F := Ideal) a0 a1 a2 a4 (ix2 ⟨t.val * 4096 + (y 0).val, by have h0 : (y 0).val < 4096 := (y 0).isLt; have := t.isLt; omega⟩ (y 1))) (fun r j => (krow (k0_pay2 (F := Ideal) x0 x1) x2 a0 a1 a2 r (row t r) a4 x4 (hx r) hw hg 1536 256 (by decide) inb_S2048x4096_S2048x512_0_1536 (by decide) 2 (by decide) j _ (k2_at ..)).trans (v67_at a0 a1 a2 a4 (row t r) 2 j _ (by show t.val * 4096 + (2 + 8 * r.val) = 8 * (t.val * 512 + r.val) + 2; omega)).symm)
  have h6 : ∀ x : S512x128.Idx, ((k0_pay29 (k0_pay23 (k0_pay2 x0 x1) (chunk 1536 inb_S2048x4096_S2048x512_0_1536 x2)) x4) : Vec Ideal S512x128 .f32) x = (fun y : S4096x128.Idx => val_main_v67 (F := Ideal) a0 a1 a2 a4 (ix2 ⟨t.val * 4096 + (y 0).val, by have h0 : (y 0).val < 4096 := (y 0).isLt; have := t.isLt; omega⟩ (y 1))) ((⟨(⟨![1, 0], ![512, 128], ![8, 1], inb_S4096x128_S512x128_1_0_s_8_1⟩ : LoadRect S4096x128), spos_8_1⟩ : Rect S4096x128).emb x) := everyEighth 1 inb_S4096x128_S512x128_1_0_s_8_1 spos_8_1 (by decide) _ (fun y : S4096x128.Idx => val_main_v67 (F := Ideal) a0 a1 a2 a4 (ix2 ⟨t.val * 4096 + (y 0).val, by have h0 : (y 0).val < 4096 := (y 0).isLt; have := t.isLt; omega⟩ (y 1))) (fun r j => (krow (k0_pay2 (F := Ideal) x0 x1) x2 a0 a1 a2 r (row t r) a4 x4 (hx r) hw hg 1536 128 (by decide) inb_S2048x4096_S2048x512_0_1536 (by decide) 1 (by decide) j _ (k1_at ..)).trans (v67_at a0 a1 a2 a4 (row t r) 1 j _ (by show t.val * 4096 + (1 + 8 * r.val) = 8 * (t.val * 512 + r.val) + 1; omega)).symm)
  have h7 : ∀ x : S512x128.Idx, ((k0_pay24 (k0_pay2 x0 x1) (chunk 1536 inb_S2048x4096_S2048x512_0_1536 x2) x4) : Vec Ideal S512x128 .f32) x = (fun y : S4096x128.Idx => val_main_v67 (F := Ideal) a0 a1 a2 a4 (ix2 ⟨t.val * 4096 + (y 0).val, by have h0 : (y 0).val < 4096 := (y 0).isLt; have := t.isLt; omega⟩ (y 1))) ((⟨(⟨![0, 0], ![512, 128], ![8, 1], inb_S4096x128_S512x128_0_0_s_8_1⟩ : LoadRect S4096x128), spos_8_1⟩ : Rect S4096x128).emb x) := everyEighth 0 inb_S4096x128_S512x128_0_0_s_8_1 spos_8_1 (by decide) _ (fun y : S4096x128.Idx => val_main_v67 (F := Ideal) a0 a1 a2 a4 (ix2 ⟨t.val * 4096 + (y 0).val, by have h0 : (y 0).val < 4096 := (y 0).isLt; have := t.isLt; omega⟩ (y 1))) (fun r j => (krow (k0_pay2 (F := Ideal) x0 x1) x2 a0 a1 a2 r (row t r) a4 x4 (hx r) hw hg 1536 0 (by decide) inb_S2048x4096_S2048x512_0_1536 (by decide) 0 (by decide) j _ (k0_at ..)).trans (v67_at a0 a1 a2 a4 (row t r) 0 j _ (by show t.val * 4096 + (0 + 8 * r.val) = 8 * (t.val * 512 + r.val) + 0; omega)).symm)
  exact List.forall_mem_cons.2 ⟨h0, List.forall_mem_cons.2 ⟨h1, List.forall_mem_cons.2 ⟨h2, List.forall_mem_cons.2 ⟨h3, List.forall_mem_cons.2 ⟨h4, List.forall_mem_cons.2 ⟨h5, List.forall_mem_cons.2 ⟨h6, List.forall_mem_cons.2 ⟨h7, fun _ h => absurd h List.not_mem_nil⟩⟩⟩⟩⟩⟩⟩⟩

theorem blk9 (hx : ∀ r k, k0_pay2 (F := Ideal) x0 x1 (ix2 r k) = val_main_v13 (F := Ideal) a0 a1 (ix2 (row t r) k))
    (hw : ∀ k j, x2 (ix2 k j) = a2 (ix2 k j)) (hg : ∀ j, x4 (ix2 0 j) = a4 (ix1 j)) :
    ∀ p ∈ ([⟨Rect.unit ![0, 896] ![512, 128] inb_S512x1024_S512x128_0_896, k0_pay60 (k0_pay43 (k0_pay2 x0 x1) (chunk 2048 inb_S2048x4096_S2048x512_0_2048 x2)) x4⟩,
      ⟨Rect.unit ![0, 768] ![512, 128] inb_S512x1024_S512x128_0_768, k0_pay55 (k0_pay43 (k0_pay2 x0 x1) (chunk 2048 inb_S2048x4096_S2048x512_0_2048 x2)) x4⟩,
      ⟨Rect.unit ![0, 640] ![512, 128] inb_S512x1024_S512x128_0_640, k0_pay50 (k0_pay43 (k0_pay2 x0 x1) (chunk 2048 inb_S2048x4096_S2048x512_0_2048 x2)) x4⟩,
      ⟨Rect.unit ![0, 512] ![512, 128] inb_S512x1024_S512x128_0_512, k0_pay45 (k0_pay2 x0 x1) (chunk 2048 inb_S2048x4096_S2048x512_0_2048 x2) x4⟩,
      ⟨Rect.unit ![0, 384] ![512, 128] inb_S512x1024_S512x128_0_384, k0_pay39 (k0_pay23 (k0_pay2 x0 x1) (chunk 1536 inb_S2048x4096_S2048x512_0_1536 x2)) x4⟩,
      ⟨Rect.unit ![0, 256] ![512, 128] inb_S512x1024_S512x128_0_256, k0_pay34 (k0_pay23 (k0_pay2 x0 x1) (chunk 1536 inb_S2048x4096_S2048x512_0_1536 x2)) x4⟩,
      ⟨Rect.unit ![0, 128] ![512, 128] inb_S512x1024_S512x128_0_128, k0_pay30 (k0_pay23 (k0_pay2 x0 x1) (chunk 1536 inb_S2048x4096_S2048x512_0_1536 x2)) x4⟩,
      ⟨Rect.unit ![0, 0] ![512, 128] inb_S512x1024_S512x128_0_0, k0_pay25 (k0_pay2 x0 x1) (chunk 1536 inb_S2048x4096_S2048x512_0_1536 x2) x4⟩] : List (View.Piece (Elt Ideal) S512x1024 .bf16)), ∀ x, p.2 x = (fun y : S512x1024.Idx => val_main_v69 (F := Ideal) a0 a1 a2 a4 (ix2 (row t (y 0)) (y 1))) (p.1.emb x) := by
  have h0 : ∀ x : S512x128.Idx, ((k0_pay60 (k0_pay43 (k0_pay2 x0 x1) (chunk 2048 inb_S2048x4096_S2048x512_0_2048 x2)) x4) : Vec Ideal S512x128 .bf16) x = (fun y : S512x1024.Idx => val_main_v69 (F := Ideal) a0 a1 a2 a4 (ix2 (row t (y 0)) (y 1))) ((Rect.unit ![0, 896] ![512, 128] inb_S512x1024_S512x128_0_896 : Rect S512x1024).emb x) := flat1024 896 inb_S512x1024_S512x128_0_896 (by decide) _ (fun y : S512x1024.Idx => val_main_v69 (F := Ideal) a0 a1 a2 a4 (ix2 (row t (y 0)) (y 1))) (fun r j => (kb7_at ..).trans ((krow (k0_pay2 (F := Ideal) x0 x1) x2 a0 a1 a2 r (row t r) a4 x4 (hx r) hw hg 2048 384 (by decide) inb_S2048x4096_S2048x512_0_2048 (by decide) 7 (by decide) j _ (k7_at ..)).trans (v69_at a0 a1 a2 a4 (row t r) 7 j _ rfl).symm))
  have h1 : ∀ x : S512x128.Idx, ((k0_pay55 (k0_pay43 (k0_pay2 x0 x1) (chunk 2048 inb_S2048x4096_S2048x512_0_2048 x2)) x4) : Vec Ideal S512x128 .bf16) x = (fun y : S512x1024.Idx => val_main_v69 (F := Ideal) a0 a1 a2 a4 (ix2 (row t (y 0)) (y 1))) ((Rect.unit ![0, 768] ![512, 128] inb_S512x1024_S512x128_0_768 : Rect S512x1024).emb x) := flat1024 768 inb_S512x1024_S512x128_0_768 (by decide) _ (fun y : S512x1024.Idx => val_main_v69 (F := Ideal) a0 a1 a2 a4 (ix2 (row t (y 0)) (y 1))) (fun r j => (kb6_at ..).trans ((krow (k0_pay2 (F := Ideal) x0 x1) x2 a0 a1 a2 r (row t r) a4 x4 (hx r) hw hg 2048 256 (by decide) inb_S2048x4096_S2048x512_0_2048 (by decide) 6 (by decide) j _ (k6_at ..)).trans (v69_at a0 a1 a2 a4 (row t r) 6 j _ rfl).symm))
  have h2 : ∀ x : S512x128.Idx, ((k0_pay50 (k0_pay43 (k0_pay2 x0 x1) (chunk 2048 inb_S2048x4096_S2048x512_0_2048 x2)) x4) : Vec Ideal S512x128 .bf16) x = (fun y : S512x1024.Idx => val_main_v69 (F := Ideal) a0 a1 a2 a4 (ix2 (row t (y 0)) (y 1))) ((Rect.unit ![0, 640] ![512, 128] inb_S512x1024_S512x128_0_640 : Rect S512x1024).emb x) := flat1024 640 inb_S512x1024_S512x128_0_640 (by decide) _ (fun y : S512x1024.Idx => val_main_v69 (F := Ideal) a0 a1 a2 a4 (ix2 (row t (y 0)) (y 1))) (fun r j => (kb5_at ..).trans ((krow (k0_pay2 (F := Ideal) x0 x1) x2 a0 a1 a2 r (row t r) a4 x4 (hx r) hw hg 2048 128 (by decide) inb_S2048x4096_S2048x512_0_2048 (by decide) 5 (by decide) j _ (k5_at ..)).trans (v69_at a0 a1 a2 a4 (row t r) 5 j _ rfl).symm))
  have h3 : ∀ x : S512x128.Idx, ((k0_pay45 (k0_pay2 x0 x1) (chunk 2048 inb_S2048x4096_S2048x512_0_2048 x2) x4) : Vec Ideal S512x128 .bf16) x = (fun y : S512x1024.Idx => val_main_v69 (F := Ideal) a0 a1 a2 a4 (ix2 (row t (y 0)) (y 1))) ((Rect.unit ![0, 512] ![512, 128] inb_S512x1024_S512x128_0_512 : Rect S512x1024).emb x) := flat1024 512 inb_S512x1024_S512x128_0_512 (by decide) _ (fun y : S512x1024.Idx => val_main_v69 (F := Ideal) a0 a1 a2 a4 (ix2 (row t (y 0)) (y 1))) (fun r j => (kb4_at ..).trans ((krow (k0_pay2 (F := Ideal) x0 x1) x2 a0 a1 a2 r (row t r) a4 x4 (hx r) hw hg 2048 0 (by decide) inb_S2048x4096_S2048x512_0_2048 (by decide) 4 (by decide) j _ (k4_at ..)).trans (v69_at a0 a1 a2 a4 (row t r) 4 j _ rfl).symm))
  have h4 : ∀ x : S512x128.Idx, ((k0_pay39 (k0_pay23 (k0_pay2 x0 x1) (chunk 1536 inb_S2048x4096_S2048x512_0_1536 x2)) x4) : Vec Ideal S512x128 .bf16) x = (fun y : S512x1024.Idx => val_main_v69 (F := Ideal) a0 a1 a2 a4 (ix2 (row t (y 0)) (y 1))) ((Rect.unit ![0, 384] ![512, 128] inb_S512x1024_S512x128_0_384 : Rect S512x1024).emb x) := flat1024 384 inb_S512x1024_S512x128_0_384 (by decide) _ (fun y : S512x1024.Idx => val_main_v69 (F := Ideal) a0 a1 a2 a4 (ix2 (row t (y 0)) (y 1))) (fun r j => (kb3_at ..).trans ((krow (k0_pay2 (F := Ideal) x0 x1) x2 a0 a1 a2 r (row t r) a4 x4 (hx r) hw hg 1536 384 (by decide) inb_S2048x4096_S2048x512_0_1536 (by decide) 3 (by decide) j _ (k3_at ..)).trans (v69_at a0 a1 a2 a4 (row t r) 3 j _ rfl).symm))
  have h5 : ∀ x : S512x128.Idx, ((k0_pay34 (k0_pay23 (k0_pay2 x0 x1) (chunk 1536 inb_S2048x4096_S2048x512_0_1536 x2)) x4) : Vec Ideal S512x128 .bf16) x = (fun y : S512x1024.Idx => val_main_v69 (F := Ideal) a0 a1 a2 a4 (ix2 (row t (y 0)) (y 1))) ((Rect.unit ![0, 256] ![512, 128] inb_S512x1024_S512x128_0_256 : Rect S512x1024).emb x) := flat1024 256 inb_S512x1024_S512x128_0_256 (by decide) _ (fun y : S512x1024.Idx => val_main_v69 (F := Ideal) a0 a1 a2 a4 (ix2 (row t (y 0)) (y 1))) (fun r j => (kb2_at ..).trans ((krow (k0_pay2 (F := Ideal) x0 x1) x2 a0 a1 a2 r (row t r) a4 x4 (hx r) hw hg 1536 256 (by decide) inb_S2048x4096_S2048x512_0_1536 (by decide) 2 (by decide) j _ (k2_at ..)).trans (v69_at a0 a1 a2 a4 (row t r) 2 j _ rfl).symm))
  have h6 : ∀ x : S512x128.Idx, ((k0_pay30 (k0_pay23 (k0_pay2 x0 x1) (chunk 1536 inb_S2048x4096_S2048x512_0_1536 x2)) x4) : Vec Ideal S512x128 .bf16) x = (fun y : S512x1024.Idx => val_main_v69 (F := Ideal) a0 a1 a2 a4 (ix2 (row t (y 0)) (y 1))) ((Rect.unit ![0, 128] ![512, 128] inb_S512x1024_S512x128_0_128 : Rect S512x1024).emb x) := flat1024 128 inb_S512x1024_S512x128_0_128 (by decide) _ (fun y : S512x1024.Idx => val_main_v69 (F := Ideal) a0 a1 a2 a4 (ix2 (row t (y 0)) (y 1))) (fun r j => (kb1_at ..).trans ((krow (k0_pay2 (F := Ideal) x0 x1) x2 a0 a1 a2 r (row t r) a4 x4 (hx r) hw hg 1536 128 (by decide) inb_S2048x4096_S2048x512_0_1536 (by decide) 1 (by decide) j _ (k1_at ..)).trans (v69_at a0 a1 a2 a4 (row t r) 1 j _ rfl).symm))
  have h7 : ∀ x : S512x128.Idx, ((k0_pay25 (k0_pay2 x0 x1) (chunk 1536 inb_S2048x4096_S2048x512_0_1536 x2) x4) : Vec Ideal S512x128 .bf16) x = (fun y : S512x1024.Idx => val_main_v69 (F := Ideal) a0 a1 a2 a4 (ix2 (row t (y 0)) (y 1))) ((Rect.unit ![0, 0] ![512, 128] inb_S512x1024_S512x128_0_0 : Rect S512x1024).emb x) := flat1024 0 inb_S512x1024_S512x128_0_0 (by decide) _ (fun y : S512x1024.Idx => val_main_v69 (F := Ideal) a0 a1 a2 a4 (ix2 (row t (y 0)) (y 1))) (fun r j => (kb0_at ..).trans ((krow (k0_pay2 (F := Ideal) x0 x1) x2 a0 a1 a2 r (row t r) a4 x4 (hx r) hw hg 1536 0 (by decide) inb_S2048x4096_S2048x512_0_1536 (by decide) 0 (by decide) j _ (k0_at ..)).trans (v69_at a0 a1 a2 a4 (row t r) 0 j _ rfl).symm))
  exact List.forall_mem_cons.2 ⟨h0, List.forall_mem_cons.2 ⟨h1, List.forall_mem_cons.2 ⟨h2, List.forall_mem_cons.2 ⟨h3, List.forall_mem_cons.2 ⟨h4, List.forall_mem_cons.2 ⟨h5, List.forall_mem_cons.2 ⟨h6, List.forall_mem_cons.2 ⟨h7, fun _ h => absurd h List.not_mem_nil⟩⟩⟩⟩⟩⟩⟩⟩

theorem blk10 (hx : ∀ r k, k0_pay2 (F := Ideal) x0 x1 (ix2 r k) = val_main_v13 (F := Ideal) a0 a1 (ix2 (row t r) k))
    (hw : ∀ k j, x2 (ix2 k j) = a2 (ix2 k j)) (hg : ∀ j, x4 (ix2 0 j) = a4 (ix1 j)) :
    ∀ p ∈ ([⟨Rect.unit ![0, 1, 896] ![1, 1, 128] inb_S1x2x1024_S1x1x128_0_1_896, k0_pay63 (k0_pay62 (k0_pay43 (k0_pay2 x0 x1) (chunk 2048 inb_S2048x4096_S2048x512_0_2048 x2)) x4)⟩,
      ⟨Rect.unit ![0, 0, 896] ![1, 1, 128] inb_S1x2x1024_S1x1x128_0_0_896, k0_pay61 (k0_pay43 (k0_pay2 x0 x1) (chunk 2048 inb_S2048x4096_S2048x512_0_2048 x2)) x4⟩,
      ⟨Rect.unit ![0, 1, 768] ![1, 1, 128] inb_S1x2x1024_S1x1x128_0_1_768, k0_pay58 (k0_pay57 (k0_pay43 (k0_pay2 x0 x1) (chunk 2048 inb_S2048x4096_S2048x512_0_2048 x2)) x4)⟩,
      ⟨Rect.unit ![0, 0, 768] ![1, 1, 128] inb_S1x2x1024_S1x1x128_0_0_768, k0_pay56 (k0_pay43 (k0_pay2 x0 x1) (chunk 2048 inb_S2048x4096_S2048x512_0_2048 x2)) x4⟩,
      ⟨Rect.unit ![0, 1, 640] ![1, 1, 128] inb_S1x2x1024_S1x1x128_0_1_640, k0_pay53 (k0_pay52 (k0_pay43 (k0_pay2 x0 x1) (chunk 2048 inb_S2048x4096_S2048x512_0_2048 x2)) x4) (FloatOps.ofBits FTy.f32 1132462080#32)⟩,
      ⟨Rect.unit ![0, 0, 640] ![1, 1, 128] inb_S1x2x1024_S1x1x128_0_0_640, k0_pay51 (k0_pay43 (k0_pay2 x0 x1) (chunk 2048 inb_S2048x4096_S2048x512_0_2048 x2)) x4⟩,
      ⟨Rect.unit ![0, 1, 512] ![1, 1, 128] inb_S1x2x1024_S1x1x128_0_1_512, k0_pay48 (k0_pay47 (k0_pay2 x0 x1) (chunk 2048 inb_S2048x4096_S2048x512_0_2048 x2) x4)⟩,
      ⟨Rect.unit ![0, 0, 512] ![1, 1, 128] inb_S1x2x1024_S1x1x128_0_0_512, k0_pay46 (k0_pay2 x0 x1) (chunk 2048 inb_S2048x4096_S2048x512_0_2048 x2) x4⟩,
      ⟨Rect.unit ![0, 1, 384] ![1, 1, 128] inb_S1x2x1024_S1x1x128_0_1_384, k0_pay42 (k0_pay41 (k0_pay23 (k0_pay2 x0 x1) (chunk 1536 inb_S2048x4096_S2048x512_0_1536 x2)) x4) (FloatOps.ofBits FTy.f32 1132462080#32)⟩,
      ⟨Rect.unit ![0, 0, 384] ![1, 1, 128] inb_S1x2x1024_S1x1x128_0_0_384, k0_pay40 (k0_pay23 (k0_pay2 x0 x1) (chunk 1536 inb_S2048x4096_S2048x512_0_1536 x2)) x4⟩,
      ⟨Rect.unit ![0, 1, 256] ![1, 1, 128] inb_S1x2x1024_S1x1x128_0_1_256, k0_pay37 (k0_pay36 (k0_pay23 (k0_pay2 x0 x1) (chunk 1536 inb_S2048x4096_S2048x512_0_1536 x2)) x4)⟩,
      ⟨Rect.unit ![0, 0, 256] ![1, 1, 128] inb_S1x2x1024_S1x1x128_0_0_256, k0_pay35 (k0_pay23 (k0_pay2 x0 x1) (chunk 1536 inb_S2048x4096_S2048x512_0_1536 x2)) x4⟩,
      ⟨Rect.unit ![0, 1, 128] ![1, 1, 128] inb_S1x2x1024_S1x1x128_0_1_128, k0_pay32 (k0_pay29 (k0_pay23 (k0_pay2 x0 x1) (chunk 1536 inb_S2048x4096_S2048x512_0_1536 x2)) x4)⟩,
      ⟨Rect.unit ![0, 0, 128] ![1, 1, 128] inb_S1x2x1024_S1x1x128_0_0_128, k0_pay31 (k0_pay23 (k0_pay2 x0 x1) (chunk 1536 inb_S2048x4096_S2048x512_0_1536 x2)) x4⟩,
      ⟨Rect.unit ![0, 1, 0] ![1, 1, 128] inb_S1x2x1024_S1x1x128_0_1_0, k0_pay28 (k0_pay24 (k0_pay2 x0 x1) (chunk 1536 inb_S2048x4096_S2048x512_0_1536 x2) x4)⟩,
      ⟨Rect.unit ![0, 0, 0] ![1, 1, 128] inb_S1x2x1024_S1x1x128_0_0_0, k0_pay27 (k0_pay26 (k0_pay2 x0 x1) (chunk 1536 inb_S2048x4096_S2048x512_0_1536 x2) x4)⟩] : List (View.Piece (Elt Ideal) S1x2x1024 .f32)), ∀ x, p.2 x = (fun y : S1x2x1024.Idx => val_main_v70 (F := Ideal) a0 a1 a2 a4 (ix3 t (y 1) (y 2))) (p.1.emb x) := by
  have h0 : ∀ x : S1x1x128.Idx, ((k0_pay63 (k0_pay62 (k0_pay43 (k0_pay2 x0 x1) (chunk 2048 inb_S2048x4096_S2048x512_0_2048 x2)) x4)) : Vec Ideal S1x1x128 .f32) x = (fun y : S1x2x1024.Idx => val_main_v70 (F := Ideal) a0 a1 a2 a4 (ix3 t (y 1) (y 2))) ((Rect.unit ![0, 1, 896] ![1, 1, 128] inb_S1x2x1024_S1x1x128_0_1_896 : Rect S1x2x1024).emb x) := oneRow 1 896 inb_S1x2x1024_S1x1x128_0_1_896 (by decide) (by decide) _ (fun y : S1x2x1024.Idx => val_main_v70 (F := Ideal) a0 a1 a2 a4 (ix3 t (y 1) (y 2))) (fun j => (m7_1_at ..).trans ((avg_congr _ _ (fun x => krow (k0_pay2 (F := Ideal) x0 x1) x2 a0 a1 a2 ⟨256 + x.val, by have := x.isLt; omega⟩ (row t ⟨256 + x.val, by have := x.isLt; omega⟩) a4 x4 (hx ⟨256 + x.val, by have := x.isLt; omega⟩) hw hg 2048 384 (by decide) inb_S2048x4096_S2048x512_0_2048 (by decide) 7 (by decide) j _ (k7_at ..))).trans (v70_at a0 a1 a2 a4 t 1 7 j _ rfl).symm))
  have h1 : ∀ x : S1x1x128.Idx, ((k0_pay61 (k0_pay43 (k0_pay2 x0 x1) (chunk 2048 inb_S2048x4096_S2048x512_0_2048 x2)) x4) : Vec Ideal S1x1x128 .f32) x = (fun y : S1x2x1024.Idx => val_main_v70 (F := Ideal) a0 a1 a2 a4 (ix3 t (y 1) (y 2))) ((Rect.unit ![0, 0, 896] ![1, 1, 128] inb_S1x2x1024_S1x1x128_0_0_896 : Rect S1x2x1024).emb x) := oneRow 0 896 inb_S1x2x1024_S1x1x128_0_0_896 (by decide) (by decide) _ (fun y : S1x2x1024.Idx => val_main_v70 (F := Ideal) a0 a1 a2 a4 (ix3 t (y 1) (y 2))) (fun j => (m7_0_at ..).trans ((avg_congr _ _ (fun x => krow (k0_pay2 (F := Ideal) x0 x1) x2 a0 a1 a2 ⟨0 + x.val, by have := x.isLt; omega⟩ (row t ⟨0 + x.val, by have := x.isLt; omega⟩) a4 x4 (hx ⟨0 + x.val, by have := x.isLt; omega⟩) hw hg 2048 384 (by decide) inb_S2048x4096_S2048x512_0_2048 (by decide) 7 (by decide) j _ (k7_at ..))).trans (v70_at a0 a1 a2 a4 t 0 7 j _ rfl).symm))
  have h2 : ∀ x : S1x1x128.Idx, ((k0_pay58 (k0_pay57 (k0_pay43 (k0_pay2 x0 x1) (chunk 2048 inb_S2048x4096_S2048x512_0_2048 x2)) x4)) : Vec Ideal S1x1x128 .f32) x = (fun y : S1x2x1024.Idx => val_main_v70 (F := Ideal) a0 a1 a2 a4 (ix3 t (y 1) (y 2))) ((Rect.unit ![0, 1, 768] ![1, 1, 128] inb_S1x2x1024_S1x1x128_0_1_768 : Rect S1x2x1024).emb x) := oneRow 1 768 inb_S1x2x1024_S1x1x128_0_1_768 (by decide) (by decide) _ (fun y : S1x2x1024.Idx => val_main_v70 (F := Ideal) a0 a1 a2 a4 (ix3 t (y 1) (y 2))) (fun j => (m6_1_at ..).trans ((avg_congr _ _ (fun x => krow (k0_pay2 (F := Ideal) x0 x1) x2 a0 a1 a2 ⟨256 + x.val, by have := x.isLt; omega⟩ (row t ⟨256 + x.val, by have := x.isLt; omega⟩) a4 x4 (hx ⟨256 + x.val, by have := x.isLt; omega⟩) hw hg 2048 256 (by decide) inb_S2048x4096_S2048x512_0_2048 (by decide) 6 (by decide) j _ (k6_at ..))).trans (v70_at a0 a1 a2 a4 t 1 6 j _ rfl).symm))
  have h3 : ∀ x : S1x1x128.Idx, ((k0_pay56 (k0_pay43 (k0_pay2 x0 x1) (chunk 2048 inb_S2048x4096_S2048x512_0_2048 x2)) x4) : Vec Ideal S1x1x128 .f32) x = (fun y : S1x2x1024.Idx => val_main_v70 (F := Ideal) a0 a1 a2 a4 (ix3 t (y 1) (y 2))) ((Rect.unit ![0, 0, 768] ![1, 1, 128] inb_S1x2x1024_S1x1x128_0_0_768 : Rect S1x2x1024).emb x) := oneRow 0 768 inb_S1x2x1024_S1x1x128_0_0_768 (by decide) (by decide) _ (fun y : S1x2x1024.Idx => val_main_v70 (F := Ideal) a0 a1 a2 a4 (ix3 t (y 1) (y 2))) (fun j => (m6_0_at ..).trans ((avg_congr _ _ (fun x => krow (k0_pay2 (F := Ideal) x0 x1) x2 a0 a1 a2 ⟨0 + x.val, by have := x.isLt; omega⟩ (row t ⟨0 + x.val, by have := x.isLt; omega⟩) a4 x4 (hx ⟨0 + x.val, by have := x.isLt; omega⟩) hw hg 2048 256 (by decide) inb_S2048x4096_S2048x512_0_2048 (by decide) 6 (by decide) j _ (k6_at ..))).trans (v70_at a0 a1 a2 a4 t 0 6 j _ rfl).symm))
  have h4 : ∀ x : S1x1x128.Idx, ((k0_pay53 (k0_pay52 (k0_pay43 (k0_pay2 x0 x1) (chunk 2048 inb_S2048x4096_S2048x512_0_2048 x2)) x4) (FloatOps.ofBits FTy.f32 1132462080#32)) : Vec Ideal S1x1x128 .f32) x = (fun y : S1x2x1024.Idx => val_main_v70 (F := Ideal) a0 a1 a2 a4 (ix3 t (y 1) (y 2))) ((Rect.unit ![0, 1, 640] ![1, 1, 128] inb_S1x2x1024_S1x1x128_0_1_640 : Rect S1x2x1024).emb x) := oneRow 1 640 inb_S1x2x1024_S1x1x128_0_1_640 (by decide) (by decide) _ (fun y : S1x2x1024.Idx => val_main_v70 (F := Ideal) a0 a1 a2 a4 (ix3 t (y 1) (y 2))) (fun j => (m5_1_at ..).trans ((avg_congr _ _ (fun x => krow (k0_pay2 (F := Ideal) x0 x1) x2 a0 a1 a2 ⟨256 + x.val, by have := x.isLt; omega⟩ (row t ⟨256 + x.val, by have := x.isLt; omega⟩) a4 x4 (hx ⟨256 + x.val, by have := x.isLt; omega⟩) hw hg 2048 128 (by decide) inb_S2048x4096_S2048x512_0_2048 (by decide) 5 (by decide) j _ (k5_at ..))).trans (v70_at a0 a1 a2 a4 t 1 5 j _ rfl).symm))
  have h5 : ∀ x : S1x1x128.Idx, ((k0_pay51 (k0_pay43 (k0_pay2 x0 x1) (chunk 2048 inb_S2048x4096_S2048x512_0_2048 x2)) x4) : Vec Ideal S1x1x128 .f32) x = (fun y : S1x2x1024.Idx => val_main_v70 (F := Ideal) a0 a1 a2 a4 (ix3 t (y 1) (y 2))) ((Rect.unit ![0, 0, 640] ![1, 1, 128] inb_S1x2x1024_S1x1x128_0_0_640 : Rect S1x2x1024).emb x) := oneRow 0 640 inb_S1x2x1024_S1x1x128_0_0_640 (by decide) (by decide) _ (fun y : S1x2x1024.Idx => val_main_v70 (F := Ideal) a0 a1 a2 a4 (ix3 t (y 1) (y 2))) (fun j => (m5_0_at ..).trans ((avg_congr _ _ (fun x => krow (k0_pay2 (F := Ideal) x0 x1) x2 a0 a1 a2 ⟨0 + x.val, by have := x.isLt; omega⟩ (row t ⟨0 + x.val, by have := x.isLt; omega⟩) a4 x4 (hx ⟨0 + x.val, by have := x.isLt; omega⟩) hw hg 2048 128 (by decide) inb_S2048x4096_S2048x512_0_2048 (by decide) 5 (by decide) j _ (k5_at ..))).trans (v70_at a0 a1 a2 a4 t 0 5 j _ rfl).symm))
  have h6 : ∀ x : S1x1x128.Idx, ((k0_pay48 (k0_pay47 (k0_pay2 x0 x1) (chunk 2048 inb_S2048x4096_S2048x512_0_2048 x2) x4)) : Vec Ideal S1x1x128 .f32) x = (fun y : S1x2x1024.Idx => val_main_v70 (F := Ideal) a0 a1 a2 a4 (ix3 t (y 1) (y 2))) ((Rect.unit ![0, 1, 512] ![1, 1, 128] inb_S1x2x1024_S1x1x128_0_1_512 : Rect S1x2x1024).emb x) := oneRow 1 512 inb_S1x2x1024_S1x1x128_0_1_512 (by decide) (by decide) _ (fun y : S1x2x1024.Idx => val_main_v70 (F := Ideal) a0 a1 a2 a4 (ix3 t (y 1) (y 2))) (fun j => (m4_1_at ..).trans ((avg_congr _ _ (fun x => krow (k0_pay2 (F := Ideal) x0 x1) x2 a0 a1 a2 ⟨256 + x.val, by have := x.isLt; omega⟩ (row t ⟨256 + x.val, by have := x.isLt; omega⟩) a4 x4 (hx ⟨256 + x.val, by have := x.isLt; omega⟩) hw hg 2048 0 (by decide) inb_S2048x4096_S2048x512_0_2048 (by decide) 4 (by decide) j _ (k4_at ..))).trans (v70_at a0 a1 a2 a4 t 1 4 j _ rfl).symm))
  have h7 : ∀ x : S1x1x128.Idx, ((k0_pay46 (k0_pay2 x0 x1) (chunk 2048 inb_S2048x4096_S2048x512_0_2048 x2) x4) : Vec Ideal S1x1x128 .f32) x = (fun y : S1x2x1024.Idx => val_main_v70 (F := Ideal) a0 a1 a2 a4 (ix3 t (y 1) (y 2))) ((Rect.unit ![0, 0, 512] ![1, 1, 128] inb_S1x2x1024_S1x1x128_0_0_512 : Rect S1x2x1024).emb x) := oneRow 0 512 inb_S1x2x1024_S1x1x128_0_0_512 (by decide) (by decide) _ (fun y : S1x2x1024.Idx => val_main_v70 (F := Ideal) a0 a1 a2 a4 (ix3 t (y 1) (y 2))) (fun j => (m4_0_at ..).trans ((avg_congr _ _ (fun x => krow (k0_pay2 (F := Ideal) x0 x1) x2 a0 a1 a2 ⟨0 + x.val, by have := x.isLt; omega⟩ (row t ⟨0 + x.val, by have := x.isLt; omega⟩) a4 x4 (hx ⟨0 + x.val, by have := x.isLt; omega⟩) hw hg 2048 0 (by decide) inb_S2048x4096_S2048x512_0_2048 (by decide) 4 (by decide) j _ (k4_at ..))).trans (v70_at a0 a1 a2 a4 t 0 4 j _ rfl).symm))
  have h8 : ∀ x : S1x1x128.Idx, ((k0_pay42 (k0_pay41 (k0_pay23 (k0_pay2 x0 x1) (chunk 1536 inb_S2048x4096_S2048x512_0_1536 x2)) x4) (FloatOps.ofBits FTy.f32 1132462080#32)) : Vec Ideal S1x1x128 .f32) x = (fun y : S1x2x1024.Idx => val_main_v70 (F := Ideal) a0 a1 a2 a4 (ix3 t (y 1) (y 2))) ((Rect.unit ![0, 1, 384] ![1, 1, 128] inb_S1x2x1024_S1x1x128_0_1_384 : Rect S1x2x1024).emb x) := oneRow 1 384 inb_S1x2x1024_S1x1x128_0_1_384 (by decide) (by decide) _ (fun y : S1x2x1024.Idx => val_main_v70 (F := Ideal) a0 a1 a2 a4 (ix3 t (y 1) (y 2))) (fun j => (m3_1_at ..).trans ((avg_congr _ _ (fun x => krow (k0_pay2 (F := Ideal) x0 x1) x2 a0 a1 a2 ⟨256 + x.val, by have := x.isLt; omega⟩ (row t ⟨256 + x.val, by have := x.isLt; omega⟩) a4 x4 (hx ⟨256 + x.val, by have := x.isLt; omega⟩) hw hg 1536 384 (by decide) inb_S2048x4096_S2048x512_0_1536 (by decide) 3 (by decide) j _ (k3_at ..))).trans (v70_at a0 a1 a2 a4 t 1 3 j _ rfl).symm))
  have h9 : ∀ x : S1x1x128.Idx, ((k0_pay40 (k0_pay23 (k0_pay2 x0 x1) (chunk 1536 inb_S2048x4096_S2048x512_0_1536 x2)) x4) : Vec Ideal S1x1x128 .f32) x = (fun y : S1x2x1024.Idx => val_main_v70 (F := Ideal) a0 a1 a2 a4 (ix3 t (y 1) (y 2))) ((Rect.unit ![0, 0, 384] ![1, 1, 128] inb_S1x2x1024_S1x1x128_0_0_384 : Rect S1x2x1024).emb x) := oneRow 0 384 inb_S1x2x1024_S1x1x128_0_0_384 (by decide) (by decide) _ (fun y : S1x2x1024.Idx => val_main_v70 (F := Ideal) a0 a1 a2 a4 (ix3 t (y 1) (y 2))) (fun j => (m3_0_at ..).trans ((avg_congr _ _ (fun x => krow (k0_pay2 (F := Ideal) x0 x1) x2 a0 a1 a2 ⟨0 + x.val, by have := x.isLt; omega⟩ (row t ⟨0 + x.val, by have := x.isLt; omega⟩) a4 x4 (hx ⟨0 + x.val, by have := x.isLt; omega⟩) hw hg 1536 384 (by decide) inb_S2048x4096_S2048x512_0_1536 (by decide) 3 (by decide) j _ (k3_at ..))).trans (v70_at a0 a1 a2 a4 t 0 3 j _ rfl).symm))
  have h10 : ∀ x : S1x1x128.Idx, ((k0_pay37 (k0_pay36 (k0_pay23 (k0_pay2 x0 x1) (chunk 1536 inb_S2048x4096_S2048x512_0_1536 x2)) x4)) : Vec Ideal S1x1x128 .f32) x = (fun y : S1x2x1024.Idx => val_main_v70 (F := Ideal) a0 a1 a2 a4 (ix3 t (y 1) (y 2))) ((Rect.unit ![0, 1, 256] ![1, 1, 128] inb_S1x2x1024_S1x1x128_0_1_256 : Rect S1x2x1024).emb x) := oneRow 1 256 inb_S1x2x1024_S1x1x128_0_1_256 (by decide) (by decide) _ (fun y : S1x2x1024.Idx => val_main_v70 (F := Ideal) a0 a1 a2 a4 (ix3 t (y 1) (y 2))) (fun j => (m2_1_at ..).trans ((avg_congr _ _ (fun x => krow (k0_pay2 (F := Ideal) x0 x1) x2 a0 a1 a2 ⟨256 + x.val, by have := x.isLt; omega⟩ (row t ⟨256 + x.val, by have := x.isLt; omega⟩) a4 x4 (hx ⟨256 + x.val, by have := x.isLt; omega⟩) hw hg 1536 256 (by decide) inb_S2048x4096_S2048x512_0_1536 (by decide) 2 (by decide) j _ (k2_at ..))).trans (v70_at a0 a1 a2 a4 t 1 2 j _ rfl).symm))
  have h11 : ∀ x : S1x1x128.Idx, ((k0_pay35 (k0_pay23 (k0_pay2 x0 x1) (chunk 1536 inb_S2048x4096_S2048x512_0_1536 x2)) x4) : Vec Ideal S1x1x128 .f32) x = (fun y : S1x2x1024.Idx => val_main_v70 (F := Ideal) a0 a1 a2 a4 (ix3 t (y 1) (y 2))) ((Rect.unit ![0, 0, 256] ![1, 1, 128] inb_S1x2x1024_S1x1x128_0_0_256 : Rect S1x2x1024).emb x) := oneRow 0 256 inb_S1x2x1024_S1x1x128_0_0_256 (by decide) (by decide) _ (fun y : S1x2x1024.Idx => val_main_v70 (F := Ideal) a0 a1 a2 a4 (ix3 t (y 1) (y 2))) (fun j => (m2_0_at ..).trans ((avg_congr _ _ (fun x => krow (k0_pay2 (F := Ideal) x0 x1) x2 a0 a1 a2 ⟨0 + x.val, by have := x.isLt; omega⟩ (row t ⟨0 + x.val, by have := x.isLt; omega⟩) a4 x4 (hx ⟨0 + x.val, by have := x.isLt; omega⟩) hw hg 1536 256 (by decide) inb_S2048x4096_S2048x512_0_1536 (by decide) 2 (by decide) j _ (k2_at ..))).trans (v70_at a0 a1 a2 a4 t 0 2 j _ rfl).symm))
  have h12 : ∀ x : S1x1x128.Idx, ((k0_pay32 (k0_pay29 (k0_pay23 (k0_pay2 x0 x1) (chunk 1536 inb_S2048x4096_S2048x512_0_1536 x2)) x4)) : Vec Ideal S1x1x128 .f32) x = (fun y : S1x2x1024.Idx => val_main_v70 (F := Ideal) a0 a1 a2 a4 (ix3 t (y 1) (y 2))) ((Rect.unit ![0, 1, 128] ![1, 1, 128] inb_S1x2x1024_S1x1x128_0_1_128 : Rect S1x2x1024).emb x) := oneRow 1 128 inb_S1x2x1024_S1x1x128_0_1_128 (by decide) (by decide) _ (fun y : S1x2x1024.Idx => val_main_v70 (F := Ideal) a0 a1 a2 a4 (ix3 t (y 1) (y 2))) (fun j => (m1_1_at ..).trans ((avg_congr _ _ (fun x => krow (k0_pay2 (F := Ideal) x0 x1) x2 a0 a1 a2 ⟨256 + x.val, by have := x.isLt; omega⟩ (row t ⟨256 + x.val, by have := x.isLt; omega⟩) a4 x4 (hx ⟨256 + x.val, by have := x.isLt; omega⟩) hw hg 1536 128 (by decide) inb_S2048x4096_S2048x512_0_1536 (by decide) 1 (by decide) j _ (k1_at ..))).trans (v70_at a0 a1 a2 a4 t 1 1 j _ rfl).symm))
  have h13 : ∀ x : S1x1x128.Idx, ((k0_pay31 (k0_pay23 (k0_pay2 x0 x1) (chunk 1536 inb_S2048x4096_S2048x512_0_1536 x2)) x4) : Vec Ideal S1x1x128 .f32) x = (fun y : S1x2x1024.Idx => val_main_v70 (F := Ideal) a0 a1 a2 a4 (ix3 t (y 1) (y 2))) ((Rect.unit ![0, 0, 128] ![1, 1, 128] inb_S1x2x1024_S1x1x128_0_0_128 : Rect S1x2x1024).emb x) := oneRow 0 128 inb_S1x2x1024_S1x1x128_0_0_128 (by decide) (by decide) _ (fun y : S1x2x1024.Idx => val_main_v70 (F := Ideal) a0 a1 a2 a4 (ix3 t (y 1) (y 2))) (fun j => (m1_0_at ..).trans ((avg_congr _ _ (fun x => krow (k0_pay2 (F := Ideal) x0 x1) x2 a0 a1 a2 ⟨0 + x.val, by have := x.isLt; omega⟩ (row t ⟨0 + x.val, by have := x.isLt; omega⟩) a4 x4 (hx ⟨0 + x.val, by have := x.isLt; omega⟩) hw hg 1536 128 (by decide) inb_S2048x4096_S2048x512_0_1536 (by decide) 1 (by decide) j _ (k1_at ..))).trans (v70_at a0 a1 a2 a4 t 0 1 j _ rfl).symm))
  have h14 : ∀ x : S1x1x128.Idx, ((k0_pay28 (k0_pay24 (k0_pay2 x0 x1) (chunk 1536 inb_S2048x4096_S2048x512_0_1536 x2) x4)) : Vec Ideal S1x1x128 .f32) x = (fun y : S1x2x1024.Idx => val_main_v70 (F := Ideal) a0 a1 a2 a4 (ix3 t (y 1) (y 2))) ((Rect.unit ![0, 1, 0] ![1, 1, 128] inb_S1x2x1024_S1x1x128_0_1_0 : Rect S1x2x1024).emb x) := oneRow 1 0 inb_S1x2x1024_S1x1x128_0_1_0 (by decide) (by decide) _ (fun y : S1x2x1024.Idx => val_main_v70 (F := Ideal) a0 a1 a2 a4 (ix3 t (y 1) (y 2))) (fun j => (m0_1_at ..).trans ((avg_congr _ _ (fun x => krow (k0_pay2 (F := Ideal) x0 x1) x2 a0 a1 a2 ⟨256 + x.val, by have := x.isLt; omega⟩ (row t ⟨256 + x.val, by have := x.isLt; omega⟩) a4 x4 (hx ⟨256 + x.val, by have := x.isLt; omega⟩) hw hg 1536 0 (by decide) inb_S2048x4096_S2048x512_0_1536 (by decide) 0 (by decide) j _ (k0_at ..))).trans (v70_at a0 a1 a2 a4 t 1 0 j _ rfl).symm))
  have h15 : ∀ x : S1x1x128.Idx, ((k0_pay27 (k0_pay26 (k0_pay2 x0 x1) (chunk 1536 inb_S2048x4096_S2048x512_0_1536 x2) x4)) : Vec Ideal S1x1x128 .f32) x = (fun y : S1x2x1024.Idx => val_main_v70 (F := Ideal) a0 a1 a2 a4 (ix3 t (y 1) (y 2))) ((Rect.unit ![0, 0, 0] ![1, 1, 128] inb_S1x2x1024_S1x1x128_0_0_0 : Rect S1x2x1024).emb x) := oneRow 0 0 inb_S1x2x1024_S1x1x128_0_0_0 (by decide) (by decide) _ (fun y : S1x2x1024.Idx => val_main_v70 (F := Ideal) a0 a1 a2 a4 (ix3 t (y 1) (y 2))) (fun j => (m0_0_at ..).trans ((avg_congr _ _ (fun x => krow (k0_pay2 (F := Ideal) x0 x1) x2 a0 a1 a2 ⟨0 + x.val, by have := x.isLt; omega⟩ (row t ⟨0 + x.val, by have := x.isLt; omega⟩) a4 x4 (hx ⟨0 + x.val, by have := x.isLt; omega⟩) hw hg 1536 0 (by decide) inb_S2048x4096_S2048x512_0_1536 (by decide) 0 (by decide) j _ (k0_at ..))).trans (v70_at a0 a1 a2 a4 t 0 0 j _ rfl).symm))
  exact List.forall_mem_cons.2 ⟨h0, List.forall_mem_cons.2 ⟨h1, List.forall_mem_cons.2 ⟨h2, List.forall_mem_cons.2 ⟨h3, List.forall_mem_cons.2 ⟨h4, List.forall_mem_cons.2 ⟨h5, List.forall_mem_cons.2 ⟨h6, List.forall_mem_cons.2 ⟨h7, List.forall_mem_cons.2 ⟨h8, List.forall_mem_cons.2 ⟨h9, List.forall_mem_cons.2 ⟨h10, List.forall_mem_cons.2 ⟨h11, List.forall_mem_cons.2 ⟨h12, List.forall_mem_cons.2 ⟨h13, List.forall_mem_cons.2 ⟨h14, List.forall_mem_cons.2 ⟨h15, fun _ h => absurd h List.not_mem_nil⟩⟩⟩⟩⟩⟩⟩⟩⟩⟩⟩⟩⟩⟩⟩⟩

theorem blk11 (hx : ∀ r k, k0_pay2 (F := Ideal) x0 x1 (ix2 r k) = val_main_v13 (F := Ideal) a0 a1 (ix2 (row t r) k))
    (hw : ∀ k j, x2 (ix2 k j) = a2 (ix2 k j)) :
    ∀ p ∈ ([⟨⟨(⟨![7, 0], ![512, 128], ![8, 1], inb_S4096x128_S512x128_7_0_s_8_1⟩ : LoadRect S4096x128), spos_8_1⟩, k0_pay80 (k0_pay73 (k0_pay2 x0 x1) (chunk 3072 inb_S2048x4096_S2048x512_0_3072 x2))⟩,
      ⟨⟨(⟨![6, 0], ![512, 128], ![8, 1], inb_S4096x128_S512x128_6_0_s_8_1⟩ : LoadRect S4096x128), spos_8_1⟩, k0_pay78 (k0_pay73 (k0_pay2 x0 x1) (chunk 3072 inb_S2048x4096_S2048x512_0_3072 x2))⟩,
      ⟨⟨(⟨![5, 0], ![512, 128], ![8, 1], inb_S4096x128_S512x128_5_0_s_8_1⟩ : LoadRect S4096x128), spos_8_1⟩, k0_pay76 (k0_pay73 (k0_pay2 x0 x1) (chunk 3072 inb_S2048x4096_S2048x512_0_3072 x2))⟩,
      ⟨⟨(⟨![4, 0], ![512, 128], ![8, 1], inb_S4096x128_S512x128_4_0_s_8_1⟩ : LoadRect S4096x128), spos_8_1⟩, k0_pay74 (k0_pay2 x0 x1) (chunk 3072 inb_S2048x4096_S2048x512_0_3072 x2)⟩,
      ⟨⟨(⟨![3, 0], ![512, 128], ![8, 1], inb_S4096x128_S512x128_3_0_s_8_1⟩ : LoadRect S4096x128), spos_8_1⟩, k0_pay71 (k0_pay2 x0 x1) (chunk 2560 inb_S2048x4096_S2048x512_0_2560 x2)⟩,
      ⟨⟨(⟨![2, 0], ![512, 128], ![8, 1], inb_S4096x128_S512x128_2_0_s_8_1⟩ : LoadRect S4096x128), spos_8_1⟩, k0_pay69 (k0_pay2 x0 x1) (chunk 2560 inb_S2048x4096_S2048x512_0_2560 x2)⟩,
      ⟨⟨(⟨![1, 0], ![512, 128], ![8, 1], inb_S4096x128_S512x128_1_0_s_8_1⟩ : LoadRect S4096x128), spos_8_1⟩, k0_pay67 (k0_pay2 x0 x1) (chunk 2560 inb_S2048x4096_S2048x512_0_2560 x2)⟩,
      ⟨⟨(⟨![0, 0], ![512, 128], ![8, 1], inb_S4096x128_S512x128_0_0_s_8_1⟩ : LoadRect S4096x128), spos_8_1⟩, k0_pay65 (k0_pay2 x0 x1) (chunk 2560 inb_S2048x4096_S2048x512_0_2560 x2)⟩] : List (View.Piece (Elt Ideal) S4096x128 .f32)), ∀ x, p.2 x = (fun y : S4096x128.Idx => val_main_v71 (F := Ideal) a0 a1 a2 (ix2 ⟨t.val * 4096 + (y 0).val, by have h0 : (y 0).val < 4096 := (y 0).isLt; have := t.isLt; omega⟩ (y 1))) (p.1.emb x) := by
  have h0 : ∀ x : S512x128.Idx, ((k0_pay80 (k0_pay73 (k0_pay2 x0 x1) (chunk 3072 inb_S2048x4096_S2048x512_0_3072 x2))) : Vec Ideal S512x128 .f32) x = (fun y : S4096x128.Idx => val_main_v71 (F := Ideal) a0 a1 a2 (ix2 ⟨t.val * 4096 + (y 0).val, by have h0 : (y 0).val < 4096 := (y 0).isLt; have := t.isLt; omega⟩ (y 1))) ((⟨(⟨![7, 0], ![512, 128], ![8, 1], inb_S4096x128_S512x128_7_0_s_8_1⟩ : LoadRect S4096x128), spos_8_1⟩ : Rect S4096x128).emb x) := everyEighth 7 inb_S4096x128_S512x128_7_0_s_8_1 spos_8_1 (by decide) _ (fun y : S4096x128.Idx => val_main_v71 (F := Ideal) a0 a1 a2 (ix2 ⟨t.val * 4096 + (y 0).val, by have h0 : (y 0).val < 4096 := (y 0).isLt; have := t.isLt; omega⟩ (y 1))) (fun r j => (v7_at ..).trans ((z_at (k0_pay2 (F := Ideal) x0 x1) x2 a0 a1 a2 r (row t r) (hx r) hw 3072 384 (by decide) inb_S2048x4096_S2048x512_0_3072 (by decide) 3456 (by decide) j).trans (v71_at a0 a1 a2 (row t r) 7 j _ (by show t.val * 4096 + (7 + 8 * r.val) = 8 * (t.val * 512 + r.val) + 7; omega) ⟨3456 + j.val, by have := j.isLt; omega⟩ rfl).symm))
  have h1 : ∀ x : S512x128.Idx, ((k0_pay78 (k0_pay73 (k0_pay2 x0 x1) (chunk 3072 inb_S2048x4096_S2048x512_0_3072 x2))) : Vec Ideal S512x128 .f32) x = (fun y : S4096x128.Idx => val_main_v71 (F := Ideal) a0 a1 a2 (ix2 ⟨t.val * 4096 + (y 0).val, by have h0 : (y 0).val < 4096 := (y 0).isLt; have := t.isLt; omega⟩ (y 1))) ((⟨(⟨![6, 0], ![512, 128], ![8, 1], inb_S4096x128_S512x128_6_0_s_8_1⟩ : LoadRect S4096x128), spos_8_1⟩ : Rect S4096x128).emb x) := everyEighth 6 inb_S4096x128_S512x128_6_0_s_8_1 spos_8_1 (by decide) _ (fun y : S4096x128.Idx => val_main_v71 (F := Ideal) a0 a1 a2 (ix2 ⟨t.val * 4096 + (y 0).val, by have h0 : (y 0).val < 4096 := (y 0).isLt; have := t.isLt; omega⟩ (y 1))) (fun r j => (v6_at ..).trans ((z_at (k0_pay2 (F := Ideal) x0 x1) x2 a0 a1 a2 r (row t r) (hx r) hw 3072 256 (by decide) inb_S2048x4096_S2048x512_0_3072 (by decide) 3328 (by decide) j).trans (v71_at a0 a1 a2 (row t r) 6 j _ (by show t.val * 4096 + (6 + 8 * r.val) = 8 * (t.val * 512 + r.val) + 6; omega) ⟨3328 + j.val, by have := j.isLt; omega⟩ rfl).symm))
  have h2 : ∀ x : S512x128.Idx, ((k0_pay76 (k0_pay73 (k0_pay2 x0 x1) (chunk 3072 inb_S2048x4096_S2048x512_0_3072 x2))) : Vec Ideal S512x128 .f32) x = (fun y : S4096x128.Idx => val_main_v71 (F := Ideal) a0 a1 a2 (ix2 ⟨t.val * 4096 + (y 0).val, by have h0 : (y 0).val < 4096 := (y 0).isLt; have := t.isLt; omega⟩ (y 1))) ((⟨(⟨![5, 0], ![512, 128], ![8, 1], inb_S4096x128_S512x128_5_0_s_8_1⟩ : LoadRect S4096x128), spos_8_1⟩ : Rect S4096x128).emb x) := everyEighth 5 inb_S4096x128_S512x128_5_0_s_8_1 spos_8_1 (by decide) _ (fun y : S4096x128.Idx => val_main_v71 (F := Ideal) a0 a1 a2 (ix2 ⟨t.val * 4096 + (y 0).val, by have h0 : (y 0).val < 4096 := (y 0).isLt; have := t.isLt; omega⟩ (y 1))) (fun r j => (v5_at ..).trans ((z_at (k0_pay2 (F := Ideal) x0 x1) x2 a0 a1 a2 r (row t r) (hx r) hw 3072 128 (by decide) inb_S2048x4096_S2048x512_0_3072 (by decide) 3200 (by decide) j).trans (v71_at a0 a1 a2 (row t r) 5 j _ (by show t.val * 4096 + (5 + 8 * r.val) = 8 * (t.val * 512 + r.val) + 5; omega) ⟨3200 + j.val, by have := j.isLt; omega⟩ rfl).symm))
  have h3 : ∀ x : S512x128.Idx, ((k0_pay74 (k0_pay2 x0 x1) (chunk 3072 inb_S2048x4096_S2048x512_0_3072 x2)) : Vec Ideal S512x128 .f32) x = (fun y : S4096x128.Idx => val_main_v71 (F := Ideal) a0 a1 a2 (ix2 ⟨t.val * 4096 + (y 0).val, by have h0 : (y 0).val < 4096 := (y 0).isLt; have := t.isLt; omega⟩ (y 1))) ((⟨(⟨![4, 0], ![512, 128], ![8, 1], inb_S4096x128_S512x128_4_0_s_8_1⟩ : LoadRect S4096x128), spos_8_1⟩ : Rect S4096x128).emb x) := everyEighth 4 inb_S4096x128_S512x128_4_0_s_8_1 spos_8_1 (by decide) _ (fun y : S4096x128.Idx => val_main_v71 (F := Ideal) a0 a1 a2 (ix2 ⟨t.val * 4096 + (y 0).val, by have h0 : (y 0).val < 4096 := (y 0).isLt; have := t.isLt; omega⟩ (y 1))) (fun r j => (v4_at ..).trans ((z_at (k0_pay2 (F := Ideal) x0 x1) x2 a0 a1 a2 r (row t r) (hx r) hw 3072 0 (by decide) inb_S2048x4096_S2048x512_0_3072 (by decide) 3072 (by decide) j).trans (v71_at a0 a1 a2 (row t r) 4 j _ (by show t.val * 4096 + (4 + 8 * r.val) = 8 * (t.val * 512 + r.val) + 4; omega) ⟨3072 + j.val, by have := j.isLt; omega⟩ rfl).symm))
  have h4 : ∀ x : S512x128.Idx, ((k0_pay71 (k0_pay2 x0 x1) (chunk 2560 inb_S2048x4096_S2048x512_0_2560 x2)) : Vec Ideal S512x128 .f32) x = (fun y : S4096x128.Idx => val_main_v71 (F := Ideal) a0 a1 a2 (ix2 ⟨t.val * 4096 + (y 0).val, by have h0 : (y 0).val < 4096 := (y 0).isLt; have := t.isLt; omega⟩ (y 1))) ((⟨(⟨![3, 0], ![512, 128], ![8, 1], inb_S4096x128_S512x128_3_0_s_8_1⟩ : LoadRect S4096x128), spos_8_1⟩ : Rect S4096x128).emb x) := everyEighth 3 inb_S4096x128_S512x128_3_0_s_8_1 spos_8_1 (by decide) _ (fun y : S4096x128.Idx => val_main_v71 (F := Ideal) a0 a1 a2 (ix2 ⟨t.val * 4096 + (y 0).val, by have h0 : (y 0).val < 4096 := (y 0).isLt; have := t.isLt; omega⟩ (y 1))) (fun r j => (v3_at ..).trans ((z_at (k0_pay2 (F := Ideal) x0 x1) x2 a0 a1 a2 r (row t r) (hx r) hw 2560 384 (by decide) inb_S2048x4096_S2048x512_0_2560 (by decide) 2944 (by decide) j).trans (v71_at a0 a1 a2 (row t r) 3 j _ (by show t.val * 4096 + (3 + 8 * r.val) = 8 * (t.val * 512 + r.val) + 3; omega) ⟨2944 + j.val, by have := j.isLt; omega⟩ rfl).symm))
  have h5 : ∀ x : S512x128.Idx, ((k0_pay69 (k0_pay2 x0 x1) (chunk 2560 inb_S2048x4096_S2048x512_0_2560 x2)) : Vec Ideal S512x128 .f32) x = (fun y : S4096x128.Idx => val_main_v71 (F := Ideal) a0 a1 a2 (ix2 ⟨t.val * 4096 + (y 0).val, by have h0 : (y 0).val < 4096 := (y 0).isLt; have := t.isLt; omega⟩ (y 1))) ((⟨(⟨![2, 0], ![512, 128], ![8, 1], inb_S4096x128_S512x128_2_0_s_8_1⟩ : LoadRect S4096x128), spos_8_1⟩ : Rect S4096x128).emb x) := everyEighth 2 inb_S4096x128_S512x128_2_0_s_8_1 spos_8_1 (by decide) _ (fun y : S4096x128.Idx => val_main_v71 (F := Ideal) a0 a1 a2 (ix2 ⟨t.val * 4096 + (y 0).val, by have h0 : (y 0).val < 4096 := (y 0).isLt; have := t.isLt; omega⟩ (y 1))) (fun r j => (v2_at ..).trans ((z_at (k0_pay2 (F := Ideal) x0 x1) x2 a0 a1 a2 r (row t r) (hx r) hw 2560 256 (by decide) inb_S2048x4096_S2048x512_0_2560 (by decide) 2816 (by decide) j).trans (v71_at a0 a1 a2 (row t r) 2 j _ (by show t.val * 4096 + (2 + 8 * r.val) = 8 * (t.val * 512 + r.val) + 2; omega) ⟨2816 + j.val, by have := j.isLt; omega⟩ rfl).symm))
  have h6 : ∀ x : S512x128.Idx, ((k0_pay67 (k0_pay2 x0 x1) (chunk 2560 inb_S2048x4096_S2048x512_0_2560 x2)) : Vec Ideal S512x128 .f32) x = (fun y : S4096x128.Idx => val_main_v71 (F := Ideal) a0 a1 a2 (ix2 ⟨t.val * 4096 + (y 0).val, by have h0 : (y 0).val < 4096 := (y 0).isLt; have := t.isLt; omega⟩ (y 1))) ((⟨(⟨![1, 0], ![512, 128], ![8, 1], inb_S4096x128_S512x128_1_0_s_8_1⟩ : LoadRect S4096x128), spos_8_1⟩ : Rect S4096x128).emb x) := everyEighth 1 inb_S4096x128_S512x128_1_0_s_8_1 spos_8_1 (by decide) _ (fun y : S4096x128.Idx => val_main_v71 (F := Ideal) a0 a1 a2 (ix2 ⟨t.val * 4096 + (y 0).val, by have h0 : (y 0).val < 4096 := (y 0).isLt; have := t.isLt; omega⟩ (y 1))) (fun r j => (v1_at ..).trans ((z_at (k0_pay2 (F := Ideal) x0 x1) x2 a0 a1 a2 r (row t r) (hx r) hw 2560 128 (by decide) inb_S2048x4096_S2048x512_0_2560 (by decide) 2688 (by decide) j).trans (v71_at a0 a1 a2 (row t r) 1 j _ (by show t.val * 4096 + (1 + 8 * r.val) = 8 * (t.val * 512 + r.val) + 1; omega) ⟨2688 + j.val, by have := j.isLt; omega⟩ rfl).symm))
  have h7 : ∀ x : S512x128.Idx, ((k0_pay65 (k0_pay2 x0 x1) (chunk 2560 inb_S2048x4096_S2048x512_0_2560 x2)) : Vec Ideal S512x128 .f32) x = (fun y : S4096x128.Idx => val_main_v71 (F := Ideal) a0 a1 a2 (ix2 ⟨t.val * 4096 + (y 0).val, by have h0 : (y 0).val < 4096 := (y 0).isLt; have := t.isLt; omega⟩ (y 1))) ((⟨(⟨![0, 0], ![512, 128], ![8, 1], inb_S4096x128_S512x128_0_0_s_8_1⟩ : LoadRect S4096x128), spos_8_1⟩ : Rect S4096x128).emb x) := everyEighth 0 inb_S4096x128_S512x128_0_0_s_8_1 spos_8_1 (by decide) _ (fun y : S4096x128.Idx => val_main_v71 (F := Ideal) a0 a1 a2 (ix2 ⟨t.val * 4096 + (y 0).val, by have h0 : (y 0).val < 4096 := (y 0).isLt; have := t.isLt; omega⟩ (y 1))) (fun r j => (v0_at ..).trans ((z_at (k0_pay2 (F := Ideal) x0 x1) x2 a0 a1 a2 r (row t r) (hx r) hw 2560 0 (by decide) inb_S2048x4096_S2048x512_0_2560 (by decide) 2560 (by decide) j).trans (v71_at a0 a1 a2 (row t r) 0 j _ (by show t.val * 4096 + (0 + 8 * r.val) = 8 * (t.val * 512 + r.val) + 0; omega) ⟨2560 + j.val, by have := j.isLt; omega⟩ rfl).symm))
  exact List.forall_mem_cons.2 ⟨h0, List.forall_mem_cons.2 ⟨h1, List.forall_mem_cons.2 ⟨h2, List.forall_mem_cons.2 ⟨h3, List.forall_mem_cons.2 ⟨h4, List.forall_mem_cons.2 ⟨h5, List.forall_mem_cons.2 ⟨h6, List.forall_mem_cons.2 ⟨h7, fun _ h => absurd h List.not_mem_nil⟩⟩⟩⟩⟩⟩⟩⟩

theorem blk12 (hx : ∀ r k, k0_pay2 (F := Ideal) x0 x1 (ix2 r k) = val_main_v13 (F := Ideal) a0 a1 (ix2 (row t r) k))
    (hw : ∀ k j, x2 (ix2 k j) = a2 (ix2 k j)) :
    ∀ p ∈ ([⟨Rect.unit ![0, 896] ![512, 128] inb_S512x1024_S512x128_0_896, k0_pay81 (k0_pay73 (k0_pay2 x0 x1) (chunk 3072 inb_S2048x4096_S2048x512_0_3072 x2))⟩,
      ⟨Rect.unit ![0, 768] ![512, 128] inb_S512x1024_S512x128_0_768, k0_pay79 (k0_pay73 (k0_pay2 x0 x1) (chunk 3072 inb_S2048x4096_S2048x512_0_3072 x2))⟩,
      ⟨Rect.unit ![0, 640] ![512, 128] inb_S512x1024_S512x128_0_640, k0_pay77 (k0_pay73 (k0_pay2 x0 x1) (chunk 3072 inb_S2048x4096_S2048x512_0_3072 x2))⟩,
      ⟨Rect.unit ![0, 512] ![512, 128] inb_S512x1024_S512x128_0_512, k0_pay75 (k0_pay74 (k0_pay2 x0 x1) (chunk 3072 inb_S2048x4096_S2048x512_0_3072 x2))⟩,
      ⟨Rect.unit ![0, 384] ![512, 128] inb_S512x1024_S512x128_0_384, k0_pay72 (k0_pay2 x0 x1) (chunk 2560 inb_S2048x4096_S2048x512_0_2560 x2)⟩,
      ⟨Rect.unit ![0, 256] ![512, 128] inb_S512x1024_S512x128_0_256, k0_pay70 (k0_pay2 x0 x1) (chunk 2560 inb_S2048x4096_S2048x512_0_2560 x2)⟩,
      ⟨Rect.unit ![0, 128] ![512, 128] inb_S512x1024_S512x128_0_128, k0_pay68 (k0_pay2 x0 x1) (chunk 2560 inb_S2048x4096_S2048x512_0_2560 x2)⟩,
      ⟨Rect.unit ![0, 0] ![512, 128] inb_S512x1024_S512x128_0_0, k0_pay66 (k0_pay2 x0 x1) (chunk 2560 inb_S2048x4096_S2048x512_0_2560 x2)⟩] : List (View.Piece (Elt Ideal) S512x1024 .bf16)), ∀ x, p.2 x = (fun y : S512x1024.Idx => val_main_v72 (F := Ideal) a0 a1 a2 (ix2 (row t (y 0)) (y 1))) (p.1.emb x) := by
  have h0 : ∀ x : S512x128.Idx, ((k0_pay81 (k0_pay73 (k0_pay2 x0 x1) (chunk 3072 inb_S2048x4096_S2048x512_0_3072 x2))) : Vec Ideal S512x128 .bf16) x = (fun y : S512x1024.Idx => val_main_v72 (F := Ideal) a0 a1 a2 (ix2 (row t (y 0)) (y 1))) ((Rect.unit ![0, 896] ![512, 128] inb_S512x1024_S512x128_0_896 : Rect S512x1024).emb x) := flat1024 896 inb_S512x1024_S512x128_0_896 (by decide) _ (fun y : S512x1024.Idx => val_main_v72 (F := Ideal) a0 a1 a2 (ix2 (row t (y 0)) (y 1))) (fun r j => (vb7_at ..).trans ((v7_at ..).trans ((z_at (k0_pay2 (F := Ideal) x0 x1) x2 a0 a1 a2 r (row t r) (hx r) hw 3072 384 (by decide) inb_S2048x4096_S2048x512_0_3072 (by decide) 3456 (by decide) j).trans (v72_at a0 a1 a2 (row t r) _ ⟨3456 + j.val, by have := j.isLt; omega⟩ (by show 3456 + j.val = 2560 + (896 + j.val); omega)).symm)))
  have h1 : ∀ x : S512x128.Idx, ((k0_pay79 (k0_pay73 (k0_pay2 x0 x1) (chunk 3072 inb_S2048x4096_S2048x512_0_3072 x2))) : Vec Ideal S512x128 .bf16) x = (fun y : S512x1024.Idx => val_main_v72 (F := Ideal) a0 a1 a2 (ix2 (row t (y 0)) (y 1))) ((Rect.unit ![0, 768] ![512, 128] inb_S512x1024_S512x128_0_768 : Rect S512x1024).emb x) := flat1024 768 inb_S512x1024_S512x128_0_768 (by decide) _ (fun y : S512x1024.Idx => val_main_v72 (F := Ideal) a0 a1 a2 (ix2 (row t (y 0)) (y 1))) (fun r j => (vb6_at ..).trans ((v6_at ..).trans ((z_at (k0_pay2 (F := Ideal) x0 x1) x2 a0 a1 a2 r (row t r) (hx r) hw 3072 256 (by decide) inb_S2048x4096_S2048x512_0_3072 (by decide) 3328 (by decide) j).trans (v72_at a0 a1 a2 (row t r) _ ⟨3328 + j.val, by have := j.isLt; omega⟩ (by show 3328 + j.val = 2560 + (768 + j.val); omega)).symm)))
  have h2 : ∀ x : S512x128.Idx, ((k0_pay77 (k0_pay73 (k0_pay2 x0 x1) (chunk 3072 inb_S2048x4096_S2048x512_0_3072 x2))) : Vec Ideal S512x128 .bf16) x = (fun y : S512x1024.Idx => val_main_v72 (F := Ideal) a0 a1 a2 (ix2 (row t (y 0)) (y 1))) ((Rect.unit ![0, 640] ![512, 128] inb_S512x1024_S512x128_0_640 : Rect S512x1024).emb x) := flat1024 640 inb_S512x1024_S512x128_0_640 (by decide) _ (fun y : S512x1024.Idx => val_main_v72 (F := Ideal) a0 a1 a2 (ix2 (row t (y 0)) (y 1))) (fun r j => (vb5_at ..).trans ((v5_at ..).trans ((z_at (k0_pay2 (F := Ideal) x0 x1) x2 a0 a1 a2 r (row t r) (hx r) hw 3072 128 (by decide) inb_S2048x4096_S2048x512_0_3072 (by decide) 3200 (by decide) j).trans (v72_at a0 a1 a2 (row t r) _ ⟨3200 + j.val, by have := j.isLt; omega⟩ (by show 3200 + j.val = 2560 + (640 + j.val); omega)).symm)))
  have h3 : ∀ x : S512x128.Idx, ((k0_pay75 (k0_pay74 (k0_pay2 x0 x1) (chunk 3072 inb_S2048x4096_S2048x512_0_3072 x2))) : Vec Ideal S512x128 .bf16) x = (fun y : S512x1024.Idx => val_main_v72 (F := Ideal) a0 a1 a2 (ix2 (row t (y 0)) (y 1))) ((Rect.unit ![0, 512] ![512, 128] inb_S512x1024_S512x128_0_512 : Rect S512x1024).emb x) := flat1024 512 inb_S512x1024_S512x128_0_512 (by decide) _ (fun y : S512x1024.Idx => val_main_v72 (F := Ideal) a0 a1 a2 (ix2 (row t (y 0)) (y 1))) (fun r j => (vb4_at ..).trans ((v4_at ..).trans ((z_at (k0_pay2 (F := Ideal) x0 x1) x2 a0 a1 a2 r (row t r) (hx r) hw 3072 0 (by decide) inb_S2048x4096_S2048x512_0_3072 (by decide) 3072 (by decide) j).trans (v72_at a0 a1 a2 (row t r) _ ⟨3072 + j.val, by have := j.isLt; omega⟩ (by show 3072 + j.val = 2560 + (512 + j.val); omega)).symm)))
  have h4 : ∀ x : S512x128.Idx, ((k0_pay72 (k0_pay2 x0 x1) (chunk 2560 inb_S2048x4096_S2048x512_0_2560 x2)) : Vec Ideal S512x128 .bf16) x = (fun y : S512x1024.Idx => val_main_v72 (F := Ideal) a0 a1 a2 (ix2 (row t (y 0)) (y 1))) ((Rect.unit ![0, 384] ![512, 128] inb_S512x1024_S512x128_0_384 : Rect S512x1024).emb x) := flat1024 384 inb_S512x1024_S512x128_0_384 (by decide) _ (fun y : S512x1024.Idx => val_main_v72 (F := Ideal) a0 a1 a2 (ix2 (row t (y 0)) (y 1))) (fun r j => (vb3_at ..).trans ((v3_at ..).trans ((z_at (k0_pay2 (F := Ideal) x0 x1) x2 a0 a1 a2 r (row t r) (hx r) hw 2560 384 (by decide) inb_S2048x4096_S2048x512_0_2560 (by decide) 2944 (by decide) j).trans (v72_at a0 a1 a2 (row t r) _ ⟨2944 + j.val, by have := j.isLt; omega⟩ (by show 2944 + j.val = 2560 + (384 + j.val); omega)).symm)))
  have h5 : ∀ x : S512x128.Idx, ((k0_pay70 (k0_pay2 x0 x1) (chunk 2560 inb_S2048x4096_S2048x512_0_2560 x2)) : Vec Ideal S512x128 .bf16) x = (fun y : S512x1024.Idx => val_main_v72 (F := Ideal) a0 a1 a2 (ix2 (row t (y 0)) (y 1))) ((Rect.unit ![0, 256] ![512, 128] inb_S512x1024_S512x128_0_256 : Rect S512x1024).emb x) := flat1024 256 inb_S512x1024_S512x128_0_256 (by decide) _ (fun y : S512x1024.Idx => val_main_v72 (F := Ideal) a0 a1 a2 (ix2 (row t (y 0)) (y 1))) (fun r j => (vb2_at ..).trans ((v2_at ..).trans ((z_at (k0_pay2 (F := Ideal) x0 x1) x2 a0 a1 a2 r (row t r) (hx r) hw 2560 256 (by decide) inb_S2048x4096_S2048x512_0_2560 (by decide) 2816 (by decide) j).trans (v72_at a0 a1 a2 (row t r) _ ⟨2816 + j.val, by have := j.isLt; omega⟩ (by show 2816 + j.val = 2560 + (256 + j.val); omega)).symm)))
  have h6 : ∀ x : S512x128.Idx, ((k0_pay68 (k0_pay2 x0 x1) (chunk 2560 inb_S2048x4096_S2048x512_0_2560 x2)) : Vec Ideal S512x128 .bf16) x = (fun y : S512x1024.Idx => val_main_v72 (F := Ideal) a0 a1 a2 (ix2 (row t (y 0)) (y 1))) ((Rect.unit ![0, 128] ![512, 128] inb_S512x1024_S512x128_0_128 : Rect S512x1024).emb x) := flat1024 128 inb_S512x1024_S512x128_0_128 (by decide) _ (fun y : S512x1024.Idx => val_main_v72 (F := Ideal) a0 a1 a2 (ix2 (row t (y 0)) (y 1))) (fun r j => (vb1_at ..).trans ((v1_at ..).trans ((z_at (k0_pay2 (F := Ideal) x0 x1) x2 a0 a1 a2 r (row t r) (hx r) hw 2560 128 (by decide) inb_S2048x4096_S2048x512_0_2560 (by decide) 2688 (by decide) j).trans (v72_at a0 a1 a2 (row t r) _ ⟨2688 + j.val, by have := j.isLt; omega⟩ (by show 2688 + j.val = 2560 + (128 + j.val); omega)).symm)))
  have h7 : ∀ x : S512x128.Idx, ((k0_pay66 (k0_pay2 x0 x1) (chunk 2560 inb_S2048x4096_S2048x512_0_2560 x2)) : Vec Ideal S512x128 .bf16) x = (fun y : S512x1024.Idx => val_main_v72 (F := Ideal) a0 a1 a2 (ix2 (row t (y 0)) (y 1))) ((Rect.unit ![0, 0] ![512, 128] inb_S512x1024_S512x128_0_0 : Rect S512x1024).emb x) := flat1024 0 inb_S512x1024_S512x128_0_0 (by decide) _ (fun y : S512x1024.Idx => val_main_v72 (F := Ideal) a0 a1 a2 (ix2 (row t (y 0)) (y 1))) (fun r j => (vb0_at ..).trans ((v0_at ..).trans ((z_at (k0_pay2 (F := Ideal) x0 x1) x2 a0 a1 a2 r (row t r) (hx r) hw 2560 0 (by decide) inb_S2048x4096_S2048x512_0_2560 (by decide) 2560 (by decide) j).trans (v72_at a0 a1 a2 (row t r) _ ⟨2560 + j.val, by have := j.isLt; omega⟩ (by show 2560 + j.val = 2560 + (0 + j.val); omega)).symm)))
  exact List.forall_mem_cons.2 ⟨h0, List.forall_mem_cons.2 ⟨h1, List.forall_mem_cons.2 ⟨h2, List.forall_mem_cons.2 ⟨h3, List.forall_mem_cons.2 ⟨h4, List.forall_mem_cons.2 ⟨h5, List.forall_mem_cons.2 ⟨h6, List.forall_mem_cons.2 ⟨h7, fun _ h => absurd h List.not_mem_nil⟩⟩⟩⟩⟩⟩⟩⟩

theorem blk13 (hx : ∀ r k, k0_pay2 (F := Ideal) x0 x1 (ix2 r k) = val_main_v13 (F := Ideal) a0 a1 (ix2 (row t r) k))
    (hw : ∀ k j, x2 (ix2 k j) = a2 (ix2 k j)) (hg : ∀ j, x5 (ix2 0 j) = a5 (ix1 j)) :
    ∀ p ∈ ([⟨Rect.unit ![0, 384] ![512, 128] inb_S512x512_S512x128_0_384, k0_pay1 (k0_pay88 (k0_pay82 (k0_pay2 x0 x1) (chunk 3584 inb_S2048x4096_S2048x512_0_3584 x2))) (k0_pay89 (k0_pay82 (k0_pay2 x0 x1) (chunk 3584 inb_S2048x4096_S2048x512_0_3584 x2))) k0_pay90 x5⟩,
      ⟨Rect.unit ![0, 256] ![512, 128] inb_S512x512_S512x128_0_256, k0_pay87 (k0_pay82 (k0_pay2 x0 x1) (chunk 3584 inb_S2048x4096_S2048x512_0_3584 x2)) x5⟩,
      ⟨Rect.unit ![0, 128] ![512, 128] inb_S512x512_S512x128_0_128, k0_pay86 (k0_pay82 (k0_pay2 x0 x1) (chunk 3584 inb_S2048x4096_S2048x512_0_3584 x2)) x5⟩,
      ⟨Rect.unit ![0, 0] ![512, 128] inb_S512x512_S512x128_0_0, k0_pay85 (k0_pay83 (k0_pay2 x0 x1) (chunk 3584 inb_S2048x4096_S2048x512_0_3584 x2)) (k0_pay84 x5)⟩] : List (View.Piece (Elt Ideal) S512x512 .f32)), ∀ x, p.2 x = (fun y : S512x512.Idx => val_main_v73 (F := Ideal) a0 a1 a2 a5 (ix2 (row t (y 0)) (y 1))) (p.1.emb x) := by
  have h0 : ∀ x : S512x128.Idx, ((k0_pay1 (k0_pay88 (k0_pay82 (k0_pay2 x0 x1) (chunk 3584 inb_S2048x4096_S2048x512_0_3584 x2))) (k0_pay89 (k0_pay82 (k0_pay2 x0 x1) (chunk 3584 inb_S2048x4096_S2048x512_0_3584 x2))) k0_pay90 x5) : Vec Ideal S512x128 .f32) x = (fun y : S512x512.Idx => val_main_v73 (F := Ideal) a0 a1 a2 a5 (ix2 (row t (y 0)) (y 1))) ((Rect.unit ![0, 384] ![512, 128] inb_S512x512_S512x128_0_384 : Rect S512x512).emb x) := flat512 384 inb_S512x512_S512x128_0_384 (by decide) _ (fun y : S512x512.Idx => val_main_v73 (F := Ideal) a0 a1 a2 a5 (ix2 (row t (y 0)) (y 1))) (fun r j => (mqrow (k0_pay2 (F := Ideal) x0 x1) x2 a0 a1 a2 r (row t r) a5 x5 (hx r) hw hg 3584 384 (by decide) inb_S2048x4096_S2048x512_0_3584 (by decide) 3 (by decide) j _ (mq3_at ..)).trans (v73_at a0 a1 a2 a5 (row t r) 3 j _ rfl).symm)
  have h1 : ∀ x : S512x128.Idx, ((k0_pay87 (k0_pay82 (k0_pay2 x0 x1) (chunk 3584 inb_S2048x4096_S2048x512_0_3584 x2)) x5) : Vec Ideal S512x128 .f32) x = (fun y : S512x512.Idx => val_main_v73 (F := Ideal) a0 a1 a2 a5 (ix2 (row t (y 0)) (y 1))) ((Rect.unit ![0, 256] ![512, 128] inb_S512x512_S512x128_0_256 : Rect S512x512).emb x) := flat512 256 inb_S512x512_S512x128_0_256 (by decide) _ (fun y : S512x512.Idx => val_main_v73 (F := Ideal) a0 a1 a2 a5 (ix2 (row t (y 0)) (y 1))) (fun r j => (mqrow (k0_pay2 (F := Ideal) x0 x1) x2 a0 a1 a2 r (row t r) a5 x5 (hx r) hw hg 3584 256 (by decide) inb_S2048x4096_S2048x512_0_3584 (by decide) 2 (by decide) j _ (mq2_at ..)).trans (v73_at a0 a1 a2 a5 (row t r) 2 j _ rfl).symm)
  have h2 : ∀ x : S512x128.Idx, ((k0_pay86 (k0_pay82 (k0_pay2 x0 x1) (chunk 3584 inb_S2048x4096_S2048x512_0_3584 x2)) x5) : Vec Ideal S512x128 .f32) x = (fun y : S512x512.Idx => val_main_v73 (F := Ideal) a0 a1 a2 a5 (ix2 (row t (y 0)) (y 1))) ((Rect.unit ![0, 128] ![512, 128] inb_S512x512_S512x128_0_128 : Rect S512x512).emb x) := flat512 128 inb_S512x512_S512x128_0_128 (by decide) _ (fun y : S512x512.Idx => val_main_v73 (F := Ideal) a0 a1 a2 a5 (ix2 (row t (y 0)) (y 1))) (fun r j => (mqrow (k0_pay2 (F := Ideal) x0 x1) x2 a0 a1 a2 r (row t r) a5 x5 (hx r) hw hg 3584 128 (by decide) inb_S2048x4096_S2048x512_0_3584 (by decide) 1 (by decide) j _ (mq1_at ..)).trans (v73_at a0 a1 a2 a5 (row t r) 1 j _ rfl).symm)
  have h3 : ∀ x : S512x128.Idx, ((k0_pay85 (k0_pay83 (k0_pay2 x0 x1) (chunk 3584 inb_S2048x4096_S2048x512_0_3584 x2)) (k0_pay84 x5)) : Vec Ideal S512x128 .f32) x = (fun y : S512x512.Idx => val_main_v73 (F := Ideal) a0 a1 a2 a5 (ix2 (row t (y 0)) (y 1))) ((Rect.unit ![0, 0] ![512, 128] inb_S512x512_S512x128_0_0 : Rect S512x512).emb x) := flat512 0 inb_S512x512_S512x128_0_0 (by decide) _ (fun y : S512x512.Idx => val_main_v73 (F := Ideal) a0 a1 a2 a5 (ix2 (row t (y 0)) (y 1))) (fun r j => (mqrow (k0_pay2 (F := Ideal) x0 x1) x2 a0 a1 a2 r (row t r) a5 x5 (hx r) hw hg 3584 0 (by decide) inb_S2048x4096_S2048x512_0_3584 (by decide) 0 (by decide) j _ (mq0_at ..)).trans (v73_at a0 a1 a2 a5 (row t r) 0 j _ rfl).symm)
  exact List.forall_mem_cons.2 ⟨h0, List.forall_mem_cons.2 ⟨h1, List.forall_mem_cons.2 ⟨h2, List.forall_mem_cons.2 ⟨h3, fun _ h => absurd h List.not_mem_nil⟩⟩⟩⟩

end Cert.InProj

end
-- ==== Proof.InValue.lean ====
/- The input projection: the kernel's eight result arrays are the reference's, and the claims of this call. -/
module

public import proofs.«01_k».proof.Proof.InFrame
public import proofs.«01_k».proof.Proof.InBlocks
public import proofs.«01_k».proof.Proof.InFrameBits
public import proofs.«01_k».proof.Defs
public import Idealize.ShloMosaic.Lib.Claim
public import Idealize.ShloMosaic.Lib.Quiescent
public import Idealize.ShloMosaic.Lib.WholeRead
public import Idealize.ShloMosaic.Lib.Pointwise
public import Idealize.ShloMosaic.Lib.Pipeline.ValueKit

@[expose] public section

set_option maxRecDepth 16384

noncomputable section

namespace Cert.InProj

open Cert.Kernel3Ideal Cert.Kernel3Ideal.Gen Cert.Kernel3Ideal.Body Cert.Reference3Ideal.Read
open Idealize.ShloMosaic Idealize.ShloMosaic.TcCoe Idealize.ShloMosaic.Tactic Idealize.SL.Sem

open Idealize.ShloMosaic.Pipeline (Dat)

variable (m : (ℓ : Loc nD τ sig) → Buf (Elt Ideal) ℓ)

/-- Which block every window reads or writes at a grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![t.val, 0] ∧ win0_7.index t = ![t.val, 0]
    ∧ win0_8.index t = ![t.val, 0] ∧ win0_9.index t = ![t.val, 0] ∧ win0_10.index t = ![t.val, 0, 0] ∧ win0_11.index t = ![t.val, 0]
    ∧ win0_12.index t = ![t.val, 0] ∧ win0_13.index t = ![t.val, 0] :=
  (by decide +kernel : ∀ t : Fin grid0.N, _)

theorem xrow (c : Dev nD) (t : Fin 64) (r : Fin 512) (k : Fin 2048) :
    (iblk m c 0 t : Vec Ideal S512x2048 .f32) (ix2 r k) = val_main_v0 (F := Ideal) (m ((c : Thread nD τ).loc main_arg0)) (ix2 (row t r) k) := by
  blk_point [iblk, V, idx t]

theorem nrow (c : Dev nD) (t : Fin 64) (k : Fin 2048) : (iblk m c 1 t : Vec Ideal S1x2048 .f32) (ix2 0 k) = (m ((c : Thread nD τ).loc main_arg1)) (ix1 k) := by
  blk_point [iblk, V, idx t]

theorem wrow (c : Dev nD) (t : Fin 64) (k : Fin 2048) (j : Fin 4096) : (iblk m c 2 t : Vec Ideal S2048x4096 .bf16) (ix2 k j) = (m ((c : Thread nD τ).loc main_arg2)) (ix2 k j) := by
  blk_point [iblk, V, idx t]

theorem grow3 (c : Dev nD) (t : Fin 64) (j : Fin 128) : (iblk m c 3 t : Vec Ideal S1x128 .f32) (ix2 0 j) = (m ((c : Thread nD τ).loc main_arg3)) (ix1 j) := by
  blk_point [iblk, V, idx t]

theorem grow4 (c : Dev nD) (t : Fin 64) (j : Fin 128) : (iblk m c 4 t : Vec Ideal S1x128 .f32) (ix2 0 j) = (m ((c : Thread nD τ).loc main_arg4)) (ix1 j) := by
  blk_point [iblk, V, idx t]

theorem grow5 (c : Dev nD) (t : Fin 64) (j : Fin 128) : (iblk m c 5 t : Vec Ideal S1x128 .f32) (ix2 0 j) = (m ((c : Thread nD τ).loc main_arg5)) (ix1 j) := by
  blk_point [iblk, V, idx t]

theorem xnrow (c : Dev nD) (t : Fin 64) (r : Fin 512) (k : Fin 2048) :
    k0_pay2 (F := Ideal) (iblk m c 0 t) (iblk m c 1 t) (ix2 r k) = val_main_v13 (F := Ideal) (m ((c : Thread nD τ).loc main_arg0)) (m ((c : Thread nD τ).loc main_arg1)) (ix2 (row t r) k) :=
  xn_at _ _ _ _ r (row t r) (xrow m c t r) (nrow m c t) k

theorem out6_at (c : Dev nD) (t : Fin 64) (y : S512x512.Idx) : out6 m c t y = (fun y : S512x512.Idx => val_main_v15 (F := Ideal) (m ((c : Thread nD τ).loc main_arg0)) (m ((c : Thread nD τ).loc main_arg1)) (m ((c : Thread nD τ).loc main_arg2)) (ix2 (row t (y 0)) (y 1))) y := by
  unfold out6
  refine View.canon_apply_of_pieces (fun y : S512x512.Idx => val_main_v15 (F := Ideal) (m ((c : Thread nD τ).loc main_arg0)) (m ((c : Thread nD τ).loc main_arg1)) (m ((c : Thread nD τ).loc main_arg2)) (ix2 (row t (y 0)) (y 1))) _ ?_ y (cover6 c _ _ _ _ _ _ _ _ _ _ _ _ _ _ _ _ _ _ _ _ _ _ _ _ _ _ _ _ _ _ _ _ _ _ _ y)
  rw [pieces6]
  exact blk6 (iblk m c 0 t) (iblk m c 1 t) (iblk m c 2 t) (m ((c : Thread nD τ).loc main_arg0)) (m ((c : Thread nD τ).loc main_arg1)) (m ((c : Thread nD τ).loc main_arg2)) t (xnrow m c t) (wrow m c t)

theorem out7_at (c : Dev nD) (t : Fin 64) (y : S512x1024.Idx) : out7 m c t y = (fun y : S512x1024.Idx => val_main_v66 (F := Ideal) (m ((c : Thread nD τ).loc main_arg0)) (m ((c : Thread nD τ).loc main_arg1)) (m ((c : Thread nD τ).loc main_arg2)) (m ((c : Thread nD τ).loc main_arg3)) (ix2 (row t (y 0)) (y 1))) y := by
  unfold out7
  refine View.canon_apply_of_pieces (fun y : S512x1024.Idx => val_main_v66 (F := Ideal) (m ((c : Thread nD τ).loc main_arg0)) (m ((c : Thread nD τ).loc main_arg1)) (m ((c : Thread nD τ).loc main_arg2)) (m ((c : Thread nD τ).loc main_arg3)) (ix2 (row t (y 0)) (y 1))) _ ?_ y (cover7 c _ _ _ _ _ _ _ _ _ _ _ _ _ _ _ _ _ _ _ _ _ _ _ _ _ _ _ _ _ _ _ _ _ _ _ y)
  rw [pieces7]
  exact blk7 (iblk m c 0 t) (iblk m c 1 t) (iblk m c 2 t) (iblk m c 3 t) (m ((c : Thread nD τ).loc main_arg0)) (m ((c : Thread nD τ).loc main_arg1)) (m ((c : Thread nD τ).loc main_arg2)) (m ((c : Thread nD τ).loc main_arg3)) t (xnrow m c t) (wrow m c t) (grow3 m c t)

theorem out8_at (c : Dev nD) (t : Fin 64) (y : S4096x128.Idx) : out8 m c t y = (fun y : S4096x128.Idx => val_main_v67 (F := Ideal) (m ((c : Thread nD τ).loc main_arg0)) (m ((c : Thread nD τ).loc main_arg1)) (m ((c : Thread nD τ).loc main_arg2)) (m ((c : Thread nD τ).loc main_arg4)) (ix2 ⟨t.val * 4096 + (y 0).val, by have h0 : (y 0).val < 4096 := (y 0).isLt; have := t.isLt; omega⟩ (y 1))) y := by
  unfold out8
  refine View.canon_apply_of_pieces (fun y : S4096x128.Idx => val_main_v67 (F := Ideal) (m ((c : Thread nD τ).loc main_arg0)) (m ((c : Thread nD τ).loc main_arg1)) (m ((c : Thread nD τ).loc main_arg2)) (m ((c : Thread nD τ).loc main_arg4)) (ix2 ⟨t.val * 4096 + (y 0).val, by have h0 : (y 0).val < 4096 := (y 0).isLt; have := t.isLt; omega⟩ (y 1))) _ ?_ y (cover8 c _ _ _ _ _ _ _ _ _ _ _ _ _ _ _ _ _ _ _ _ _ _ _ _ _ _ _ _ _ _ _ _ _ _ _ y)
  rw [pieces8]
  exact blk8 (iblk m c 0 t) (iblk m c 1 t) (iblk m c 2 t) (iblk m c 4 t) (m ((c : Thread nD τ).loc main_arg0)) (m ((c : Thread nD τ).loc main_arg1)) (m ((c : Thread nD τ).loc main_arg2)) (m ((c : Thread nD τ).loc main_arg4)) t (xnrow m c t) (wrow m c t) (grow4 m c t)

theorem out9_at (c : Dev nD) (t : Fin 64) (y : S512x1024.Idx) : out9 m c t y = (fun y : S512x1024.Idx => val_main_v69 (F := Ideal) (m ((c : Thread nD τ).loc main_arg0)) (m ((c : Thread nD τ).loc main_arg1)) (m ((c : Thread nD τ).loc main_arg2)) (m ((c : Thread nD τ).loc main_arg4)) (ix2 (row t (y 0)) (y 1))) y := by
  unfold out9
  refine View.canon_apply_of_pieces (fun y : S512x1024.Idx => val_main_v69 (F := Ideal) (m ((c : Thread nD τ).loc main_arg0)) (m ((c : Thread nD τ).loc main_arg1)) (m ((c : Thread nD τ).loc main_arg2)) (m ((c : Thread nD τ).loc main_arg4)) (ix2 (row t (y 0)) (y 1))) _ ?_ y (cover9 c _ _ _ _ _ _ _ _ _ _ _ _ _ _ _ _ _ _ _ _ _ _ _ _ _ _ _ _ _ _ _ _ _ _ _ y)
  rw [pieces9]
  exact blk9 (iblk m c 0 t) (iblk m c 1 t) (iblk m c 2 t) (iblk m c 4 t) (m ((c : Thread nD τ).loc main_arg0)) (m ((c : Thread nD τ).loc main_arg1)) (m ((c : Thread nD τ).loc main_arg2)) (m ((c : Thread nD τ).loc main_arg4)) t (xnrow m c t) (wrow m c t) (grow4 m c t)

theorem out10_at (c : Dev nD) (t : Fin 64) (y : S1x2x1024.Idx) : out10 m c t y = (fun y : S1x2x1024.Idx => val_main_v70 (F := Ideal) (m ((c : Thread nD τ).loc main_arg0)) (m ((c : Thread nD τ).loc main_arg1)) (m ((c : Thread nD τ).loc main_arg2)) (m ((c : Thread nD τ).loc main_arg4)) (ix3 t (y 1) (y 2))) y := by
  unfold out10
  refine View.canon_apply_of_pieces (fun y : S1x2x1024.Idx => val_main_v70 (F := Ideal) (m ((c : Thread nD τ).loc main_arg0)) (m ((c : Thread nD τ).loc main_arg1)) (m ((c : Thread nD τ).loc main_arg2)) (m ((c : Thread nD τ).loc main_arg4)) (ix3 t (y 1) (y 2))) _ ?_ y (cover10 c _ _ _ _ _ _ _ _ _ _ _ _ _ _ _ _ _ _ _ _ _ _ _ _ _ _ _ _ _ _ _ _ _ _ _ y)
  rw [pieces10]
  exact blk10 (iblk m c 0 t) (iblk m c 1 t) (iblk m c 2 t) (iblk m c 4 t) (m ((c : Thread nD τ).loc main_arg0)) (m ((c : Thread nD τ).loc main_arg1)) (m ((c : Thread nD τ).loc main_arg2)) (m ((c : Thread nD τ).loc main_arg4)) t (xnrow m c t) (wrow m c t) (grow4 m c t)

theorem out11_at (c : Dev nD) (t : Fin 64) (y : S4096x128.Idx) : out11 m c t y = (fun y : S4096x128.Idx => val_main_v71 (F := Ideal) (m ((c : Thread nD τ).loc main_arg0)) (m ((c : Thread nD τ).loc main_arg1)) (m ((c : Thread nD τ).loc main_arg2)) (ix2 ⟨t.val * 4096 + (y 0).val, by have h0 : (y 0).val < 4096 := (y 0).isLt; have := t.isLt; omega⟩ (y 1))) y := by
  unfold out11
  refine View.canon_apply_of_pieces (fun y : S4096x128.Idx => val_main_v71 (F := Ideal) (m ((c : Thread nD τ).loc main_arg0)) (m ((c : Thread nD τ).loc main_arg1)) (m ((c : Thread nD τ).loc main_arg2)) (ix2 ⟨t.val * 4096 + (y 0).val, by have h0 : (y 0).val < 4096 := (y 0).isLt; have := t.isLt; omega⟩ (y 1))) _ ?_ y (cover11 c _ _ _ _ _ _ _ _ _ _ _ _ _ _ _ _ _ _ _ _ _ _ _ _ _ _ _ _ _ _ _ _ _ _ _ y)
  rw [pieces11]
  exact blk11 (iblk m c 0 t) (iblk m c 1 t) (iblk m c 2 t) (m ((c : Thread nD τ).loc main_arg0)) (m ((c : Thread nD τ).loc main_arg1)) (m ((c : Thread nD τ).loc main_arg2)) t (xnrow m c t) (wrow m c t)

theorem out12_at (c : Dev nD) (t : Fin 64) (y : S512x1024.Idx) : out12 m c t y = (fun y : S512x1024.Idx => val_main_v72 (F := Ideal) (m ((c : Thread nD τ).loc main_arg0)) (m ((c : Thread nD τ).loc main_arg1)) (m ((c : Thread nD τ).loc main_arg2)) (ix2 (row t (y 0)) (y 1))) y := by
  unfold out12
  refine View.canon_apply_of_pieces (fun y : S512x1024.Idx => val_main_v72 (F := Ideal) (m ((c : Thread nD τ).loc main_arg0)) (m ((c : Thread nD τ).loc main_arg1)) (m ((c : Thread nD τ).loc main_arg2)) (ix2 (row t (y 0)) (y 1))) _ ?_ y (cover12 c _ _ _ _ _ _ _ _ _ _ _ _ _ _ _ _ _ _ _ _ _ _ _ _ _ _ _ _ _ _ _ _ _ _ _ y)
  rw [pieces12]
  exact blk12 (iblk m c 0 t) (iblk m c 1 t) (iblk m c 2 t) (m ((c : Thread nD τ).loc main_arg0)) (m ((c : Thread nD τ).loc main_arg1)) (m ((c : Thread nD τ).loc main_arg2)) t (xnrow m c t) (wrow m c t)

theorem out13_at (c : Dev nD) (t : Fin 64) (y : S512x512.Idx) : out13 m c t y = (fun y : S512x512.Idx => val_main_v73 (F := Ideal) (m ((c : Thread nD τ).loc main_arg0)) (m ((c : Thread nD τ).loc main_arg1)) (m ((c : Thread nD τ).loc main_arg2)) (m ((c : Thread nD τ).loc main_arg5)) (ix2 (row t (y 0)) (y 1))) y := by
  unfold out13
  refine View.canon_apply_of_pieces (fun y : S512x512.Idx => val_main_v73 (F := Ideal) (m ((c : Thread nD τ).loc main_arg0)) (m ((c : Thread nD τ).loc main_arg1)) (m ((c : Thread nD τ).loc main_arg2)) (m ((c : Thread nD τ).loc main_arg5)) (ix2 (row t (y 0)) (y 1))) _ ?_ y (cover13 c _ _ _ _ _ _ _ _ _ _ _ _ _ _ _ _ _ _ _ _ _ _ _ _ _ _ _ _ _ _ _ _ _ _ _ y)
  rw [pieces13]
  exact blk13 (iblk m c 0 t) (iblk m c 1 t) (iblk m c 2 t) (iblk m c 5 t) (m ((c : Thread nD τ).loc main_arg0)) (m ((c : Thread nD τ).loc main_arg1)) (m ((c : Thread nD τ).loc main_arg2)) (m ((c : Thread nD τ).loc main_arg5)) t (xnrow m c t) (wrow m c t) (grow5 m c t)

/-- Result 1 of the kernel. -/
theorem final6 (c : Dev nD) : (dats m 0 c).arrAt 6 (cfgs 0).N = val_main_v15 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  refine (out6_at m c t y).trans ?_
  have ht : t.val < 64 := t.isLt
  obtain ⟨r, j, rfl⟩ : ∃ (r : Fin 512) (j : Fin 512), y = ix2 r j := ⟨y 0, y 1, by funext k; fin_cases k <;> rfl⟩
  have hr := r.isLt
  refine congrArg (val_main_v15 (F := Ideal) (m ((c : Thread nD τ).loc main_arg0)) (m ((c : Thread nD τ).loc main_arg1)) (m ((c : Thread nD τ).loc main_arg2))) ?_
  blk_ext [idx t]
  rfl

/-- Result 2 of the kernel. -/
theorem final7 (c : Dev nD) : (dats m 0 c).arrAt 7 (cfgs 0).N = val_main_v66 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  refine (out7_at m c t y).trans ?_
  have ht : t.val < 64 := t.isLt
  obtain ⟨r, j, rfl⟩ : ∃ (r : Fin 512) (j : Fin 1024), y = ix2 r j := ⟨y 0, y 1, by funext k; fin_cases k <;> rfl⟩
  have hr := r.isLt
  refine congrArg (val_main_v66 (F := Ideal) (m ((c : Thread nD τ).loc main_arg0)) (m ((c : Thread nD τ).loc main_arg1)) (m ((c : Thread nD τ).loc main_arg2)) (m ((c : Thread nD τ).loc main_arg3))) ?_
  blk_ext [idx t]
  rfl

/-- Result 3 of the kernel. -/
theorem final8 (c : Dev nD) : (dats m 0 c).arrAt 8 (cfgs 0).N = val_main_v67 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t _ y => ?_
  blk_simp
  rw [after0_8]
  refine (out8_at m c t y).trans ?_
  have ht : t.val < 64 := t.isLt
  obtain ⟨r, j, rfl⟩ : ∃ (r : Fin 4096) (j : Fin 128), y = ix2 r j := ⟨y 0, y 1, by funext k; fin_cases k <;> rfl⟩
  have hr := r.isLt
  refine congrArg (val_main_v67 (F := Ideal) (m ((c : Thread nD τ).loc main_arg0)) (m ((c : Thread nD τ).loc main_arg1)) (m ((c : Thread nD τ).loc main_arg2)) (m ((c : Thread nD τ).loc main_arg4))) ?_
  blk_ext [idx t]

/-- Result 4 of the kernel. -/
theorem final9 (c : Dev nD) : (dats m 0 c).arrAt 9 (cfgs 0).N = val_main_v69 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t _ y => ?_
  blk_simp
  rw [after0_9]
  refine (out9_at m c t y).trans ?_
  have ht : t.val < 64 := t.isLt
  obtain ⟨r, j, rfl⟩ : ∃ (r : Fin 512) (j : Fin 1024), y = ix2 r j := ⟨y 0, y 1, by funext k; fin_cases k <;> rfl⟩
  have hr := r.isLt
  refine congrArg (val_main_v69 (F := Ideal) (m ((c : Thread nD τ).loc main_arg0)) (m ((c : Thread nD τ).loc main_arg1)) (m ((c : Thread nD τ).loc main_arg2)) (m ((c : Thread nD τ).loc main_arg4))) ?_
  blk_ext [idx t]
  rfl

/-- Result 5 of the kernel. -/
theorem final10 (c : Dev nD) : (dats m 0 c).arrAt 10 (cfgs 0).N = val_main_v70 (F := Ideal) (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t _ y => ?_
  blk_simp
  rw [after0_10]
  refine (out10_at m c t y).trans ?_
  have ht : t.val < 64 := t.isLt
  obtain ⟨b, j, rfl⟩ : ∃ (b : Fin 2) (j : Fin 1024), y = ix3 0 b j := ⟨y 1, y 2, by
    have h0 : (y 0).val < 1 := (y 0).isLt
    funext k; fin_cases k <;> first | rfl | (apply Fin.ext; simp [ix3])⟩
  refine congrArg (val_main_v70 (F := Ideal) (m ((c : Thread nD τ).loc main_arg0)) (m ((c : Thread nD τ).loc main_arg1)) (m ((c : Thread nD τ).loc main_arg2)) (m ((c : Thread nD τ).loc main_arg4))) ?_
  blk_ext [idx t]

/-- Result 6 of the kernel. -/
theorem final11 (c : Dev nD) : (dats m 0 c).arrAt 11 (cfgs 0).N = val_main_v71 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  blk_simp
  rw [after0_11]
  refine (out11_at m c t y).trans ?_
  have ht : t.val < 64 := t.isLt
  obtain ⟨r, j, rfl⟩ : ∃ (r : Fin 4096) (j : Fin 128), y = ix2 r j := ⟨y 0, y 1, by funext k; fin_cases k <;> rfl⟩
  have hr := r.isLt
  refine congrArg (val_main_v71 (F := Ideal) (m ((c : Thread nD τ).loc main_arg0)) (m ((c : Thread nD τ).loc main_arg1)) (m ((c : Thread nD τ).loc main_arg2))) ?_
  blk_ext [idx t]

/-- Result 7 of the kernel. -/
theorem final12 (c : Dev nD) : (dats m 0 c).arrAt 12 (cfgs 0).N = val_main_v72 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  blk_simp
  rw [after0_12]
  refine (out12_at m c t y).trans ?_
  have ht : t.val < 64 := t.isLt
  obtain ⟨r, j, rfl⟩ : ∃ (r : Fin 512) (j : Fin 1024), y = ix2 r j := ⟨y 0, y 1, by funext k; fin_cases k <;> rfl⟩
  have hr := r.isLt
  refine congrArg (val_main_v72 (F := Ideal) (m ((c : Thread nD τ).loc main_arg0)) (m ((c : Thread nD τ).loc main_arg1)) (m ((c : Thread nD τ).loc main_arg2))) ?_
  blk_ext [idx t]
  rfl

/-- Result 8 of the kernel. -/
theorem final13 (c : Dev nD) : (dats m 0 c).arrAt 13 (cfgs 0).N = val_main_v73 (F := Ideal) (m ((c : Thread nD τ).loc main_arg0)) (m ((c : Thread nD τ).loc main_arg1)) (m ((c : Thread nD τ).loc main_arg2)) (m ((c : Thread nD τ).loc main_arg5)) := by
  refine (dats m 0 c).arrAt_eq_of_covers 13 _ (by decide +kernel) fun t _ y => ?_
  blk_simp
  rw [after0_13]
  refine (out13_at m c t y).trans ?_
  have ht : t.val < 64 := t.isLt
  obtain ⟨r, j, rfl⟩ : ∃ (r : Fin 512) (j : Fin 512), y = ix2 r j := ⟨y 0, y 1, by funext k; fin_cases k <;> rfl⟩
  have hr := r.isLt
  refine congrArg (val_main_v73 (F := Ideal) (m ((c : Thread nD τ).loc main_arg0)) (m ((c : Thread nD τ).loc main_arg1)) (m ((c : Thread nD τ).loc main_arg2)) (m ((c : Thread nD τ).loc main_arg5))) ?_
  blk_ext [idx t]
  rfl

theorem frame_kernel : Cert.quiescent_Kernel3 := fun m ρ _ => Cert.Kernel3.Body.frame m ρ
theorem frame_ideal : Cert.quiescent_Kernel3Ideal := fun m ρ _ => Cert.Kernel3Ideal.Body.frame m ρ
theorem frame_reference : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run (F := Ideal) m ρ)

theorem equal : Cert.algebraic_Kernel3Ideal_Reference3Ideal := by
  intro m g m' g' _ hagree
  refine ⟨fun c => (dats m 0 c).arrAt 6 cfg0.N, fun c => (dats m 0 c).arrAt 7 cfg0.N, fun c => (dats m 0 c).arrAt 8 cfg0.N, fun c => (dats m 0 c).arrAt 9 cfg0.N, fun c => (dats m 0 c).arrAt 10 cfg0.N, fun c => (dats m 0 c).arrAt 11 cfg0.N, fun c => (dats m 0 c).arrAt 12 cfg0.N, fun c => (dats m 0 c).arrAt 13 cfg0.N, run_blocks m g, ?_⟩
  refine (θ_run Cert.Reference3Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2⟩)
    (Cert.Reference3Ideal.Value.run (F := Ideal) m' g')
  · obtain ⟨e0, e1, e2, e3, e4, e5⟩ := hagree c
    refine (val_main_v15_eq _ _ _).trans ?_
    rw [e0, e1, e2]
    exact (final6 m c).symm
  · obtain ⟨e0, e1, e2, e3, e4, e5⟩ := hagree c
    refine (val_main_v66_eq _ _ _ _).trans ?_
    rw [e0, e1, e2, e3]
    exact (final7 m c).symm
  · obtain ⟨e0, e1, e2, e3, e4, e5⟩ := hagree c
    refine (val_main_v67_eq _ _ _ _).trans ?_
    rw [e0, e1, e2, e4]
    exact (final8 m c).symm
  · obtain ⟨e0, e1, e2, e3, e4, e5⟩ := hagree c
    refine (val_main_v69_eq m' c).trans ?_
    rw [e0, e1, e2, e4]
    exact (final9 m c).symm
  · obtain ⟨e0, e1, e2, e3, e4, e5⟩ := hagree c
    refine (val_main_v70_eq m' c).trans ?_
    rw [e0, e1, e2, e4]
    exact (final10 m c).symm
  · obtain ⟨e0, e1, e2, e3, e4, e5⟩ := hagree c
    refine (val_main_v71_eq _ _ _).trans ?_
    rw [e0, e1, e2]
    exact (final11 m c).symm
  · obtain ⟨e0, e1, e2, e3, e4, e5⟩ := hagree c
    refine (val_main_v72_eq _ _ _).trans ?_
    rw [e0, e1, e2]
    exact (final12 m c).symm
  · obtain ⟨e0, e1, e2, e3, e4, e5⟩ := hagree c
    refine (val_main_v73_eq _ _ _ _).trans ?_
    rw [e0, e1, e2, e5]
    exact (final13 m c).symm

end Cert.InProj

end
-- ==== Proof.lean ====
/- The proof of the claim: the frames, the mask constant, and the equality of the kernel's and the reference's results. -/
module

public import proofs.«01_k».proof.Proof.Claims
public import proofs.«01_k».proof.Proof.Gen.Kernel
public import proofs.«01_k».proof.Proof.Gen.KernelIdeal
public import proofs.«01_k».proof.Proof.Gen.ReferenceIdeal
public import proofs.«01_k».proof.Proof.Gen.Pre_finite
public import proofs.«01_k».proof.Proof.DownValue
public import proofs.«01_k».proof.Proof.OutValue
public import proofs.«01_k».proof.Proof.InValue

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite.Gen.facts,
    Cert.Moba.frame_kernel, Cert.Moba.frame_ideal, Cert.Moba.frame_ideal_pre, Cert.Moba.frame_reference, Cert.Moba.frame_reference_pre,
    Cert.Down.frame_kernel, Cert.Down.frame_ideal, Cert.Down.frame_reference,
    Cert.InProj.frame_kernel, Cert.InProj.frame_ideal, Cert.InProj.frame_reference,
    Cert.OutProj.frame_kernel, Cert.OutProj.frame_ideal, Cert.OutProj.frame_reference,
    Cert.Moba.mask, Cert.Moba.equal, trivial, Cert.Down.equal, trivial, Cert.InProj.equal, trivial, Cert.OutProj.equal⟩

end Cert.Proof

end
